-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64 : Shape := ⟨1, ![64]⟩
abbrev S64x1x128x128 : Shape := ⟨4, ![64, 1, 128, 128]⟩
abbrev S64x1x16x128 : Shape := ⟨4, ![64, 1, 16, 128]⟩
abbrev S64x1x16 : Shape := ⟨3, ![64, 1, 16]⟩
abbrev S64x2048x16x128 : Shape := ⟨4, ![64, 2048, 16, 128]⟩
abbrev S64x2048x16x4 : Shape := ⟨4, ![64, 2048, 16, 4]⟩
abbrev S64x2048x16 : Shape := ⟨3, ![64, 2048, 16]⟩
abbrev S_ : Shape := ⟨0, ![]⟩

class Facts : Prop where
  bcast_S_S64x1x128x128 : S_.BroadcastsInDim S64x1x128x128 (![] : Fin 0 → Fin S64x1x128x128.rank)
  reducesTo_S64x1x128x128_S_d0_1_2_3 : S64x1x128x128.ReducesTo [0, 1, 2, 3] S_
  h_S_ : 0 < S_.numel
  bcast_S_S64x1x16x128 : S_.BroadcastsInDim S64x1x16x128 (![] : Fin 0 → Fin S64x1x16x128.rank)
  reducesTo_S64x1x16x128_S_d0_1_2_3 : S64x1x16x128.ReducesTo [0, 1, 2, 3] S_
  bcast_S_S64x2048x16x4 : S_.BroadcastsInDim S64x2048x16x4 (![] : Fin 0 → Fin S64x2048x16x4.rank)
  reducesTo_S64x2048x16x4_S_d0_1_2_3 : S64x2048x16x4.ReducesTo [0, 1, 2, 3] S_

variable [Facts]

def fn {F : FTy → Type} [FloatOps F] (main_arg0 : IVec S64 32) (main_arg1 : FVec F S64x1x128x128 .bf16) (main_arg2 : FVec F S64x1x16x128 .bf16) (main_arg3 : IVec S64x1x16x128 8) (main_arg4 : FVec F S64x1x16 .f32) (main_arg5 : IVec S64x2048x16x128 8) (main_arg6 : FVec F S64x2048x16x4 .f32) (main_arg7 : IVec S64x2048x16x128 8) (main_arg8 : FVec F S64x2048x16 .f32) : IVec S_ 1 :=
  let main_v0 : FVec F S64x1x128x128 .bf16 := Host.absf main_arg1
  let main_cst : FVec F S_ .bf16 := constant S_ .bf16 0x7F80#16
  let main_v1 : FVec F S64x1x128x128 .bf16 := broadcastInDim S64x1x128x128 ![] bcast_S_S64x1x128x128 main_cst
  let main_v2 : IVec S64x1x128x128 1 := cmpf .olt main_v0 main_v1
  let main_c : IVec S_ 1 := constantI S_ 1 1#1
  let main_v3 : IVec S_ 1 := (fun x v => Host.reduce IntOp.andi x v reducesTo_S64x1x128x128_S_d0_1_2_3 h_S_) main_v2 main_c
  let main_v4 : FVec F S64x1x16x128 .bf16 := Host.absf main_arg2
  let main_cst_0 : FVec F S_ .bf16 := constant S_ .bf16 0x7F80#16
  let main_v5 : FVec F S64x1x16x128 .bf16 := broadcastInDim S64x1x16x128 ![] bcast_S_S64x1x16x128 main_cst_0
  let main_v6 : IVec S64x1x16x128 1 := cmpf .olt main_v4 main_v5
  let main_c_1 : IVec S_ 1 := constantI S_ 1 1#1
  let main_v7 : IVec S_ 1 := (fun x v => Host.reduce IntOp.andi x v reducesTo_S64x1x16x128_S_d0_1_2_3 h_S_) main_v6 main_c_1
  let main_v8 : IVec S_ 1 := andi main_v3 main_v7
  let main_v9 : FVec F S64x2048x16x4 .f32 := Host.absf main_arg6
  let main_cst_2 : FVec F S_ .f32 := constant S_ .f32 0x7F800000#32
  let main_v10 : FVec F S64x2048x16x4 .f32 := broadcastInDim S64x2048x16x4 ![] bcast_S_S64x2048x16x4 main_cst_2
  let main_v11 : IVec S64x2048x16x4 1 := cmpf .olt main_v9 main_v10
  let main_c_3 : IVec S_ 1 := constantI S_ 1 1#1
  let main_v12 : IVec S_ 1 := (fun x v => Host.reduce IntOp.andi x v reducesTo_S64x2048x16x4_S_d0_1_2_3 h_S_) main_v11 main_c_3
  let main_v13 : IVec S_ 1 := andi main_v8 main_v12
  main_v13
-- ==== Kernel.lean ====
abbrev S64 : Shape := ⟨1, ![64]⟩
abbrev S64x1x128x128 : Shape := ⟨4, ![64, 1, 128, 128]⟩
abbrev S64x1x16x128 : Shape := ⟨4, ![64, 1, 16, 128]⟩
abbrev S64x1x16 : Shape := ⟨3, ![64, 1, 16]⟩
abbrev S64x2048x16x128 : Shape := ⟨4, ![64, 2048, 16, 128]⟩
abbrev S64x2048x16x4 : Shape := ⟨4, ![64, 2048, 16, 4]⟩
abbrev S64x2048x16 : Shape := ⟨3, ![64, 2048, 16]⟩
abbrev S64x16x4x2048 : Shape := ⟨4, ![64, 16, 4, 2048]⟩
abbrev S64x16x4x16x128 : Shape := ⟨5, ![64, 16, 4, 16, 128]⟩
abbrev S64x16x16x4x128 : Shape := ⟨5, ![64, 16, 16, 4, 128]⟩
abbrev S64x1024x128 : Shape := ⟨3, ![64, 1024, 128]⟩
abbrev S64x16x2048 : Shape := ⟨3, ![64, 16, 2048]⟩
abbrev S64x128x128 : Shape := ⟨3, ![64, 128, 128]⟩
abbrev S64x16x128 : Shape := ⟨3, ![64, 16, 128]⟩
abbrev S64x16x1 : Shape := ⟨3, ![64, 16, 1]⟩
abbrev S64x32768x128 : Shape := ⟨3, ![64, 32768, 128]⟩
abbrev S1x128x128 : Shape := ⟨3, ![1, 128, 128]⟩
abbrev S1x16x128 : Shape := ⟨3, ![1, 16, 128]⟩
abbrev S1x16x1 : Shape := ⟨3, ![1, 16, 1]⟩
abbrev S1x1024x128 : Shape := ⟨3, ![1, 1024, 128]⟩
abbrev S1x16x2048 : Shape := ⟨3, ![1, 16, 2048]⟩
abbrev S2x32768x128 : Shape := ⟨3, ![2, 32768, 128]⟩
abbrev S2x2 : Shape := ⟨2, ![2, 2]⟩
abbrev S128x8192 : Shape := ⟨2, ![128, 8192]⟩
abbrev S4x8192 : Shape := ⟨2, ![4, 8192]⟩
abbrev S2x4x256x128 : Shape := ⟨4, ![2, 4, 256, 128]⟩
abbrev S16x8192 : Shape := ⟨2, ![16, 8192]⟩
abbrev S128x256 : Shape := ⟨2, ![128, 256]⟩
abbrev S128x128 : Shape := ⟨2, ![128, 128]⟩
abbrev S1 : Shape := ⟨1, ![1]⟩
abbrev S1x1 : Shape := ⟨2, ![1, 1]⟩
abbrev S_ : Shape := ⟨0, ![]⟩
abbrev S1x32768x128 : Shape := ⟨3, ![1, 32768, 128]⟩
abbrev S32768x128 : Shape := ⟨2, ![32768, 128]⟩
abbrev S8x128 : Shape := ⟨2, ![8, 128]⟩
abbrev S16x128 : Shape := ⟨2, ![16, 128]⟩
abbrev S1x1x128x128 : Shape := ⟨4, ![1, 1, 128, 128]⟩
abbrev S8x128x1 : Shape := ⟨3, ![8, 128, 1]⟩
abbrev S32x128 : Shape := ⟨2, ![32, 128]⟩
abbrev S32x256 : Shape := ⟨2, ![32, 256]⟩
abbrev S64x256 : Shape := ⟨2, ![64, 256]⟩
abbrev S1024x128 : Shape := ⟨2, ![1024, 128]⟩
abbrev S256x128 : Shape := ⟨2, ![256, 128]⟩
abbrev S64x4x128 : Shape := ⟨3, ![64, 4, 128]⟩
abbrev S64x1x128 : Shape := ⟨3, ![64, 1, 128]⟩
abbrev S64x128 : Shape := ⟨2, ![64, 128]⟩
abbrev S128x1x128 : Shape := ⟨3, ![128, 1, 128]⟩
abbrev S128x2x128 : Shape := ⟨3, ![128, 2, 128]⟩
abbrev S256x256 : Shape := ⟨2, ![256, 256]⟩
abbrev S4x256 : Shape := ⟨2, ![4, 256]⟩
abbrev S4x1x256 : Shape := ⟨3, ![4, 1, 256]⟩
abbrev S4x8x256 : Shape := ⟨3, ![4, 8, 256]⟩
abbrev S16x1x128 : Shape := ⟨3, ![16, 1, 128]⟩
abbrev S16x8x128 : Shape := ⟨3, ![16, 8, 128]⟩
abbrev S128 : Shape := ⟨1, ![128]⟩
abbrev S128x1 : Shape := ⟨2, ![128, 1]⟩
abbrev S128x1024 : Shape := ⟨2, ![128, 1024]⟩
abbrev S16x1024 : Shape := ⟨2, ![16, 1024]⟩
abbrev S16x1x1024 : Shape := ⟨3, ![16, 1, 1024]⟩
abbrev S16x8x1024 : Shape := ⟨3, ![16, 8, 1024]⟩
abbrev S4096x128 : Shape := ⟨2, ![4096, 128]⟩
abbrev S256x4x128 : Shape := ⟨3, ![256, 4, 128]⟩
abbrev S256x1x128 : Shape := ⟨3, ![256, 1, 128]⟩
abbrev S64x1024 : Shape := ⟨2, ![64, 1024]⟩
abbrev S1024x256 : Shape := ⟨2, ![1024, 256]⟩
abbrev S16x1 : Shape := ⟨2, ![16, 1]⟩
abbrev S16x1x1 : Shape := ⟨3, ![16, 1, 1]⟩
abbrev S16x8x1 : Shape := ⟨3, ![16, 8, 1]⟩

abbrev nBuf : Space → Nat
  | .hbm => 21
  | .vmem => 22
  | .smem => 1
  | _ => 0

abbrev bufTy : (tb : Table) → Fin (tcTables nBuf tb) → BufTy
  | .hbm, ⟨0, _⟩ => ⟨S64, .i32⟩
  | .hbm, ⟨1, _⟩ => ⟨S64x1x128x128, .bf16⟩
  | .hbm, ⟨2, _⟩ => ⟨S64x1x16x128, .bf16⟩
  | .hbm, ⟨3, _⟩ => ⟨S64x1x16x128, .i8⟩
  | .hbm, ⟨4, _⟩ => ⟨S64x1x16, .f32⟩
  | .hbm, ⟨5, _⟩ => ⟨S64x2048x16x128, .i8⟩
  | .hbm, ⟨6, _⟩ => ⟨S64x2048x16x4, .f32⟩
  | .hbm, ⟨7, _⟩ => ⟨S64x2048x16x128, .i8⟩
  | .hbm, ⟨8, _⟩ => ⟨S64x2048x16, .f32⟩
  | .hbm, ⟨9, _⟩ => ⟨S64x16x4x2048, .f32⟩
  | .hbm, ⟨10, _⟩ => ⟨S64x16x4x16x128, .f32⟩
  | .hbm, ⟨11, _⟩ => ⟨S64x16x16x4x128, .f32⟩
  | .hbm, ⟨12, _⟩ => ⟨S64x1024x128, .f32⟩
  | .hbm, ⟨13, _⟩ => ⟨S64x16x2048, .f32⟩
  | .hbm, ⟨14, _⟩ => ⟨S64x128x128, .bf16⟩
  | .hbm, ⟨15, _⟩ => ⟨S64x16x128, .bf16⟩
  | .hbm, ⟨16, _⟩ => ⟨S64x16x128, .i8⟩
  | .hbm, ⟨17, _⟩ => ⟨S64x16x1, .f32⟩
  | .hbm, ⟨18, _⟩ => ⟨S64x32768x128, .i8⟩
  | .hbm, ⟨19, _⟩ => ⟨S64x32768x128, .i8⟩
  | .hbm, ⟨20, _⟩ => ⟨S64x128x128, .bf16⟩
  | .local _ .vmem, ⟨0, _⟩ => ⟨S1x128x128, .bf16⟩
  | .local _ .vmem, ⟨1, _⟩ => ⟨S1x128x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .i8⟩
  | .local _ .vmem, ⟨5, _⟩ => ⟨S1x16x128, .i8⟩
  | .local _ .vmem, ⟨6, _⟩ => ⟨S1x16x1, .f32⟩
  | .local _ .vmem, ⟨7, _⟩ => ⟨S1x16x1, .f32⟩
  | .local _ .vmem, ⟨8, _⟩ => ⟨S1x1024x128, .f32⟩
  | .local _ .vmem, ⟨9, _⟩ => ⟨S1x1024x128, .f32⟩
  | .local _ .vmem, ⟨10, _⟩ => ⟨S1x16x2048, .f32⟩
  | .local _ .vmem, ⟨11, _⟩ => ⟨S1x16x2048, .f32⟩
  | .local _ .vmem, ⟨12, _⟩ => ⟨S1x128x128, .bf16⟩
  | .local _ .vmem, ⟨13, _⟩ => ⟨S1x128x128, .bf16⟩
  | .local _ .vmem, ⟨14, _⟩ => ⟨S2x32768x128, .i8⟩
  | .local _ .vmem, ⟨15, _⟩ => ⟨S2x32768x128, .i8⟩
  | .local _ .vmem, ⟨16, _⟩ => ⟨S128x8192, .f32⟩
  | .local _ .vmem, ⟨17, _⟩ => ⟨S4x8192, .f32⟩
  | .local _ .vmem, ⟨18, _⟩ => ⟨S2x4x256x128, .f32⟩
  | .local _ .vmem, ⟨19, _⟩ => ⟨S16x8192, .f32⟩
  | .local _ .vmem, ⟨20, _⟩ => ⟨S128x256, .f32⟩
  | .local _ .vmem, ⟨21, _⟩ => ⟨S128x128, .f32⟩
  | .local _ .smem, ⟨0, _⟩ => ⟨S64, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (i : grid0.Coords) : Fin 2 → Nat :=
  let arg0 : BitVec 32 := BitVec.ofNat 32 (i 0).val
  let c2_i32_1158 : BitVec 32 := 2#32
  let v3509 : BitVec 32 := Scalar.remsi arg0 c2_i32_1158
  let c0_i32_1159 : BitVec 32 := 0#32
  ![v3509.toNat, 0]
def k0_off3 (i : grid0.Coords) : Fin 3 → Nat :=
  let arg0 : BitVec 32 := BitVec.ofNat 32 (i 0).val
  let c2_i32_1158 : BitVec 32 := 2#32
  let v3509 : BitVec 32 := Scalar.remsi arg0 c2_i32_1158
  let c0_i32_1160 : BitVec 32 := 0#32
  let c0_i32_1161 : BitVec 32 := 0#32
  ![v3509.toNat, 0, 0]
def k0_off4 (i : grid0.Coords) : Fin 3 → Nat :=
  let arg0 : BitVec 32 := BitVec.ofNat 32 (i 0).val
  let c0_i32_1162 : BitVec 32 := 0#32
  let c0_i32_1163 : BitVec 32 := 0#32
  ![arg0.toNat, 0, 0]
def k0_off5 (i : grid0.Coords) : Fin 2 → Nat :=
  let arg0 : BitVec 32 := BitVec.ofNat 32 (i 0).val
  let c2_i32_1158 : BitVec 32 := 2#32
  let v3509 : BitVec 32 := Scalar.remsi arg0 c2_i32_1158
  let c1_i32_1164 : BitVec 32 := 1#32
  ![v3509.toNat, 1]
def k0_cond2 (i : grid0.Coords) : BitVec 1 :=
  let arg0 : BitVec 32 := BitVec.ofNat 32 (i 0).val
  let c1_i32 : BitVec 32 := 1#32
  let v5 : BitVec 32 := Scalar.addi arg0 c1_i32
  let c64_i32 : BitVec 32 := 64#32
  let v6 : BitVec 1 := Scalar.cmpi .slt v5 c64_i32
  let v7 : BitVec 32 := Scalar.extui v6
  let c0_i32_1 : BitVec 32 := 0#32
  let v8 : BitVec 1 := Scalar.cmpi .ne v7 c0_i32_1
  v8

def k0_off6 (i : grid0.Coords) : Fin 2 → Nat :=
  let arg0 : BitVec 32 := BitVec.ofNat 32 (i 0).val
  let c1_i32_1158 : BitVec 32 := 1#32
  let v3509 : BitVec 32 := Scalar.addi arg0 c1_i32_1158
  let c2_i32_1159 : BitVec 32 := 2#32
  let v3510 : BitVec 32 := Scalar.remsi v3509 c2_i32_1159
  let c0_i32_1160 : BitVec 32 := 0#32
  ![v3510.toNat, 0]
def k0_off7 (i : grid0.Coords) : Fin 3 → Nat :=
  let arg0 : BitVec 32 := BitVec.ofNat 32 (i 0).val
  let c1_i32_1158 : BitVec 32 := 1#32
  let v3509 : BitVec 32 := Scalar.addi arg0 c1_i32_1158
  let c2_i32_1159 : BitVec 32 := 2#32
  let v3510 : BitVec 32 := Scalar.remsi v3509 c2_i32_1159
  let c0_i32_1161 : BitVec 32 := 0#32
  let c0_i32_1162 : BitVec 32 := 0#32
  ![v3510.toNat, 0, 0]
def k0_off8 (i : grid0.Coords) : Fin 3 → Nat :=
  let arg0 : BitVec 32 := BitVec.ofNat 32 (i 0).val
  let c1_i32_1158 : BitVec 32 := 1#32
  let v3509 : BitVec 32 := Scalar.addi arg0 c1_i32_1158
  let c0_i32_1163 : BitVec 32 := 0#32
  let c0_i32_1164 : BitVec 32 := 0#32
  ![v3509.toNat, 0, 0]
def k0_off9 (i : grid0.Coords) : Fin 2 → Nat :=
  let arg0 : BitVec 32 := BitVec.ofNat 32 (i 0).val
  let c1_i32_1158 : BitVec 32 := 1#32
  let v3509 : BitVec 32 := Scalar.addi arg0 c1_i32_1158
  let c2_i32_1159 : BitVec 32 := 2#32
  let v3510 : BitVec 32 := Scalar.remsi v3509 c2_i32_1159
  let c1_i32_1165 : BitVec 32 := 1#32
  ![v3510.toNat, 1]
def k0_off10 (i : grid0.Coords) : Fin 2 → Nat :=
  let arg0 : BitVec 32 := BitVec.ofNat 32 (i 0).val
  let c2_i32_1093 : BitVec 32 := 2#32
  let v3388 : BitVec 32 := Scalar.remsi arg0 c2_i32_1093
  let c0_i32_1094 : BitVec 32 := 0#32
  ![v3388.toNat, 0]
def k0_off11 (i : grid0.Coords) : Fin 3 → Nat :=
  let arg0 : BitVec 32 := BitVec.ofNat 32 (i 0).val
  let c2_i32_1093 : BitVec 32 := 2#32
  let v3388 : BitVec 32 := Scalar.remsi arg0 c2_i32_1093
  let c0_i32_1095 : BitVec 32 := 0#32
  let c0_i32_1096 : BitVec 32 := 0#32
  ![v3388.toNat, 0, 0]
def k0_off12 (i : grid0.Coords) : Fin 3 → Nat :=
  let arg0 : BitVec 32 := BitVec.ofNat 32 (i 0).val
  let c0_i32_1097 : BitVec 32 := 0#32
  let c0_i32_1098 : BitVec 32 := 0#32
  ![arg0.toNat, 0, 0]
@[reducible] def k0_t1_loop : Scf.Loop 32 :=
  let c0_i32_1113 : BitVec 32 := 0#32
  let c32_i32_1114 : BitVec 32 := 32#32
  let v3439 : BitVec 32 := Scalar.addi c0_i32_1113 c32_i32_1114
  let c1_i32_1115 : BitVec 32 := 1#32
  ⟨c0_i32_1113, v3439, c1_i32_1115⟩
def k0_mult1 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c4_i32_1159 : BitVec 32 := 4#32
  let v3510 : BitVec 32 := Scalar.muli v3509 c4_i32_1159
  v3510
def k0_mult2 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c128_i32_1174 : BitVec 32 := 128#32
  let v3547 : BitVec 32 := Scalar.remsi v3509 c128_i32_1174
  let c2_i32_1175 : BitVec 32 := 2#32
  let v3548 : BitVec 32 := Scalar.muli v3547 c2_i32_1175
  v3548
def k0_off13 (k0_t1 : Fin k0_t1_loop.trips) : Fin 4 → Nat :=
  let c0_1176 : Index := 0#32
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c0_i32_1160 : BitVec 32 := 0#32
  let v3513 : BitVec 1 := Scalar.cmpi .sgt v3509 c0_i32_1160
  let v3514 : BitVec 32 := Scalar.extui v3513
  let c0_i32_1161 : BitVec 32 := 0#32
  let v3515 : BitVec 1 := Scalar.cmpi .slt v3509 c0_i32_1161
  let v3516 : BitVec 32 := Scalar.extui v3515
  let v3517 : BitVec 32 := Scalar.subi v3514 v3516
  let c512_i32 : BitVec 32 := 512#32
  let c0_i32_1162 : BitVec 32 := 0#32
  let v3518 : BitVec 1 := Scalar.cmpi .sgt c512_i32 c0_i32_1162
  let v3519 : BitVec 32 := Scalar.extui v3518
  let c0_i32_1163 : BitVec 32 := 0#32
  let v3520 : BitVec 1 := Scalar.cmpi .slt c512_i32 c0_i32_1163
  let v3521 : BitVec 32 := Scalar.extui v3520
  let v3522 : BitVec 32 := Scalar.subi v3519 v3521
  let v3523 : BitVec 1 := Scalar.cmpi .ne v3517 v3522
  let v3524 : BitVec 32 := Scalar.remsi v3509 c512_i32
  let c0_i32_1164 : BitVec 32 := 0#32
  let v3525 : BitVec 1 := Scalar.cmpi .ne v3524 c0_i32_1164
  let v3526 : BitVec 1 := Scalar.andi v3523 v3525
  let v3512 : BitVec 32 := Scalar.divsi v3509 c512_i32
  let c1_i32_1165 : BitVec 32 := 1#32
  let v3527 : BitVec 32 := Scalar.subi v3512 c1_i32_1165
  let v3528 : BitVec 32 := Scalar.select v3526 v3527 v3512
  let v3550 : Index := Scalar.indexCast v3528
  let c128_i32_1174 : BitVec 32 := 128#32
  let v3547 : BitVec 32 := Scalar.remsi v3509 c128_i32_1174
  let c2_i32_1175 : BitVec 32 := 2#32
  let v3548 : BitVec 32 := Scalar.muli v3547 c2_i32_1175
  let v3549 : BitVec 32 := v3548
  let v3551 : Index := Scalar.indexCast v3549
  let c0_1177 : Index := 0#32
  ![0, v3550.toNat, v3551.toNat, 0]
def k0_mult3 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c128_i32_1178 : BitVec 32 := 128#32
  let v3554 : BitVec 32 := Scalar.remsi v3509 c128_i32_1178
  let c2_i32_1179 : BitVec 32 := 2#32
  let v3555 : BitVec 32 := Scalar.muli v3554 c2_i32_1179
  v3555
def k0_off14 (k0_t1 : Fin k0_t1_loop.trips) : Fin 4 → Nat :=
  let c1_1180 : Index := 1#32
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c0_i32_1160 : BitVec 32 := 0#32
  let v3513 : BitVec 1 := Scalar.cmpi .sgt v3509 c0_i32_1160
  let v3514 : BitVec 32 := Scalar.extui v3513
  let c0_i32_1161 : BitVec 32 := 0#32
  let v3515 : BitVec 1 := Scalar.cmpi .slt v3509 c0_i32_1161
  let v3516 : BitVec 32 := Scalar.extui v3515
  let v3517 : BitVec 32 := Scalar.subi v3514 v3516
  let c512_i32 : BitVec 32 := 512#32
  let c0_i32_1162 : BitVec 32 := 0#32
  let v3518 : BitVec 1 := Scalar.cmpi .sgt c512_i32 c0_i32_1162
  let v3519 : BitVec 32 := Scalar.extui v3518
  let c0_i32_1163 : BitVec 32 := 0#32
  let v3520 : BitVec 1 := Scalar.cmpi .slt c512_i32 c0_i32_1163
  let v3521 : BitVec 32 := Scalar.extui v3520
  let v3522 : BitVec 32 := Scalar.subi v3519 v3521
  let v3523 : BitVec 1 := Scalar.cmpi .ne v3517 v3522
  let v3524 : BitVec 32 := Scalar.remsi v3509 c512_i32
  let c0_i32_1164 : BitVec 32 := 0#32
  let v3525 : BitVec 1 := Scalar.cmpi .ne v3524 c0_i32_1164
  let v3526 : BitVec 1 := Scalar.andi v3523 v3525
  let v3512 : BitVec 32 := Scalar.divsi v3509 c512_i32
  let c1_i32_1165 : BitVec 32 := 1#32
  let v3527 : BitVec 32 := Scalar.subi v3512 c1_i32_1165
  let v3528 : BitVec 32 := Scalar.select v3526 v3527 v3512
  let v3557 : Index := Scalar.indexCast v3528
  let c128_i32_1178 : BitVec 32 := 128#32
  let v3554 : BitVec 32 := Scalar.remsi v3509 c128_i32_1178
  let c2_i32_1179 : BitVec 32 := 2#32
  let v3555 : BitVec 32 := Scalar.muli v3554 c2_i32_1179
  let v3556 : BitVec 32 := v3555
  let v3558 : Index := Scalar.indexCast v3556
  let c0_1181 : Index := 0#32
  ![1, v3557.toNat, v3558.toNat, 0]
def k0_mult4 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c16_i32_1184 : BitVec 32 := 16#32
  let v3565 : BitVec 32 := Scalar.muli v3509 c16_i32_1184
  v3565
def k0_off15 (i : grid0.Coords) : Fin 3 → Nat :=
  let arg0 : BitVec 32 := BitVec.ofNat 32 (i 0).val
  let c2_i32 : BitVec 32 := 2#32
  let v9 : BitVec 32 := Scalar.remsi arg0 c2_i32
  let c0_i32_1185 : BitVec 32 := 0#32
  let c0_i32_1186 : BitVec 32 := 0#32
  ![v9.toNat, 0, 0]
def k0_off16 (k0_t1 : Fin k0_t1_loop.trips) : Fin 2 → Nat :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c16_i32_1184 : BitVec 32 := 16#32
  let v3565 : BitVec 32 := Scalar.muli v3509 c16_i32_1184
  let v3566 : BitVec 32 := v3565
  let v3569 : Index := Scalar.indexCast v3566
  let c0_1187 : Index := 0#32
  ![v3569.toNat, 0]
def k0_mult5 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c16_i32_1254 : BitVec 32 := 16#32
  let v3877 : BitVec 32 := Scalar.muli v3509 c16_i32_1254
  v3877
def k0_mult6 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c16_i32_1324 : BitVec 32 := 16#32
  let v4189 : BitVec 32 := Scalar.muli v3509 c16_i32_1324
  v4189
def k0_mult7 (k0_t1 : Fin k0_t1_loop.trips) : BitVec 32 :=
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c16_i32_1394 : BitVec 32 := 16#32
  let v4501 : BitVec 32 := Scalar.muli v3509 c16_i32_1394
  v4501
def k0_off17 (k0_t1 : Fin k0_t1_loop.trips) : Fin 2 → Nat :=
  let c0_1464 : Index := 0#32
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c4_i32_1159 : BitVec 32 := 4#32
  let v3510 : BitVec 32 := Scalar.muli v3509 c4_i32_1159
  let v3511 : BitVec 32 := v3510
  let v4814 : Index := Scalar.indexCast v3511
  ![0, v4814.toNat]
def k0_off18 (k0_t1 : Fin k0_t1_loop.trips) : Fin 2 → Nat :=
  let c0_1465 : Index := 0#32
  let c0_i32_1113 : BitVec 32 := 0#32
  let c1_i32_1115 : BitVec 32 := 1#32
  let arg20 : BitVec 32 := Scf.iv c0_i32_1113 c1_i32_1115 k0_t1
  let c64_i32_1158 : BitVec 32 := 64#32
  let v3509 : BitVec 32 := Scalar.muli arg20 c64_i32_1158
  let c4_i32_1159 : BitVec 32 := 4#32
  let v3510 : BitVec 32 := Scalar.muli v3509 c4_i32_1159
  let v3511 : BitVec 32 := v3510
  let v4822 : Index := Scalar.indexCast v3511
  ![0, v4822.toNat]
def k0_off19 (i : grid0.Coords) : Fin 2 → Nat :=
  let arg0 : BitVec 32 := BitVec.ofNat 32 (i 0).val
  let c2_i32_1122 : BitVec 32 := 2#32
  let v3455 : BitVec 32 := Scalar.remsi arg0 c2_i32_1122
  let c1_i32_1123 : BitVec 32 := 1#32
  ![v3455.toNat, 1]
@[reducible] def k0_t2_loop : Scf.Loop 32 :=
  let c0_i32_1134 : BitVec 32 := 0#32
  let c8_i32 : BitVec 32 := 8#32
  let v3470 : BitVec 32 := Scalar.addi c0_i32_1134 c8_i32
  let c1_i32_1135 : BitVec 32 := 1#32
  ⟨c0_i32_1134, v3470, c1_i32_1135⟩
def k0_mult8 (k0_t2 : Fin k0_t2_loop.trips) : BitVec 32 :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c4_i32_1158 : BitVec 32 := 4#32
  let v3510 : BitVec 32 := Scalar.muli v3509 c4_i32_1158
  v3510
def k0_off20 (k0_t2 : Fin k0_t2_loop.trips) : Fin 2 → Nat :=
  let c0_1159 : Index := 0#32
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c4_i32_1158 : BitVec 32 := 4#32
  let v3510 : BitVec 32 := Scalar.muli v3509 c4_i32_1158
  let v3511 : BitVec 32 := v3510
  let v3512 : Index := Scalar.indexCast v3511
  ![0, v3512.toNat]
def k0_off21 (k0_t2 : Fin k0_t2_loop.trips) : Fin 2 → Nat :=
  let c0_1165 : Index := 0#32
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c4_i32_1158 : BitVec 32 := 4#32
  let v3510 : BitVec 32 := Scalar.muli v3509 c4_i32_1158
  let v3511 : BitVec 32 := v3510
  let v3539 : Index := Scalar.indexCast v3511
  ![0, v3539.toNat]
def k0_mult9 (k0_t2 : Fin k0_t2_loop.trips) : BitVec 32 :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c16_i32_1166 : BitVec 32 := 16#32
  let v3547 : BitVec 32 := Scalar.muli v3509 c16_i32_1166
  v3547
def k0_off22 (i : grid0.Coords) : Fin 3 → Nat :=
  let arg0 : BitVec 32 := BitVec.ofNat 32 (i 0).val
  let c2_i32_2 : BitVec 32 := 2#32
  let v10 : BitVec 32 := Scalar.remsi arg0 c2_i32_2
  let c0_i32_1167 : BitVec 32 := 0#32
  let c0_i32_1168 : BitVec 32 := 0#32
  ![v10.toNat, 0, 0]
def k0_off23 (k0_t2 : Fin k0_t2_loop.trips) : Fin 2 → Nat :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c16_i32_1166 : BitVec 32 := 16#32
  let v3547 : BitVec 32 := Scalar.muli v3509 c16_i32_1166
  let v3548 : BitVec 32 := v3547
  let v3551 : Index := Scalar.indexCast v3548
  let c0_1169 : Index := 0#32
  ![v3551.toNat, 0]
def k0_mult10 (k0_t2 : Fin k0_t2_loop.trips) : BitVec 32 :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c16_i32_1170 : BitVec 32 := 16#32
  let v3559 : BitVec 32 := Scalar.muli v3509 c16_i32_1170
  v3559
def k0_mult11 (k0_t2 : Fin k0_t2_loop.trips) : BitVec 32 :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c16_i32_1174 : BitVec 32 := 16#32
  let v3571 : BitVec 32 := Scalar.muli v3509 c16_i32_1174
  v3571
def k0_mult12 (k0_t2 : Fin k0_t2_loop.trips) : BitVec 32 :=
  let c0_i32_1134 : BitVec 32 := 0#32
  let c1_i32_1135 : BitVec 32 := 1#32
  let arg20 : BitVec 32 := Scf.iv c0_i32_1134 c1_i32_1135 k0_t2
  let c256_i32 : BitVec 32 := 256#32
  let v3509 : BitVec 32 := Scalar.muli arg20 c256_i32
  let c16_i32_1178 : BitVec 32 := 16#32
  let v3583 : BitVec 32 := Scalar.muli v3509 c16_i32_1178
  v3583
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "score_scale" => some (((Real.sqrt 128)⁻¹ * (Real.log 2)⁻¹ : ℝ) : EReal)
  | _ => none
-- ==== ReferenceIdeal.lean ====
abbrev S64 : Shape := ⟨1, ![64]⟩
abbrev S64x1x128x128 : Shape := ⟨4, ![64, 1, 128, 128]⟩
abbrev S64x1x16x128 : Shape := ⟨4, ![64, 1, 16, 128]⟩
abbrev S64x1x16 : Shape := ⟨3, ![64, 1, 16]⟩
abbrev S64x2048x16x128 : Shape := ⟨4, ![64, 2048, 16, 128]⟩
abbrev S64x2048x16x4 : Shape := ⟨4, ![64, 2048, 16, 4]⟩
abbrev S64x2048x16 : Shape := ⟨3, ![64, 2048, 16]⟩
abbrev S64x1x16x8x128 : Shape := ⟨5, ![64, 1, 16, 8, 128]⟩
abbrev S64x2048x16x4x32 : Shape := ⟨5, ![64, 2048, 16, 4, 32]⟩
abbrev S64x2048x16x4x1 : Shape := ⟨5, ![64, 2048, 16, 4, 1]⟩
abbrev S_ : Shape := ⟨0, ![]⟩
abbrev S64x16x2048x1x8 : Shape := ⟨5, ![64, 16, 2048, 1, 8]⟩
abbrev S64x16x8x1x2048 : Shape := ⟨5, ![64, 16, 8, 1, 2048]⟩
abbrev S64x16x1x1x8 : Shape := ⟨5, ![64, 16, 1, 1, 8]⟩
abbrev S64x16x8x1x1 : Shape := ⟨5, ![64, 16, 8, 1, 1]⟩
abbrev S2048 : Shape := ⟨1, ![2048]⟩
abbrev S64x1 : Shape := ⟨2, ![64, 1]⟩
abbrev S1x2048 : Shape := ⟨2, ![1, 2048]⟩
abbrev S64x2048 : Shape := ⟨2, ![64, 2048]⟩
abbrev S1 : Shape := ⟨1, ![1]⟩
abbrev S1x1 : Shape := ⟨2, ![1, 1]⟩
abbrev S64x1x2048 : Shape := ⟨3, ![64, 1, 2048]⟩
abbrev S64x1x1 : Shape := ⟨3, ![64, 1, 1]⟩
abbrev S64x1x1x1x2048 : Shape := ⟨5, ![64, 1, 1, 1, 2048]⟩
abbrev S64x16x8x1x2049 : Shape := ⟨5, ![64, 16, 8, 1, 2049]⟩
abbrev S64x16x8x1 : Shape := ⟨4, ![64, 16, 8, 1]⟩
abbrev S64x16x2048 : Shape := ⟨3, ![64, 16, 2048]⟩
abbrev S64x16x1x1x2048 : Shape := ⟨5, ![64, 16, 1, 1, 2048]⟩
abbrev S64x16x1 : Shape := ⟨3, ![64, 16, 1]⟩
abbrev S64x16x1x1x1 : Shape := ⟨5, ![64, 16, 1, 1, 1]⟩
abbrev S64x16x128x8x1 : Shape := ⟨5, ![64, 16, 128, 8, 1]⟩
abbrev S64x128x128 : Shape := ⟨3, ![64, 128, 128]⟩

abbrev nBuf : Space → Nat
  | .hbm => 141
  | .vmem => 0
  | .smem => 0
  | _ => 0

abbrev hbmTy0_0 (i : Nat) : BufTy := match i % 128 with
  | 0 => ⟨S64, .i32⟩
  | 1 => ⟨S64x1x128x128, .bf16⟩
  | 2 => ⟨S64x1x16x128, .bf16⟩
  | 3 => ⟨S64x1x16x128, .i8⟩
  | 4 => ⟨S64x1x16, .f32⟩
  | 5 => ⟨S64x2048x16x128, .i8⟩
  | 6 => ⟨S64x2048x16x4, .f32⟩
  | 7 => ⟨S64x2048x16x128, .i8⟩
  | 8 => ⟨S64x2048x16, .f32⟩
  | 9 => ⟨S64x1x16x8x128, .bf16⟩
  | 10 => ⟨S64x2048x16x128, .i32⟩
  | 11 => ⟨S64x2048x16x128, .f32⟩
  | 12 => ⟨S64x2048x16x128, .bf16⟩
  | 13 => ⟨S64x2048x16x4x32, .bf16⟩
  | 14 => ⟨S64x2048x16x4, .bf16⟩
  | 15 => ⟨S64x2048x16x4x1, .bf16⟩
  | 16 => ⟨S64x2048x16x4x32, .bf16⟩
  | 17 => ⟨S64x2048x16x4x32, .bf16⟩
  | 18 => ⟨S64x2048x16x128, .bf16⟩
  | 19 => ⟨S_, .f32⟩
  | 20 => ⟨S_, .f32⟩
  | 21 => ⟨S_, .f32⟩
  | 22 => ⟨S_, .f32⟩
  | 23 => ⟨S64x16x2048x1x8, .f32⟩
  | 24 => ⟨S64x16x8x1x2048, .f32⟩
  | 25 => ⟨S64x16x8x1x2048, .f32⟩
  | 26 => ⟨S64x16x8x1x2048, .f32⟩
  | 27 => ⟨S64x16x1x1x8, .f32⟩
  | 28 => ⟨S64x16x8x1x1, .f32⟩
  | 29 => ⟨S64x16x8x1x1, .f32⟩
  | 30 => ⟨S64x16x8x1x1, .f32⟩
  | 31 => ⟨S2048, .i32⟩
  | 32 => ⟨S64x1, .i32⟩
  | 33 => ⟨S_, .i32⟩
  | 34 => ⟨S64x1, .i32⟩
  | 35 => ⟨S64x1, .i32⟩
  | 36 => ⟨S64x1, .i32⟩
  | 37 => ⟨S_, .i32⟩
  | 38 => ⟨S64x1, .i32⟩
  | 39 => ⟨S64x1, .i32⟩
  | 40 => ⟨S1x2048, .i32⟩
  | 41 => ⟨S64x2048, .i32⟩
  | 42 => ⟨S64x2048, .i32⟩
  | 43 => ⟨S64x2048, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S64x2048, .i32⟩
  | 51 => ⟨S64x2048, .i32⟩
  | 52 => ⟨S_, .i32⟩
  | 53 => ⟨S64x2048, .i32⟩
  | 54 => ⟨S64x2048, .i1⟩
  | 55 => ⟨S_, .i32⟩
  | 56 => ⟨S64x2048, .i32⟩
  | 57 => ⟨S64x2048, .i1⟩
  | 58 => ⟨S_, .i32⟩
  | 59 => ⟨S_, .i1⟩
  | 60 => ⟨S64x2048, .i1⟩
  | 61 => ⟨S64x2048, .i1⟩
  | 62 => ⟨S64x2048, .i1⟩
  | 63 => ⟨S64x2048, .i32⟩
  | 64 => ⟨S64x2048, .i32⟩
  | 65 => ⟨S64x2048, .i32⟩
  | 66 => ⟨S64x2048, .i32⟩
  | 67 => ⟨S64x2048, .i32⟩
  | 68 => ⟨S64x1, .i32⟩
  | 69 => ⟨S1, .i32⟩
  | 70 => ⟨S1x1, .i32⟩
  | 71 => ⟨S64x1, .i32⟩
  | 72 => ⟨S64x1, .i32⟩
  | 73 => ⟨S64x1x2048, .i32⟩
  | 74 => ⟨S_, .i32⟩
  | 75 => ⟨S64x1x2048, .i32⟩
  | 76 => ⟨S64x1x2048, .i1⟩
  | 77 => ⟨S64x1x2048, .i32⟩
  | 78 => ⟨S64x1x1, .i32⟩
  | 79 => ⟨S_, .i32⟩
  | 80 => ⟨S64x1x1, .i32⟩
  | 81 => ⟨S64x1x1, .i32⟩
  | 82 => ⟨S64x1x2048, .i32⟩
  | 83 => ⟨S64x1x2048, .i1⟩
  | 84 => ⟨S64x1x2048, .i1⟩
  | 85 => ⟨S1, .i32⟩
  | 86 => ⟨S1x1, .i32⟩
  | 87 => ⟨S1, .i32⟩
  | 88 => ⟨S1x1, .i32⟩
  | 89 => ⟨S1x1, .i1⟩
  | 90 => ⟨S64x1x1x1x2048, .i1⟩
  | 91 => ⟨S_, .f32⟩
  | 92 => ⟨S_, .f32⟩
  | 93 => ⟨S64x16x8x1x2048, .i1⟩
  | 94 => ⟨S64x16x8x1x2048, .f32⟩
  | 95 => ⟨S64x16x8x1x2048, .f32⟩
  | 96 => ⟨S_, .f32⟩
  | 97 => ⟨S_, .f32⟩
  | 98 => ⟨S64x16x8x1x1, .i1⟩
  | 99 => ⟨S64x16x8x1x1, .f32⟩
  | 100 => ⟨S64x16x8x1x1, .f32⟩
  | 101 => ⟨S64x16x8x1x2049, .f32⟩
  | 102 => ⟨S_, .f32⟩
  | 103 => ⟨S64x16x8x1, .f32⟩
  | 104 => ⟨S_, .f32⟩
  | 105 => ⟨S64x16x8x1, .f32⟩
  | 106 => ⟨S64x16x8x1, .f32⟩
  | 107 => ⟨S64x16x8x1x1, .f32⟩
  | 108 => ⟨S64x16x8x1x2049, .f32⟩
  | 109 => ⟨S64x16x8x1x2049, .f32⟩
  | 110 => ⟨S64x16x8x1x2049, .f32⟩
  | 111 => ⟨S_, .f32⟩
  | 112 => ⟨S64x16x8x1, .f32⟩
  | 113 => ⟨S64x16x8x1x1, .f32⟩
  | 114 => ⟨S64x16x8x1x2049, .f32⟩
  | 115 => ⟨S64x16x8x1x2049, .f32⟩
  | 116 => ⟨S64x16x8x1x2048, .f32⟩
  | 117 => ⟨S64x16x8x1x1, .f32⟩
  | 118 => ⟨S64x16x2048, .f32⟩
  | 119 => ⟨S64x16x1x1x2048, .f32⟩
  | 120 => ⟨S64x16x1, .f32⟩
  | 121 => ⟨S64x16x1x1x1, .f32⟩
  | 122 => ⟨S64x16x8x1x2048, .f32⟩
  | 123 => ⟨S64x16x8x1x2048, .f32⟩
  | 124 => ⟨S64x16x8x1x2048, .bf16⟩
  | 125 => ⟨S64x2048x16x128, .i32⟩
  | 126 => ⟨S64x2048x16x128, .f32⟩
  | 127 => ⟨S64x2048x16x128, .bf16⟩
  | _ => ⟨S64, .i32⟩

abbrev hbmTy0_1 (i : Nat) : BufTy := match i % 128 with
  | 0 => ⟨S64x16x128x8x1, .f32⟩
  | 1 => ⟨S64x1x16x8x128, .f32⟩
  | 2 => ⟨S64x16x8x1x1, .f32⟩
  | 3 => ⟨S64x16x8x1x1, .f32⟩
  | 4 => ⟨S64x16x8x1x1, .bf16⟩
  | 5 => ⟨S64x1x16x128, .i32⟩
  | 6 => ⟨S64x1x16x128, .f32⟩
  | 7 => ⟨S64x1x16x128, .bf16⟩
  | 8 => ⟨S64x16x128x8x1, .f32⟩
  | 9 => ⟨S64x1x16x8x128, .f32⟩
  | 10 => ⟨S64x1x16x8x128, .f32⟩
  | 11 => ⟨S64x128x128, .f32⟩
  | 12 => ⟨S64x128x128, .bf16⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_3 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_4 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_5 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v55 : Ref sig .tc := ⟨.hbm, 95, rfl⟩
abbrev main_cst_6 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v56 : Ref sig .tc := ⟨.hbm, 100, rfl⟩
abbrev main_v57 : Ref sig .tc := ⟨.hbm, 101, rfl⟩
abbrev main_cst_7 : Ref sig .tc := ⟨.hbm, 102, rfl⟩
abbrev main_v58 : Ref sig .tc := ⟨.hbm, 103, rfl⟩
abbrev main_cst_8 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_9 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩

abbrev nD : Nat := 1
abbrev τ : Topo := Topo.v7x

variable {F : FTy → Type} [FloatOps F]
-- ==== Proof.Bits.Loops.lean ====
/- The two counted loops of the attention body as invariants: what one trip of each does, and the state before trip `k`
   as a recursion on the trips. -/
module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

/-- The frame kit's algebra paired with the transfer counters (`UR × Counters`: Lib/Pipeline/Frame.lean `UD`), at which
    the generated frame of a class-R kernel with DMA semaphores of its own runs. Every loop instance that frame meets
    is stated HERE rather than at `𝕄G`, as is any instance of a loop whose trips transfer. -/
local notation "𝕄D" => MT nD τ sig Unit (Elt F) ℕ (UR sig nD τ × Counters) ℕ
/-! ## `cc0_ring_attention` -/

/-- The class of invariants of `k0_part109`'s counted loop `k0_t1_loop` (`%3440 = scf.for %arg20 =
   %c0_i32_1113 to %3439 step %c1_i32_1115 iter_args(%arg21 = %3438) -> (vector<128x128xf32>) : i32
   {`), trip `k0_t1`, carrying `FVec F S128x128 .f32`, region `Gen.k0_t1_body`. Classifier: AFFINE —
   every store at a `Rect.unit` whose offsets are a stated closed form of the trips, no rectangle
   computed from the carried value, no transfer or conditional inside: the invariant is the pieces
   of the trips before `k`. The same recursion (`Gen.st_k0_t1`)
   gives the carried value before trip `k`, each trip's yield a function the run finds. One trip
   calls the parts `k0_part1`, `k0_part2`, `k0_part3`, `k0_part4`, `k0_part5`, `k0_part6`,
   `k0_part7`, `k0_part8`, `k0_part9`, `k0_part10`, `k0_part11`, `k0_part12`, `k0_part13`,
   `k0_part14`, `k0_part15`, `k0_part16`, `k0_part17`, `k0_part18`, `k0_part19`, `k0_part20`,
   `k0_part21`, `k0_part22`, `k0_part23`, `k0_part24`, `k0_part25`, `k0_part26`, `k0_part27`. Per
   trip it STORES through arg14 at (k0_off18 k0_t1). It LOADS through arg16 at (k0_off13 k0_t1);
   arg16 at (k0_off14 k0_t1); v3568 at (k0_off16 k0_t1); v3880 at (k0_off16 k0_t1); v4192 at
   (k0_off16 k0_t1); v4504 at (k0_off16 k0_t1); arg15 at (k0_off17 k0_t1); arg14 at (k0_off18
   k0_t1). Below: `Gen.loopInv_k0_t1` (`@[sl_loop]`), at `UR sig nD τ × Counters` (`𝕄D`:
   where the generated frame of a kernel with DMA semaphores of its own runs) — a run at that
   algebra goes through the loop with nothing more to state; a proof at another algebra instances
   the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (init : FVec F S128x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105)

/-! ### `k0_t1_loop`: the invariant (classifier: affine) -/

/-- One trip's resources: what the region reads (arg15, arg16, v3568) at its contents, what it
   writes (arg14) at any. -/
abbrev Trip_k0_t1 (c : Dev nD) (arg15 : Memref sig .tc .vmem S4x8192 .f32) (arg16 : Memref sig .tc .vmem S2x4x256x128 .f32) (arg14 : Memref sig .tc .vmem S128x8192 .f32) (i : grid0.Coords) (arg11 : Memref sig .tc .vmem S2x32768x128 .i8) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (f_arg14 : BufTy.Contents (Elt F) arg14.view.ty) : sProp 𝕄D :=
  iprop((arg15.view.loc (c : Thread nD τ) ↦[arg15.view.set]{fullShare} X_arg15) ∗ (arg16.view.loc (c : Thread nD τ) ↦[arg16.view.set]{fullShare} X_arg16) ∗ (mv_v3568.view.loc (c : Thread nD τ) ↦[mv_v3568.view.set]{fullShare} X_v3568) ∗ (arg14.view.loc (c : Thread nD τ) ↦[arg14.view.set]{fullShare} f_arg14))

section
variable (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty)

/-- ONE TRIP of `k0_t1_loop` at a symbolic `k` and carried value `acc`, run by `sl_exec` (its
   rectangles' offsets closed forms of `k`, their geometry linear arithmetic): what it yields and
   the pieces it writes into arg14 are the run's own finds — the witnesses `sl_close` assigns
   handing the buffers to the continuation, as functions of the carried value. `@[irreducible]`:
   cited, never unfolded. -/
@[irreducible] def trip_k0_t1 (k : Fin k0_t1_loop.trips) :
    Σ' (R_k0_t1 : ((FVec F S128x128 .f32) → FVec F S128x128 .f32)) , { L_arg14 : ((FVec F S128x128 .f32) → List (View.Piece (Elt F) S128x8192 .f32)) // ∀ (E : Set ℕ) (acc : FVec F S128x128 .f32) (f_arg14 : BufTy.Contents (Elt F) arg14.view.ty),
      Trip_k0_t1 (F := F) c arg15 arg16 arg14 i arg11 mv_v3568 hcanon_v3568 X_arg15 X_arg16 X_v3568 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 k acc)
          (fun yld => iprop(⌜yld = R_k0_t1 acc⌝ ∗ Trip_k0_t1 (F := F) c arg15 arg16 arg14 i arg11 mv_v3568 hcanon_v3568 X_arg15 X_arg16 X_v3568 (arg14.view.writes (Elt F) f_arg14 (L_arg14 acc)))) } := by
  have hk : k.val < 32 := Nat.lt_of_lt_of_le k.isLt k0_t1_abs.2.1
  refine ⟨?_, ?_, fun E acc f_arg14 => ?run⟩
  case run =>
    unfold k0_t1_body
    iintro ⟨HR_arg15, HR_arg16, HR_v3568, HW_arg14⟩
    sl_exec
    sl_step
    sl_close

/-- The trip's result (a plain projection of `trip_…`, for the recursion below to cite without its
   proof). -/
abbrev tripR_k0_t1 (k : Fin k0_t1_loop.trips) (acc : FVec F S128x128 .f32) : FVec F S128x128 .f32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).1 acc

/-- The trip's piece lists (plain projections of `trip_…`, for the recursion below to cite without
   its proof), at the carried value. -/
abbrev tripL_k0_t1 (k : Fin k0_t1_loop.trips) (acc : FVec F S128x128 .f32) : List (View.Piece (Elt F) S128x8192 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).2.1 acc

/-- Trip `k`'s contribution to the state the recursion `st_k0_t1` below carries (`prev`): its result
   as the new carried value and its pieces in front, per written memref; past the last trip, `prev`
   itself. -/
@[irreducible] def st_k0_t1Step (init : FVec F S128x128 .f32) (k : ℕ) (prev : (FVec F S128x128 .f32) × List (View.Piece (Elt F) S128x8192 .f32)) : (FVec F S128x128 .f32) × List (View.Piece (Elt F) S128x8192 .f32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 ⟨k, h⟩ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 ⟨k, h⟩ prev.1) ++ prev.2)
  else prev

/-- The STATE before trip `k`: the carried value and, per written memref, the pieces of the trips
   before (last first), from the loop's initial value `init`. -/
def st_k0_t1 (init : FVec F S128x128 .f32) : ℕ → (FVec F S128x128 .f32) × List (View.Piece (Elt F) S128x8192 .f32)
  | 0 => (init, [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k (st_k0_t1 init k)

theorem st_k0_t1_succ (init : FVec F S128x128 .f32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).1), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).1) ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (init : FVec F S128x128 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init 0).1 = init := rfl

/-- THE INVARIANT before trip `k`: arg15, arg16, v3568 read at `X_·`; arg14 holding the pieces of
   the trips before `k` written over the contents at loop entry `G_·` (stated `∃ f, … ∗ ⌜f = …⌝`, so
   that a hypothesis of any contents matches and the equation is what is proved); and `acc` equal to
   the state's carried value (an equation the run substitutes after the loop). -/
abbrev inv_k0_t1 (G_arg14 : BufTy.Contents (Elt F) arg14.view.ty) (init : FVec F S128x128 .f32) (k : ℕ) (acc : FVec F S128x128 .f32) : sProp 𝕄D :=
  iprop((arg15.view.loc (c : Thread nD τ) ↦[arg15.view.set]{fullShare} X_arg15) ∗ (arg16.view.loc (c : Thread nD τ) ↦[arg16.view.set]{fullShare} X_arg16) ∗ (mv_v3568.view.loc (c : Thread nD τ) ↦[mv_v3568.view.set]{fullShare} X_v3568) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).1⌝)

end

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (G_arg14 : BufTy.Contents (Elt F) arg14.view.ty) (init : FVec F S128x128 .f32) :
    LoopInvTy_k0_t1 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 G_arg14 init
  step k acc := by
    iintro ⟨HR_arg15, HR_arg16, HR_v3568, ⟨%f_arg14, HW_arg14, %h_arg14⟩, %h_acc⟩
    subst h_acc
    iapply (wp_wand_r Idealize.ShloMosaic.frame (wpE (defs₀ (F := F)) 𝒱 (c : Thread nD τ) bd) E)
    isplitl [HR_arg15 HR_arg16 HR_v3568 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).1 f_arg14)
      isplitl [HR_arg15]; · iexact HR_arg15
      isplitl [HR_arg16]; · iexact HR_arg16
      isplitl [HR_v3568]; · iexact HR_v3568
      iexact HW_arg14
    · iintro %yld ⟨%h_res, HR_arg15, HR_arg16, HR_v3568, HW_arg14⟩
      isplitl [HR_arg15]; · iexact HR_arg15
      isplitl [HR_arg16]; · iexact HR_arg16
      isplitl [HR_v3568]; · iexact HR_v3568
      simp only [st_k0_t1_succ]
      isplitl [HW_arg14]
      · iexists _; isplitl [HW_arg14]; · iexact HW_arg14
        ipureintro; rw [h_arg14, ← View.writes_append]
      ipureintro; rw [h_res]

/-- The class of invariants of `k0_part110`'s counted loop `k0_t2_loop` (`scf.for %arg20 =
   %c0_i32_1134 to %3470 step %c1_i32_1135 : i32 {`), trip `k0_t2`, carrying `Unit`, region
   `Gen.k0_t2_body`. Classifier: AFFINE — every store at a `Rect.unit` whose offsets are a stated
   closed form of the trips, nothing carried, no transfer or conditional inside: the invariant is
   the pieces of the trips before `k`. The region loads back what
   it stores into `arg18`, `arg19` (an accumulation): each trip's pieces are stated as functions of
   the contents it finds there. One trip calls the parts `k0_part28`, `k0_part29`. Per trip it
   STORES through arg19 at ![0, 0]; arg18 at ![0, 0]; arg18 at ![64, 0]. It LOADS through arg14 at
   (k0_off20 k0_t2); arg19 at ![0, 0]; arg17 at (k0_off21 k0_t2); v3550 at (k0_off23 k0_t2); v3562
   at (k0_off23 k0_t2); v3574 at (k0_off23 k0_t2); v3586 at (k0_off23 k0_t2); arg18 at ![0, 0];
   arg18 at ![64, 0]. Below: `Gen.loopInv_k0_t2` (`@[sl_loop]`), at `UR sig nD τ ×
   Counters` (`𝕄D`: where the generated frame of a kernel with DMA semaphores of its own runs) — a
   run at that algebra goes through the loop with nothing more to state; a proof at another algebra
   instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454)

/-! ### `k0_t2_loop`: the invariant (classifier: affine) -/

/-- One trip's resources: what the region reads (arg14, arg17, v3550) at its contents, what it
   writes (arg18, arg19) at any. -/
abbrev Trip_k0_t2 (c : Dev nD) (arg14 : Memref sig .tc .vmem S128x8192 .f32) (arg17 : Memref sig .tc .vmem S16x8192 .f32) (arg18 : Memref sig .tc .vmem S128x256 .f32) (arg19 : Memref sig .tc .vmem S128x128 .f32) (i : grid0.Coords) (arg12 : Memref sig .tc .vmem S2x32768x128 .i8) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (f_arg18 : BufTy.Contents (Elt F) arg18.view.ty) (f_arg19 : BufTy.Contents (Elt F) arg19.view.ty) : sProp 𝕄D :=
  iprop((arg14.view.loc (c : Thread nD τ) ↦[arg14.view.set]{fullShare} X_arg14) ∗ (arg17.view.loc (c : Thread nD τ) ↦[arg17.view.set]{fullShare} X_arg17) ∗ (mv_v3550.view.loc (c : Thread nD τ) ↦[mv_v3550.view.set]{fullShare} X_v3550) ∗ (arg18.view.loc (c : Thread nD τ) ↦[arg18.view.set]{fullShare} f_arg18) ∗ (arg19.view.loc (c : Thread nD τ) ↦[arg19.view.set]{fullShare} f_arg19))

section
variable (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty)

/-- ONE TRIP of `k0_t2_loop` at a symbolic `k`, run by `sl_exec` (its rectangles' offsets closed
   forms of `k`, their geometry linear arithmetic): the pieces it writes into arg18, arg19 are the
   run's own finds — the witnesses `sl_close` assigns handing the buffers to the continuation, as
   functions of the contents the trip finds in the memrefs it writes (the region loads some of them
   back). `@[irreducible]`: cited, never unfolded. -/
@[irreducible] def trip_k0_t2 (k : Fin k0_t2_loop.trips) :
    Σ' (L_arg18 : (BufTy.Contents (Elt F) arg18.view.ty → BufTy.Contents (Elt F) arg19.view.ty → List (View.Piece (Elt F) S128x256 .f32))) , { L_arg19 : (BufTy.Contents (Elt F) arg18.view.ty → BufTy.Contents (Elt F) arg19.view.ty → List (View.Piece (Elt F) S128x128 .f32)) // ∀ (E : Set ℕ) (f_arg18 : BufTy.Contents (Elt F) arg18.view.ty) (f_arg19 : BufTy.Contents (Elt F) arg19.view.ty),
      Trip_k0_t2 (F := F) c arg14 arg17 arg18 arg19 i arg12 mv_v3550 hcanon_v3550 X_arg14 X_arg17 X_v3550 f_arg18 f_arg19
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 k PUnit.unit)
          (fun _ => Trip_k0_t2 (F := F) c arg14 arg17 arg18 arg19 i arg12 mv_v3550 hcanon_v3550 X_arg14 X_arg17 X_v3550 (arg18.view.writes (Elt F) f_arg18 (L_arg18 f_arg18 f_arg19)) (arg19.view.writes (Elt F) f_arg19 (L_arg19 f_arg18 f_arg19))) } := by
  have hk : k.val < 8 := Nat.lt_of_lt_of_le k.isLt k0_t2_abs.2.1
  refine ⟨?_, ?_, fun E f_arg18 f_arg19 => ?run⟩
  case run =>
    unfold k0_t2_body
    iintro ⟨HR_arg14, HR_arg17, HR_v3550, HW_arg18, HW_arg19⟩
    sl_exec
    sl_step
    sl_close

/-- The trip's piece lists (plain projections of `trip_…`, for the recursion below to cite without
   its proof), at the contents the trip finds in the written memrefs. -/
abbrev tripL_k0_t2 (k : Fin k0_t2_loop.trips) (f_arg18 : BufTy.Contents (Elt F) arg18.view.ty) (f_arg19 : BufTy.Contents (Elt F) arg19.view.ty) : List (View.Piece (Elt F) S128x256 .f32) × List (View.Piece (Elt F) S128x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).1 f_arg18 f_arg19, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).2.1 f_arg18 f_arg19)

/-- Trip `k`'s contribution to the state the recursion `pb_k0_t2` below carries (`prev`): its pieces
   in front, per written memref; past the last trip, `prev` itself. -/
@[irreducible] def pb_k0_t2Step (G_arg18 : BufTy.Contents (Elt F) arg18.view.ty) (G_arg19 : BufTy.Contents (Elt F) arg19.view.ty) (k : ℕ) (prev : List (View.Piece (Elt F) S128x256 .f32) × List (View.Piece (Elt F) S128x128 .f32)) : List (View.Piece (Elt F) S128x256 .f32) × List (View.Piece (Elt F) S128x128 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 ⟨k, h⟩ (arg18.view.writes (Elt F) G_arg18 prev.1) (arg19.view.writes (Elt F) G_arg19 prev.2)).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 ⟨k, h⟩ (arg18.view.writes (Elt F) G_arg18 prev.1) (arg19.view.writes (Elt F) G_arg19 prev.2)).2 ++ prev.2)
  else prev

/-- The pieces of the trips before `k` (last first), per written memref, starting from the contents
   `G_·` at loop entry; each trip's pieces taken at the contents the earlier trips left. -/
def pb_k0_t2 (G_arg18 : BufTy.Contents (Elt F) arg18.view.ty) (G_arg19 : BufTy.Contents (Elt F) arg19.view.ty) : ℕ → List (View.Piece (Elt F) S128x256 .f32) × List (View.Piece (Elt F) S128x128 .f32)
  | 0 => ([], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k (pb_k0_t2 G_arg18 G_arg19 k)

theorem pb_k0_t2_succ (G_arg18 : BufTy.Contents (Elt F) arg18.view.ty) (G_arg19 : BufTy.Contents (Elt F) arg19.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k (arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2)).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k (arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2)).2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2) := by
  rw [pb_k0_t2.eq_2]; unfold pb_k0_t2Step; exact dif_pos k.isLt

/-- THE INVARIANT before trip `k`: arg14, arg17, v3550 read at `X_·`; arg18, arg19 holding the
   pieces of the trips before `k` written over the contents at loop entry `G_·` (stated `∃ f, … ∗ ⌜f
   = …⌝`, so that a hypothesis of any contents matches and the equation is what is proved). -/
abbrev inv_k0_t2 (G_arg18 : BufTy.Contents (Elt F) arg18.view.ty) (G_arg19 : BufTy.Contents (Elt F) arg19.view.ty) (k : ℕ) (_u : PUnit) : sProp 𝕄D :=
  iprop((arg14.view.loc (c : Thread nD τ) ↦[arg14.view.set]{fullShare} X_arg14) ∗ (arg17.view.loc (c : Thread nD τ) ↦[arg17.view.set]{fullShare} X_arg17) ∗ (mv_v3550.view.loc (c : Thread nD τ) ↦[mv_v3550.view.set]{fullShare} X_v3550) ∗ (∃ f, (arg18.view.loc (c : Thread nD τ) ↦[arg18.view.set]{fullShare} f) ∗ ⌜f = arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k).1⌝) ∗ (∃ f, (arg19.view.loc (c : Thread nD τ) ↦[arg19.view.set]{fullShare} f) ∗ ⌜f = arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k).2⌝))

end

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (G_arg18 : BufTy.Contents (Elt F) arg18.view.ty) (G_arg19 : BufTy.Contents (Elt F) arg19.view.ty) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19
  step k acc := by
    iintro ⟨HR_arg14, HR_arg17, HR_v3550, ⟨%f_arg18, HW_arg18, %h_arg18⟩, ⟨%f_arg19, HW_arg19, %h_arg19⟩⟩
    iapply (wp_wand_r Idealize.ShloMosaic.frame (wpE (defs₀ (F := F)) 𝒱 (c : Thread nD τ) bd) E)
    isplitl [HR_arg14 HR_arg17 HR_v3550 HW_arg18 HW_arg19]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).2.2 E f_arg18 f_arg19)
      isplitl [HR_arg14]; · iexact HR_arg14
      isplitl [HR_arg17]; · iexact HR_arg17
      isplitl [HR_v3550]; · iexact HR_v3550
      isplitl [HW_arg18]; · iexact HW_arg18
      iexact HW_arg19
    · iintro %_ ⟨HR_arg14, HR_arg17, HR_v3550, HW_arg18, HW_arg19⟩
      isplitl [HR_arg14]; · iexact HR_arg14
      isplitl [HR_arg17]; · iexact HR_arg17
      isplitl [HR_v3550]; · iexact HR_v3550
      rw [pb_k0_t2_succ]
      isplitl [HW_arg18]
      · iexists _; isplitl [HW_arg18]; · iexact HW_arg18
        ipureintro; rw [h_arg18, h_arg19, ← View.writes_append]
      iexists _; isplitl [HW_arg19]; · iexact HW_arg19
      ipureintro; rw [h_arg18, h_arg19, ← View.writes_append]

end Cert.Kernel.Gen

end
-- ==== Proof.Bits.Runs.lean ====
module

public import proofs.«01_k».proof.Proof.Gen.Kernel.Launch
public import proofs.«01_k».proof.Proof.Gen.Kernel.Skeleton
public import proofs.«01_k».proof.Proof.Bits.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points before point 63 — decided over the grid. -/
theorem hcond0_1 : ∀ t : Fin cfg0.N, cond0_1 (grid0.coords t) ↔ t.val < 63 :=
  (by decide +kernel : ∀ t : Fin grid0.N, cond0_1 (grid0.coords t) ↔ t.val < 63)

/-! ## The kernel body on any staging memrefs: a subtype the run finds -/

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x32768x128 .i8 := Memref.whole cc0_scratch0
abbrev scM0_1 : Memref sig .tc .vmem S2x32768x128 .i8 := Memref.whole cc0_scratch1
abbrev scM0_2 : Memref sig .tc .vmem S128x8192 .f32 := Memref.whole cc0_scratch3
abbrev scM0_3 : Memref sig .tc .vmem S4x8192 .f32 := Memref.whole cc0_scratch4
abbrev scM0_4 : Memref sig .tc .vmem S2x4x256x128 .f32 := Memref.whole cc0_scratch5
abbrev scM0_5 : Memref sig .tc .vmem S16x8192 .f32 := Memref.whole cc0_scratch6
abbrev scM0_6 : Memref sig .tc .vmem S128x256 .f32 := Memref.whole cc0_scratch7
abbrev scM0_7 : Memref sig .tc .vmem S128x128 .f32 := Memref.whole cc0_scratch8
/-- The operands left in HBM that the body copies into scratch itself, whole. -/
abbrev hbM0_0 : Memref sig .tc .hbm S64x32768x128 .i8 := Memref.whole main_v9
abbrev hbM0_1 : Memref sig .tc .hbm S64x32768x128 .i8 := Memref.whole main_v10
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 15, SemLoc.dma 17, SemLoc.dma 16, SemLoc.dma 18] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 17) 0 ∗ semVal ((c : Thread nD τ), SemLoc.dma 16) 0 ∗ semVal ((c : Thread nD τ), SemLoc.dma 18) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v9, main_v10}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v9) ∗ hbPt0 c hbM0_1 (V m c main_v10)) := by
  rw [BI.bigSep_eq_bigSepL_of_eq [main_v9, main_v10] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 15) 0 ∗ semVal ((c : Thread nD τ), SemLoc.dma 17) 0 ∗ semVal ((c : Thread nD τ), SemLoc.dma 16) 0 ∗ semVal ((c : Thread nD τ), SemLoc.dma 18) 0) ∗ iprop(hbPt0 c hbM0_0 (V m c main_v9) ∗ hbPt0 c hbM0_1 (V m c main_v10))) := by
  rw [Pipeline.ΦD_eq, scopedRest0_eq, ownSems00_eq, hbmPts0_eq]; simp only [scM0_0, scM0_1, scM0_2, scM0_3, scM0_4, scM0_5, scM0_6, scM0_7, owns_whole]; try rfl

/-! ## Ring 0 of kernel 0: `main_v9` streamed through the 2 slots of `cc0_scratch0` on the cells of `cc0_scratch2`, 1 block ahead, in 64 steps -/

instance : NeZero grid0.N := ⟨by rw [N_0]; decide⟩
theorem inb_slot0_0 (s : Fin 2) : ∀ a, (![s.val, 0, 0] : Fin 3 → Nat) a + S1x32768x128.size a ≤ S2x32768x128.size a := by
  have := s.isLt; intro a; fin_cases a <;> simp <;> omega
theorem inb_src0_0 (b : Fin 64) : ∀ a, (![1 * b.val, 0, 0] : Fin 3 → Nat) a + S1x32768x128.size a ≤ S64x32768x128.size a := by
  have := b.isLt; intro a; fin_cases a <;> simp <;> omega
theorem inb_cell0_0 (s : Fin 2) : ∀ a, (![s.val, 0] : Fin 2 → Nat) a + S1x1.size a ≤ S2x2.size a := by
  have := s.isLt; intro a; fin_cases a <;> simp <;> omega
/-- Slot `s` of the ring, spelt as the body's transfers spell their destination, at offsets in `s`. -/
def rslot0_0 (s : Fin 2) : Memref sig .tc .vmem S32768x128 .i8 :=
  (scM0_0.slice (Rect.unit (s := S2x32768x128) ![s.val, 0, 0] S1x32768x128.size (inb_slot0_0 s)) (fun _ => rfl)).squeeze S32768x128 squeezes_S1x32768x128_S32768x128
/-- Block `b` of the operand (the block step `b` waits), spelt as the transfers spell their source, at offsets in `b`. -/
def srcB0_0 (b : Fin 64) : Memref sig .tc .hbm S32768x128 .i8 :=
  (hbM0_0.slice (Rect.unit (s := S64x32768x128) ![1 * b.val, 0, 0] S1x32768x128.size (inb_src0_0 b)) (fun _ => rfl)).squeeze S32768x128 squeezes_S1x32768x128_S32768x128
/-- Cell `s` of `cc0_scratch2`, spelt as the body spells a cell; its number in the pool. -/
def cellA0_0 (s : Fin 2) : DmaSems sig S_ := (cc0_scratch2.slice (Rect.unit (s := S2x2) ![s.val, 0] S1x1.size (inb_cell0_0 s))).squeeze S_ squeezes_S1x1_S_
abbrev cellR0_0 (s : Fin 2) : SemLoc sig := SemLoc.dma (cellA0_0 s).sem
theorem cellR0_0_0 : cellR0_0 0 = SemLoc.dma 15 := by decide
theorem cellR0_0_1 : cellR0_0 1 = SemLoc.dma 17 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 64) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 64) : sProp 𝕄 := ((c : Thread nD τ).loc main_v9) ↦[Finset.univ \ (srcB0_0 b).view.set]{qs0_0 s} W
abbrev wholeP0_0 (s : Fin 2) : sProp 𝕄 := ((c : Thread nD τ).loc main_v9) ↦[Finset.univ]{qs0_0 s} W
abbrev landed0_0 (s : Fin 2) (b : Fin 64) (f : HbBuf0 (F := F) c (rslot0_0 s)) : HbBuf0 (F := F) c (rslot0_0 s) :=
  (rslot0_0 s).view.writes (Elt F) f [⟨Rect.whole S32768x128, ReadAs.same.apply ((srcB0_0 b).view.read (Elt F) W)⟩]
abbrev flightP0_0 (s : Fin 2) (b : Fin 64) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 64) (f : HbBuf0 (F := F) c (rslot0_0 s)) : sProp 𝕄 := iprop(flightP0_0 c W s b f ∗ restP0_0 c W s b)
abbrev noHome0_0 (b : Fin 64) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 15) 0 := congrArg (fun x => (semVal ((c : Thread nD τ), x) 0 : sProp 𝕄)) cellR0_0_0
omit [FloatOps F] in
theorem cellP0_0_1 : cellP0_0 (F := F) c 1 = semVal ((c : Thread nD τ), SemLoc.dma 17) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x32768x128.Idx := (Rect.unit (s := S2x32768x128) ![s.val, 0, 0] S1x32768x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x32768x128) (0 : Fin 3) 1 (fun s : Fin 2 => (![s.val, 0, 0] : Fin 3 → Nat)) S1x32768x128.size inb_slot0_0 (fun s => by simp) rfl s s' h
theorem slots0_0_cover : Finset.univ.biUnion slotSet0_0 = Finset.univ :=
  Ring.lead_cover (s := S2x32768x128) (0 : Fin 3) 1 (fun s : Fin 2 => (![s.val, 0, 0] : Fin 3 → Nat)) S1x32768x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 64) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 15) 0 ∗ semVal ((c : Thread nD τ), SemLoc.dma 17) 0) ∗ hbPt0 c hbM0_0 (V m c main_v9))
      ⊢ ringAt0_0 c (V m c main_v9) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v9)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v9) 64
      ⊢ iprop((∃ d, owns (c : Thread nD τ) scM0_0 fullShare d) ∗ (semVal ((c : Thread nD τ), SemLoc.dma 15) 0 ∗ semVal ((c : Thread nD τ), SemLoc.dma 17) 0) ∗ hbPt0 c hbM0_0 (V m c main_v9)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v9)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 64 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 64 ∧ (t.val + 1) = t.val + 1 := by decide +kernel
set_option synthInstance.maxSize 4096 in
theorem coff0_0_1 : ∀ t : Fin grid0.N, k0_off3 (grid0.coords t) = ![(Ring.sl 2 t.val).val, 0, 0] := by decide +kernel
@[sl_canon] theorem canon0_0_1 (t : Fin grid0.N) (h0 : cond0_0 (grid0.coords t)) :
    (scM0_0.slice (Rect.unit (s := S2x32768x128) (k0_off3 (grid0.coords t)) S1x32768x128.size (k0_off3_inb (grid0.coords t) h0)) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_1 t ) _ _ (fun _ => rfl) (fun _ => rfl))
set_option synthInstance.maxSize 4096 in
theorem coff0_0_2 : ∀ t : Fin grid0.N, k0_off2 (grid0.coords t) = ![(Ring.sl 2 t.val).val, 0] := by decide +kernel
@[sl_canon] theorem canon0_0_2 (t : Fin grid0.N) (h0 : cond0_0 (grid0.coords t)) :
    (cc0_scratch2.slice (Rect.unit (s := S2x2) (k0_off2 (grid0.coords t)) S1x1.size (k0_off2_inb (grid0.coords t) h0))).squeeze S_ squeezes_S1x1_S_ = cellA0_0 (Ring.sl 2 t.val) :=
  congrArg (fun A : DmaSems sig S1x1 => A.squeeze S_ squeezes_S1x1_S_) (SemArray.slice_unit_congr _ (coff0_0_2 t ) _ _)
set_option synthInstance.maxSize 4096 in
theorem coff0_0_3 : ∀ t : Fin grid0.N, k0_off4 (grid0.coords t) = ![1 * (Ring.bk 64 t.val).val, 0, 0] := by decide +kernel
@[sl_canon] theorem canon0_0_3 (t : Fin grid0.N) (h0 : cond0_0 (grid0.coords t)) :
    (hbM0_0.slice (Rect.unit (s := S64x32768x128) (k0_off4 (grid0.coords t)) S1x32768x128.size (k0_off4_inb (grid0.coords t) h0)) (fun _ => rfl)).squeeze S32768x128 squeezes_S1x32768x128_S32768x128 = srcB0_0 (Ring.bk 64 t.val) :=
  congrArg (fun M : Memref sig .tc .hbm S1x32768x128 .i8 => M.squeeze S32768x128 squeezes_S1x32768x128_S32768x128) (Memref.slice_unit_congr _ (coff0_0_3 t ) _ _ (fun _ => rfl) (fun _ => rfl))
set_option synthInstance.maxSize 4096 in
theorem coff0_0_4 : ∀ t : Fin grid0.N, k0_off7 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x32768x128) (k0_off7 (grid0.coords t)) S1x32768x128.size (k0_off7_inb (grid0.coords t) h1)) (fun _ => rfl)).squeeze S32768x128 squeezes_S1x32768x128_S32768x128 = rslot0_0 (Ring.sl 2 (t.val + 1)) :=
  congrArg (fun M : Memref sig .tc .vmem S1x32768x128 .i8 => M.squeeze S32768x128 squeezes_S1x32768x128_S32768x128) (Memref.slice_unit_congr _ (coff0_0_4 t ) _ _ (fun _ => rfl) (fun _ => rfl))
set_option synthInstance.maxSize 4096 in
theorem coff0_0_5 : ∀ t : Fin grid0.N, k0_off6 (grid0.coords t) = ![(Ring.sl 2 (t.val + 1)).val, 0] := by decide +kernel
@[sl_canon] theorem canon0_0_5 (t : Fin grid0.N) (h1 : cond0_1 (grid0.coords t)) :
    (cc0_scratch2.slice (Rect.unit (s := S2x2) (k0_off6 (grid0.coords t)) S1x1.size (k0_off6_inb (grid0.coords t) h1))).squeeze S_ squeezes_S1x1_S_ = cellA0_0 (Ring.sl 2 (t.val + 1)) :=
  congrArg (fun A : DmaSems sig S1x1 => A.squeeze S_ squeezes_S1x1_S_) (SemArray.slice_unit_congr _ (coff0_0_5 t ) _ _)
set_option synthInstance.maxSize 4096 in
theorem coff0_0_6 : ∀ t : Fin grid0.N, cond0_0 (grid0.coords t) → cond0_1 (grid0.coords t) → k0_off8 (grid0.coords t) = ![1 * (Ring.bk 64 (t.val + 1)).val, 0, 0] := by decide +kernel
@[sl_canon] theorem canon0_0_6 (t : Fin grid0.N) (h0 : cond0_0 (grid0.coords t)) (h1 : cond0_1 (grid0.coords t)) :
    (hbM0_0.slice (Rect.unit (s := S64x32768x128) (k0_off8 (grid0.coords t)) S1x32768x128.size (k0_off8_inb (grid0.coords t) h1)) (fun _ => rfl)).squeeze S32768x128 squeezes_S1x32768x128_S32768x128 = srcB0_0 (Ring.bk 64 (t.val + 1)) :=
  congrArg (fun M : Memref sig .tc .hbm S1x32768x128 .i8 => M.squeeze S32768x128 squeezes_S1x32768x128_S32768x128) (Memref.slice_unit_congr _ (coff0_0_6 t h0 h1) _ _ (fun _ => rfl) (fun _ => rfl))
set_option synthInstance.maxSize 4096 in
theorem coff0_0_7 : ∀ t : Fin grid0.N, k0_off11 (grid0.coords t) = ![(Ring.sl 2 t.val).val, 0, 0] := by decide +kernel
@[sl_canon] theorem canon0_0_7 (t : Fin grid0.N) :
    (scM0_0.slice (Rect.unit (s := S2x32768x128) (k0_off11 (grid0.coords t)) S1x32768x128.size (k0_off11_inb (grid0.coords t))) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_7 t ) _ _ (fun _ => rfl) (fun _ => rfl))
set_option synthInstance.maxSize 4096 in
theorem coff0_0_8 : ∀ t : Fin grid0.N, k0_off10 (grid0.coords t) = ![(Ring.sl 2 t.val).val, 0] := by decide +kernel
@[sl_canon] theorem canon0_0_8 (t : Fin grid0.N) :
    (cc0_scratch2.slice (Rect.unit (s := S2x2) (k0_off10 (grid0.coords t)) S1x1.size (k0_off10_inb (grid0.coords t)))).squeeze S_ squeezes_S1x1_S_ = cellA0_0 (Ring.sl 2 t.val) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, k0_off15 (grid0.coords t) = ![(Ring.sl 2 t.val).val, 0, 0] := by decide +kernel
@[sl_canon] theorem canon0_0_9 (t : Fin grid0.N) :
    (scM0_0.slice (Rect.unit (s := S2x32768x128) (k0_off15 (grid0.coords t)) S1x32768x128.size (k0_off15_inb (grid0.coords t))) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_9 t ) _ _ (fun _ => rfl) (fun _ => rfl))
set_option synthInstance.maxSize 4096 in
theorem coff0_0_10 : ∀ t : Fin grid0.N, ¬cond0_0 (grid0.coords t) → cond0_1 (grid0.coords t) → k0_off8 (grid0.coords t) = ![1 * (Ring.bk 64 (t.val + 1)).val, 0, 0] := by decide +kernel
@[sl_canon] theorem canon0_0_10 (t : Fin grid0.N) (h0 : ¬cond0_0 (grid0.coords t)) (h1 : cond0_1 (grid0.coords t)) :
    (hbM0_0.slice (Rect.unit (s := S64x32768x128) (k0_off8 (grid0.coords t)) S1x32768x128.size (k0_off8_inb (grid0.coords t) h1)) (fun _ => rfl)).squeeze S32768x128 squeezes_S1x32768x128_S32768x128 = srcB0_0 (Ring.bk 64 (t.val + 1)) :=
  congrArg (fun M : Memref sig .tc .hbm S1x32768x128 .i8 => M.squeeze S32768x128 squeezes_S1x32768x128_S32768x128) (Memref.slice_unit_congr _ (coff0_0_10 t h0 h1) _ _ (fun _ => rfl) (fun _ => rfl))
set_option synthInstance.maxSize 4096 in
theorem coff0_0_11 : ∀ t : Fin grid0.N, k0_off15 (grid0.coords t) = ![(Ring.sl 2 t.val).val, 0, 0] := by decide +kernel
/-- The ring-memref load's box in the slot's spelling (the block this step waited): the executor's symbolic geometry then sees it inside that slot. -/
instance (priority := high) closedOff0_0_11 (t : Fin grid0.N) : ClosedOff (k0_off15 (grid0.coords t)) := ⟨![(Ring.sl 2 t.val).val, 0, 0], coff0_0_11 t⟩
end Canon0_0

/-! ## Ring 1 of kernel 0: `main_v10` streamed through the 2 slots of `cc0_scratch1` on the cells of `cc0_scratch2`, 1 block ahead, in 64 steps -/

theorem inb_slot0_1 (s : Fin 2) : ∀ a, (![s.val, 0, 0] : Fin 3 → Nat) a + S1x32768x128.size a ≤ S2x32768x128.size a := by
  have := s.isLt; intro a; fin_cases a <;> simp <;> omega
theorem inb_src0_1 (b : Fin 64) : ∀ a, (![1 * b.val, 0, 0] : Fin 3 → Nat) a + S1x32768x128.size a ≤ S64x32768x128.size a := by
  have := b.isLt; intro a; fin_cases a <;> simp <;> omega
theorem inb_cell0_1 (s : Fin 2) : ∀ a, (![s.val, 1] : Fin 2 → Nat) a + S1x1.size a ≤ S2x2.size a := by
  have := s.isLt; intro a; fin_cases a <;> simp <;> omega
/-- Slot `s` of the ring, spelt as the body's transfers spell their destination, at offsets in `s`. -/
def rslot0_1 (s : Fin 2) : Memref sig .tc .vmem S32768x128 .i8 :=
  (scM0_1.slice (Rect.unit (s := S2x32768x128) ![s.val, 0, 0] S1x32768x128.size (inb_slot0_1 s)) (fun _ => rfl)).squeeze S32768x128 squeezes_S1x32768x128_S32768x128
/-- Block `b` of the operand (the block step `b` waits), spelt as the transfers spell their source, at offsets in `b`. -/
def srcB0_1 (b : Fin 64) : Memref sig .tc .hbm S32768x128 .i8 :=
  (hbM0_1.slice (Rect.unit (s := S64x32768x128) ![1 * b.val, 0, 0] S1x32768x128.size (inb_src0_1 b)) (fun _ => rfl)).squeeze S32768x128 squeezes_S1x32768x128_S32768x128
/-- Cell `s` of `cc0_scratch2`, spelt as the body spells a cell; its number in the pool. -/
def cellA0_1 (s : Fin 2) : DmaSems sig S_ := (cc0_scratch2.slice (Rect.unit (s := S2x2) ![s.val, 1] S1x1.size (inb_cell0_1 s))).squeeze S_ squeezes_S1x1_S_
abbrev cellR0_1 (s : Fin 2) : SemLoc sig := SemLoc.dma (cellA0_1 s).sem
theorem cellR0_1_0 : cellR0_1 0 = SemLoc.dma 16 := by decide
theorem cellR0_1_1 : cellR0_1 1 = SemLoc.dma 18 := by decide

section Ring0_1
variable (c : Dev nD) (W : HbBuf0 (F := F) c hbM0_1)
/-- The operand is lent BY SHARE, one read-share copy of it per slot (the left and right halves of the full share): whatever
    blocks two transfers in flight stream — the same one twice, two that overlap —, each borrows from its own slot's copy. -/
abbrev qs0_1 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 64) : sProp 𝕄 := (srcB0_1 b).view.loc (c : Thread nD τ) ↦[(srcB0_1 b).view.set]{qs0_1 s} W
/-- (a `def`: no run reads this rest, and folded it stays out of the executor's table of held buffers) -/
def restP0_1 (s : Fin 2) (b : Fin 64) : sProp 𝕄 := ((c : Thread nD τ).loc main_v10) ↦[Finset.univ \ (srcB0_1 b).view.set]{qs0_1 s} W
abbrev wholeP0_1 (s : Fin 2) : sProp 𝕄 := ((c : Thread nD τ).loc main_v10) ↦[Finset.univ]{qs0_1 s} W
abbrev landed0_1 (s : Fin 2) (b : Fin 64) (f : HbBuf0 (F := F) c (rslot0_1 s)) : HbBuf0 (F := F) c (rslot0_1 s) :=
  (rslot0_1 s).view.writes (Elt F) f [⟨Rect.whole S32768x128, ReadAs.same.apply ((srcB0_1 b).view.read (Elt F) W)⟩]
abbrev flightP0_1 (s : Fin 2) (b : Fin 64) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 2) (f : HbBuf0 (F := F) c (rslot0_1 s)) : sProp 𝕄 := iprop(slotP0_1 c s f ∗ wholeP0_1 c W s)
abbrev flightW0_1 (s : Fin 2) (b : Fin 64) (f : HbBuf0 (F := F) c (rslot0_1 s)) : sProp 𝕄 := iprop(flightP0_1 c W s b f ∗ restP0_1 c W s b)
abbrev noHome0_1 (b : Fin 64) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_1 (k : ℕ) : sProp 𝕄 :=
  if k = 0 then Ring.At₀ (cellP0_1 c) (slotW0_1 c W) noHome0_1
  else Ring.AtK 1 (cellP0_1 c) (slotW0_1 c W) noHome0_1 (flightW0_1 c W) (landed0_1 c W) k
omit [FloatOps F] in
theorem cellP0_1_0 : cellP0_1 (F := F) c 0 = semVal ((c : Thread nD τ), SemLoc.dma 16) 0 := congrArg (fun x => (semVal ((c : Thread nD τ), x) 0 : sProp 𝕄)) cellR0_1_0
omit [FloatOps F] in
theorem cellP0_1_1 : cellP0_1 (F := F) c 1 = semVal ((c : Thread nD τ), SemLoc.dma 18) 0 := congrArg (fun x => (semVal ((c : Thread nD τ), x) 0 : sProp 𝕄)) cellR0_1_1
end Ring0_1

/-! ### The slots, disjoint and covering the scratch (Lib/Ring.lean `lead_disjoint` / `lead_cover`) -/

abbrev slotSet0_1 (s : Fin 2) : Finset S2x32768x128.Idx := (Rect.unit (s := S2x32768x128) ![s.val, 0, 0] S1x32768x128.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x32768x128) (0 : Fin 3) 1 (fun s : Fin 2 => (![s.val, 0, 0] : Fin 3 → Nat)) S1x32768x128.size inb_slot0_1 (fun s => by simp) rfl s s' h
theorem slots0_1_cover : Finset.univ.biUnion slotSet0_1 = Finset.univ :=
  Ring.lead_cover (s := S2x32768x128) (0 : Fin 3) 1 (fun s : Fin 2 => (![s.val, 0, 0] : Fin 3 → Nat)) S1x32768x128.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 2) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 2) (b : Fin 64) : wholeP0_1 (F := F) c W s ⊣⊢ iprop(srcP0_1 c W s b ∗ restP0_1 c W s b) := by
  unfold restP0_1; exact pointsTo_split_subset (Finset.subset_univ _)
/-- the operand whole at the full share is the two copies. -/
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ ∃ f, slotP0_1 (F := F) c 1 f) : sProp 𝕄) := by
  simp only [scM0_1, owns_whole]
  exact Ring.slots2_split (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 16) 0 ∗ semVal ((c : Thread nD τ), SemLoc.dma 18) 0) ∗ hbPt0 c hbM0_1 (V m c main_v10))
      ⊢ ringAt0_1 c (V m c main_v10) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_v10)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_1_out (c : Dev nD) :
    ringAt0_1 c (V m c main_v10) 64
      ⊢ iprop((∃ d, owns (c : Thread nD τ) scM0_1 fullShare d) ∗ (semVal ((c : Thread nD τ), SemLoc.dma 16) 0 ∗ semVal ((c : Thread nD τ), SemLoc.dma 18) 0) ∗ hbPt0 c hbM0_1 (V m c main_v10)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_v10)).2; isplitl [HW0]; · iexact HW0
    iexact HW1

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → 1 ≤ t.val ∧ t.val + 1 < 64 ∧ (t.val + 1) = t.val + 1 := by decide +kernel
/-- At the points of case C the ring takes its LAST step. -/
theorem rstep0_1_C : ∀ t : Fin grid0.N, ¬cond0_0 (grid0.coords t) → ¬cond0_1 (grid0.coords t) → 1 ≤ t.val ∧ t.val + 1 = 64 ∧ (t.val + 1) = t.val + 1 := by decide +kernel
set_option synthInstance.maxSize 4096 in
theorem coff0_1_1 : ∀ t : Fin grid0.N, k0_off3 (grid0.coords t) = ![(Ring.sl 2 t.val).val, 0, 0] := by decide +kernel
@[sl_canon] theorem canon0_1_1 (t : Fin grid0.N) (h0 : cond0_0 (grid0.coords t)) :
    (scM0_1.slice (Rect.unit (s := S2x32768x128) (k0_off3 (grid0.coords t)) S1x32768x128.size (k0_off3_inb (grid0.coords t) h0)) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_1 t ) _ _ (fun _ => rfl) (fun _ => rfl))
set_option synthInstance.maxSize 4096 in
theorem coff0_1_2 : ∀ t : Fin grid0.N, k0_off5 (grid0.coords t) = ![(Ring.sl 2 t.val).val, 1] := by decide +kernel
@[sl_canon] theorem canon0_1_2 (t : Fin grid0.N) (h0 : cond0_0 (grid0.coords t)) :
    (cc0_scratch2.slice (Rect.unit (s := S2x2) (k0_off5 (grid0.coords t)) S1x1.size (k0_off5_inb (grid0.coords t) h0))).squeeze S_ squeezes_S1x1_S_ = cellA0_1 (Ring.sl 2 t.val) :=
  congrArg (fun A : DmaSems sig S1x1 => A.squeeze S_ squeezes_S1x1_S_) (SemArray.slice_unit_congr _ (coff0_1_2 t ) _ _)
set_option synthInstance.maxSize 4096 in
theorem coff0_1_3 : ∀ t : Fin grid0.N, k0_off4 (grid0.coords t) = ![1 * (Ring.bk 64 t.val).val, 0, 0] := by decide +kernel
@[sl_canon] theorem canon0_1_3 (t : Fin grid0.N) (h0 : cond0_0 (grid0.coords t)) :
    (hbM0_1.slice (Rect.unit (s := S64x32768x128) (k0_off4 (grid0.coords t)) S1x32768x128.size (k0_off4_inb (grid0.coords t) h0)) (fun _ => rfl)).squeeze S32768x128 squeezes_S1x32768x128_S32768x128 = srcB0_1 (Ring.bk 64 t.val) :=
  congrArg (fun M : Memref sig .tc .hbm S1x32768x128 .i8 => M.squeeze S32768x128 squeezes_S1x32768x128_S32768x128) (Memref.slice_unit_congr _ (coff0_1_3 t ) _ _ (fun _ => rfl) (fun _ => rfl))
set_option synthInstance.maxSize 4096 in
theorem coff0_1_4 : ∀ t : Fin grid0.N, k0_off7 (grid0.coords t) = ![(Ring.sl 2 (t.val + 1)).val, 0, 0] := by decide +kernel
@[sl_canon] theorem canon0_1_4 (t : Fin grid0.N) (h1 : cond0_1 (grid0.coords t)) :
    (scM0_1.slice (Rect.unit (s := S2x32768x128) (k0_off7 (grid0.coords t)) S1x32768x128.size (k0_off7_inb (grid0.coords t) h1)) (fun _ => rfl)).squeeze S32768x128 squeezes_S1x32768x128_S32768x128 = rslot0_1 (Ring.sl 2 (t.val + 1)) :=
  congrArg (fun M : Memref sig .tc .vmem S1x32768x128 .i8 => M.squeeze S32768x128 squeezes_S1x32768x128_S32768x128) (Memref.slice_unit_congr _ (coff0_1_4 t ) _ _ (fun _ => rfl) (fun _ => rfl))
set_option synthInstance.maxSize 4096 in
theorem coff0_1_5 : ∀ t : Fin grid0.N, k0_off9 (grid0.coords t) = ![(Ring.sl 2 (t.val + 1)).val, 1] := by decide +kernel
@[sl_canon] theorem canon0_1_5 (t : Fin grid0.N) (h1 : cond0_1 (grid0.coords t)) :
    (cc0_scratch2.slice (Rect.unit (s := S2x2) (k0_off9 (grid0.coords t)) S1x1.size (k0_off9_inb (grid0.coords t) h1))).squeeze S_ squeezes_S1x1_S_ = cellA0_1 (Ring.sl 2 (t.val + 1)) :=
  congrArg (fun A : DmaSems sig S1x1 => A.squeeze S_ squeezes_S1x1_S_) (SemArray.slice_unit_congr _ (coff0_1_5 t ) _ _)
set_option synthInstance.maxSize 4096 in
theorem coff0_1_6 : ∀ t : Fin grid0.N, cond0_0 (grid0.coords t) → cond0_1 (grid0.coords t) → k0_off8 (grid0.coords t) = ![1 * (Ring.bk 64 (t.val + 1)).val, 0, 0] := by decide +kernel
@[sl_canon] theorem canon0_1_6 (t : Fin grid0.N) (h0 : cond0_0 (grid0.coords t)) (h1 : cond0_1 (grid0.coords t)) :
    (hbM0_1.slice (Rect.unit (s := S64x32768x128) (k0_off8 (grid0.coords t)) S1x32768x128.size (k0_off8_inb (grid0.coords t) h1)) (fun _ => rfl)).squeeze S32768x128 squeezes_S1x32768x128_S32768x128 = srcB0_1 (Ring.bk 64 (t.val + 1)) :=
  congrArg (fun M : Memref sig .tc .hbm S1x32768x128 .i8 => M.squeeze S32768x128 squeezes_S1x32768x128_S32768x128) (Memref.slice_unit_congr _ (coff0_1_6 t h0 h1) _ _ (fun _ => rfl) (fun _ => rfl))
set_option synthInstance.maxSize 4096 in
theorem coff0_1_7 : ∀ t : Fin grid0.N, k0_off11 (grid0.coords t) = ![(Ring.sl 2 t.val).val, 0, 0] := by decide +kernel
@[sl_canon] theorem canon0_1_7 (t : Fin grid0.N) :
    (scM0_1.slice (Rect.unit (s := S2x32768x128) (k0_off11 (grid0.coords t)) S1x32768x128.size (k0_off11_inb (grid0.coords t))) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_7 t ) _ _ (fun _ => rfl) (fun _ => rfl))
set_option synthInstance.maxSize 4096 in
theorem coff0_1_8 : ∀ t : Fin grid0.N, k0_off19 (grid0.coords t) = ![(Ring.sl 2 t.val).val, 1] := by decide +kernel
@[sl_canon] theorem canon0_1_8 (t : Fin grid0.N) :
    (cc0_scratch2.slice (Rect.unit (s := S2x2) (k0_off19 (grid0.coords t)) S1x1.size (k0_off19_inb (grid0.coords t)))).squeeze S_ squeezes_S1x1_S_ = cellA0_1 (Ring.sl 2 t.val) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, k0_off22 (grid0.coords t) = ![(Ring.sl 2 t.val).val, 0, 0] := by decide +kernel
@[sl_canon] theorem canon0_1_9 (t : Fin grid0.N) :
    (scM0_1.slice (Rect.unit (s := S2x32768x128) (k0_off22 (grid0.coords t)) S1x32768x128.size (k0_off22_inb (grid0.coords t))) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_9 t ) _ _ (fun _ => rfl) (fun _ => rfl))
set_option synthInstance.maxSize 4096 in
theorem coff0_1_10 : ∀ t : Fin grid0.N, ¬cond0_0 (grid0.coords t) → cond0_1 (grid0.coords t) → k0_off8 (grid0.coords t) = ![1 * (Ring.bk 64 (t.val + 1)).val, 0, 0] := by decide +kernel
@[sl_canon] theorem canon0_1_10 (t : Fin grid0.N) (h0 : ¬cond0_0 (grid0.coords t)) (h1 : cond0_1 (grid0.coords t)) :
    (hbM0_1.slice (Rect.unit (s := S64x32768x128) (k0_off8 (grid0.coords t)) S1x32768x128.size (k0_off8_inb (grid0.coords t) h1)) (fun _ => rfl)).squeeze S32768x128 squeezes_S1x32768x128_S32768x128 = srcB0_1 (Ring.bk 64 (t.val + 1)) :=
  congrArg (fun M : Memref sig .tc .hbm S1x32768x128 .i8 => M.squeeze S32768x128 squeezes_S1x32768x128_S32768x128) (Memref.slice_unit_congr _ (coff0_1_10 t h0 h1) _ _ (fun _ => rfl) (fun _ => rfl))
set_option synthInstance.maxSize 4096 in
theorem coff0_1_11 : ∀ t : Fin grid0.N, k0_off22 (grid0.coords t) = ![(Ring.sl 2 t.val).val, 0, 0] := by decide +kernel
/-- The ring-memref load's box in the slot's spelling (the block this step waited): the executor's symbolic geometry then sees it inside that slot. -/
instance (priority := high) closedOff0_1_11 (t : Fin grid0.N) : ClosedOff (k0_off22 (grid0.coords t)) := ⟨![(Ring.sl 2 t.val).val, 0, 0], coff0_1_11 t⟩
end Canon0_1

end Cert.Kernel.Gen

end
-- ==== Proof.Bits.RunA.lean ====
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 2624000 in
/-- The body's triple IN CASE A (`scf.if` 0 taken, `scf.if` 1 taken: points 0): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : cond0_0 (grid0.coords t)) (hc1 : cond0_1 (grid0.coords t))
    (x0 : Vec F S64 .i32) (x1 : Vec F S1x128x128 .bf16) (x2 : Vec F S1x16x128 .bf16) (x3 : Vec F S1x16x128 .i8) (x4 : Vec F S1x16x1 .f32) (x5 : Vec F S1x1024x128 .f32) (x6 : Vec F S1x16x2048 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.free (cellP0_0 c) (slotW0_0 c fh0) (Ring.sl 2 t.val) ∗ Ring.free (cellP0_0 c) (slotW0_0 c fh0) (Ring.sl 2 (t.val + 1)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ Ring.inflight (flightW0_1 c fh1) (Ring.sl 2 (t.val + 1)) (Ring.bk 64 (t.val + 1)) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := F)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (cond0_0 (grid0.coords t)) := ⟨hc0⟩
    haveI : Fact (cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨Hc0_0_0, ⟨%fs0_0_0, Hs0_0_0, Hw0_0_0⟩⟩, ⟨Hc0_0_1, ⟨%fs0_0_1, Hs0_0_1, Hw0_0_1⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 2 t.val) (Ring.bk 64 t.val)).1 $$ Hw0_0_0
    icases Hsp0_0_0 with ⟨Hh0_0_0, Hr0_0_0⟩
    ihave Hsp0_0_1 := (src0_0_split c fh0 (Ring.sl 2 (t.val + 1)) (Ring.bk 64 (t.val + 1))).1 $$ Hw0_0_1
    icases Hsp0_0_1 with ⟨Hh0_0_1, Hr0_0_1⟩
    ihave Hsp0_1_0 := (src0_1_split c fh1 (Ring.sl 2 t.val) (Ring.bk 64 t.val)).1 $$ Hw0_1_0
    icases Hsp0_1_0 with ⟨Hh0_1_0, Hr0_1_0⟩
    ihave Hsp0_1_1 := (src0_1_split c fh1 (Ring.sl 2 (t.val + 1)) (Ring.bk 64 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 64 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 2 t.val) (Ring.bk 64 t.val)).2; isplitl [Hh0_1_0]; · iexact Hh0_1_0
      iexact Hr0_1_0
    iexists _; iexact HW

end Cert.Kernel.Gen

end
-- ==== Proof.Bits.RunB.lean ====
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 2564000 in
/-- The body's triple IN CASE B (`scf.if` 0 not taken, `scf.if` 1 taken: points 1, 2, … 62: 62 of 64): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : ¬cond0_0 (grid0.coords t)) (hc1 : cond0_1 (grid0.coords t))
    (x0 : Vec F S64 .i32) (x1 : Vec F S1x128x128 .bf16) (x2 : Vec F S1x16x128 .bf16) (x3 : Vec F S1x16x128 .i8) (x4 : Vec F S1x16x1 .f32) (x5 : Vec F S1x1024x128 .f32) (x6 : Vec F S1x16x2048 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 64 t.val) ∗ Ring.kept (cellP0_0 c) (slotW0_0 c fh0) (landed0_0 c fh0) (Ring.sl 2 (t.val + 1)) (Ring.bk 64 (t.val - 1)) ∗ Ring.inflight (flightW0_1 c fh1) (Ring.sl 2 t.val) (Ring.bk 64 t.val) ∗ Ring.kept (cellP0_1 c) (slotW0_1 c fh1) (landed0_1 c fh1) (Ring.sl 2 (t.val + 1)) (Ring.bk 64 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ Ring.inflight (flightW0_1 c fh1) (Ring.sl 2 (t.val + 1)) (Ring.bk 64 (t.val + 1)) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := F)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (¬cond0_0 (grid0.coords t)) := ⟨hc0⟩
    haveI : Fact (cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ff0_0, Hf0_0, Hrf0_0⟩, ⟨Hc0_0_1, ⟨%fs0_0_1, Hs0_0_1, Hw0_0_1⟩⟩, ⟨%ff0_1, Hf0_1, Hrf0_1⟩, ⟨Hc0_1_1, ⟨%fs0_1_1, Hs0_1_1, Hw0_1_1⟩⟩, HW, Hk⟩
    ihave Hsp0_0_1 := (src0_0_split c fh0 (Ring.sl 2 (t.val + 1)) (Ring.bk 64 (t.val + 1))).1 $$ Hw0_0_1
    icases Hsp0_0_1 with ⟨Hh0_0_1, Hr0_0_1⟩
    ihave Hsp0_1_1 := (src0_1_split c fh1 (Ring.sl 2 (t.val + 1)) (Ring.bk 64 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 64 t.val)).2; isplitl [Hf0_1_src]; · iexact Hf0_1_src
      iexact Hrf0_1
    iexists _; iexact HW

end Cert.Kernel.Gen

end
-- ==== Proof.Bits.RunC.lean ====
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 2500000 in
/-- The body's triple IN CASE C (`scf.if` 0 not taken, `scf.if` 1 not taken: points 63): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : ¬cond0_0 (grid0.coords t)) (hc1 : ¬cond0_1 (grid0.coords t))
    (x0 : Vec F S64 .i32) (x1 : Vec F S1x128x128 .bf16) (x2 : Vec F S1x16x128 .bf16) (x3 : Vec F S1x16x128 .i8) (x4 : Vec F S1x16x1 .f32) (x5 : Vec F S1x1024x128 .f32) (x6 : Vec F S1x16x2048 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 64 t.val) ∗ Ring.inflight (flightW0_1 c fh1) (Ring.sl 2 t.val) (Ring.bk 64 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.kept (cellP0_0 c) (slotW0_0 c fh0) (landed0_0 c fh0) (Ring.sl 2 t.val) (Ring.bk 64 t.val) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := F)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (¬cond0_0 (grid0.coords t)) := ⟨hc0⟩
    haveI : Fact (¬cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ff0_0, Hf0_0, Hrf0_0⟩, ⟨%ff0_1, Hf0_1, Hrf0_1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 64 t.val)).2; isplitl [Hf0_1_src]; · iexact Hf0_1_src
      iexact Hrf0_1
    iexists _; iexact HW

end Cert.Kernel.Gen

end
-- ==== Proof.Bits.Frame.lean ====
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ r, prngReg c r) ∗ ringAt0_0 c (V m c main_v9) k ∗ ringAt0_1 c (V m c main_v10) k)

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 4800000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 64 := N_0
  have hN : t.val < 64 := lt_of_lt_of_eq t.isLt (show cfg0.N = 64 from N_0)
  by_cases h0 : t.val % 64 = 0
  · by_cases h1 : t.val < 63
    · have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 64), Ring.AtK2_one' _ _ _ _ _ t.val hK00 (by decide : 1 < 64)]
      have hr1 := rstep0_1_A t ((hcond0_0 t).mpr h0) ((hcond0_1 t).mpr h1)
      obtain ⟨hK01, hK11⟩ := hr1
      rw [if_pos hK01, if_neg (show ¬t.val + 1 = 0 by omega)]
      rw [Ring.At₀_eq2' _ _ _ t.val hK01 (by decide : 2 ≤ 64), Ring.AtK2_one' _ _ _ _ _ t.val hK01 (by decide : 1 < 64)]
      iintro ⟨⟨HS2, HS3, HS4, HS5, HS6, HS7, Hg, ⟨-, Hfr0_0_0, Hfr0_0_1⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c t _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfr0_0_0]; · iexact Hfr0_0_0
      isplitl [Hfr0_0_1]; · iexact Hfr0_0_1
      isplitl [Hfr0_1_0]; · iexact Hfr0_1_0
      isplitl [Hfr0_1_1]; · iexact Hfr0_1_1
      isplitl [HW]; · iexact HW
      iintro ⟨H0, H1, H2, H3, H4, H5, H6, H7, HS2, HS3, HS4, HS5, HS6, HS7, Hfl0_0', Hkp0_0', Hfl0_1', Hkp0_1', ⟨%W', HW'⟩⟩
      isplitl [HS2 HS3 HS4 HS5 HS6 HS7 Hg Hfl0_0' Hkp0_0' Hfl0_1' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hfl0_0' Hkp0_0']
        · iapply Ring.with_homes₀
          isplitl [Hfl0_0']; · iexact Hfl0_0'
          iexact Hkp0_0'
        iapply Ring.with_homes₀
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega
  · by_cases h1 : t.val < 63
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      have hr1 := rstep0_1_B t (fun h => h0 ((hcond0_0 t).mp h)) ((hcond0_1 t).mpr h1)
      obtain ⟨hK11, hKB1, hKs1⟩ := hr1
      rw [if_neg (show ¬t.val = 0 by omega), if_neg (show ¬t.val + 1 = 0 by omega)]
      rw [Ring.AtK2_here _ _ _ _ _ t.val hK11 hKB1, Ring.AtK2_next _ _ _ _ _ t.val hK11 hKB1]
      iintro ⟨⟨HS2, HS3, HS4, HS5, HS6, HS7, Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c t _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfl0_0]; · iexact Hfl0_0
      isplitl [Hkp0_0]; · iexact Hkp0_0
      isplitl [Hfl0_1]; · iexact Hfl0_1
      isplitl [Hkp0_1]; · iexact Hkp0_1
      isplitl [HW]; · iexact HW
      iintro ⟨H0, H1, H2, H3, H4, H5, H6, H7, HS2, HS3, HS4, HS5, HS6, HS7, Hfl0_0', Hkp0_0', Hfl0_1', Hkp0_1', ⟨%W', HW'⟩⟩
      isplitl [HS2 HS3 HS4 HS5 HS6 HS7 Hg Hfl0_0' Hkp0_0' Hfl0_1' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hfl0_0' Hkp0_0']
        · iapply (Ring.with_homes (Idealize.SL.BI.Entails.refl _))
          isplitl [Hfl0_0']; · iexact Hfl0_0'
          iexact Hkp0_0'
        iapply (Ring.with_homes (Idealize.SL.BI.Entails.refl _))
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      have hr1 := rstep0_1_C t (fun h => h0 ((hcond0_0 t).mp h)) (fun h => h1 ((hcond0_1 t).mp h))
      obtain ⟨hK11, hKB1, hKs1⟩ := hr1
      rw [if_neg (show ¬t.val = 0 by omega), if_neg (show ¬t.val + 1 = 0 by omega)]
      rw [Ring.AtK2_here_last _ _ _ _ _ t.val hK11 hKB1, Ring.AtK2_next_last _ _ _ _ _ t.val hK11 hKB1]
      iintro ⟨⟨HS2, HS3, HS4, HS5, HS6, HS7, Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c t _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfl0_0]; · iexact Hfl0_0
      isplitl [Hfl0_1]; · iexact Hfl0_1
      isplitl [HW]; · iexact HW
      iintro ⟨H0, H1, H2, H3, H4, H5, H6, H7, HS2, HS3, HS4, HS5, HS6, HS7, Hkp0_0', Hkp0_1', ⟨%W', HW'⟩⟩
      isplitl [HS2 HS3 HS4 HS5 HS6 HS7 Hg Hkp0_0 Hkp0_1 Hkp0_0' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hkp0_0 Hkp0_0']
        · iapply (Ring.with_homes (Idealize.SL.BI.Entails.refl _))
          isplitl [Hkp0_0]; · iexact Hkp0_0
          iexact Hkp0_0'
        iapply (Ring.with_homes (Idealize.SL.BI.Entails.refl _))
        isplitl [Hkp0_1]; · iexact Hkp0_1
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HS2, HS3, HS4, HS5, HS6, HS7⟩, Hg, ⟨Hq0, Hq1, Hq2, Hq3⟩, ⟨Hh0, Hh1⟩⟩
  isplitl [HS2]; · iexact HS2
  isplitl [HS3]; · iexact HS3
  isplitl [HS4]; · iexact HS4
  isplitl [HS5]; · iexact HS5
  isplitl [HS6]; · iexact HS6
  isplitl [HS7]; · iexact HS7
  isplitl [Hg]; · iexact Hg
  isplitl [HR0_0 Hq0 Hq1 Hh0]
  · iapply (ring0_0_in (F := F) m c)
    isplitl [HR0_0]; · iexact HR0_0
    isplitl [Hq0 Hq1]
    · isplitl [Hq0]; · iexact Hq0
      iexact Hq1
    iexact Hh0
  iapply (ring0_1_in (F := F) m c)
  isplitl [HR0_1]; · iexact HR0_1
  isplitl [Hq2 Hq3]
  · isplitl [Hq2]; · iexact Hq2
    iexact Hq3
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 64 by rw [N_0]]
  iintro ⟨HS2, HS3, HS4, HS5, HS6, HS7, Hg, HR0_0, HR0_1⟩
  ihave HX0_0 := (ring0_0_out (F := F) m c) $$ HR0_0
  icases HX0_0 with ⟨HR0_0, ⟨Hq0, Hq1⟩, Hh0⟩
  ihave HX0_1 := (ring0_1_out (F := F) m c) $$ HR0_1
  icases HX0_1 with ⟨HR0_1, ⟨Hq2, Hq3⟩, Hh1⟩
  isplitl [HR0_0 HR0_1 HS2 HS3 HS4 HS5 HS6 HS7]
  · isplitl [HR0_0]; · iexact HR0_0
    isplitl [HR0_1]; · iexact HR0_1
    isplitl [HS2]; · iexact HS2
    isplitl [HS3]; · iexact HS3
    isplitl [HS4]; · iexact HS4
    isplitl [HS5]; · iexact HS5
    isplitl [HS6]; · iexact HS6
    iexact HS7
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.Ideal.Loops.lean ====
/- The two counted loops of the attention body as invariants: what one trip of each does, and the state before trip `k`
   as a recursion on the trips. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

/-- The frame kit's algebra paired with the transfer counters (`UR × Counters`: Lib/Pipeline/Frame.lean `UD`), at which
    the generated frame of a class-R kernel with DMA semaphores of its own runs. Every loop instance that frame meets
    is stated HERE rather than at `𝕄G`, as is any instance of a loop whose trips transfer. -/
local notation "𝕄D" => MT nD τ sig Unit (Elt F) ℕ (UR sig nD τ × Counters) ℕ
/-! ## `cc0_ring_attention` -/

/-- The class of invariants of `k0_part109`'s counted loop `k0_t1_loop` (`%3440 = scf.for %arg20 =
   %c0_i32_1113 to %3439 step %c1_i32_1115 iter_args(%arg21 = %3438) -> (vector<128x128xf32>) : i32
   {`), trip `k0_t1`, carrying `FVec F S128x128 .f32`, region `Gen.k0_t1_body`. Classifier: AFFINE —
   every store at a `Rect.unit` whose offsets are a stated closed form of the trips, no rectangle
   computed from the carried value, no transfer or conditional inside: the invariant is the pieces
   of the trips before `k`. The same recursion (`Gen.st_k0_t1`)
   gives the carried value before trip `k`, each trip's yield a function the run finds. One trip
   calls the parts `k0_part1`, `k0_part2`, `k0_part3`, `k0_part4`, `k0_part5`, `k0_part6`,
   `k0_part7`, `k0_part8`, `k0_part9`, `k0_part10`, `k0_part11`, `k0_part12`, `k0_part13`,
   `k0_part14`, `k0_part15`, `k0_part16`, `k0_part17`, `k0_part18`, `k0_part19`, `k0_part20`,
   `k0_part21`, `k0_part22`, `k0_part23`, `k0_part24`, `k0_part25`, `k0_part26`, `k0_part27`. Per
   trip it STORES through arg14 at (k0_off18 k0_t1). It LOADS through arg16 at (k0_off13 k0_t1);
   arg16 at (k0_off14 k0_t1); v3568 at (k0_off16 k0_t1); v3880 at (k0_off16 k0_t1); v4192 at
   (k0_off16 k0_t1); v4504 at (k0_off16 k0_t1); arg15 at (k0_off17 k0_t1); arg14 at (k0_off18
   k0_t1). Below: `Gen.loopInv_k0_t1` (`@[sl_loop]`), at `UR sig nD τ × Counters` (`𝕄D`:
   where the generated frame of a kernel with DMA semaphores of its own runs) — a run at that
   algebra goes through the loop with nothing more to state; a proof at another algebra instances
   the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (init : FVec F S128x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105)

/-! ### `k0_t1_loop`: the invariant (classifier: affine) -/

/-- One trip's resources: what the region reads (arg15, arg16, v3568) at its contents, what it
   writes (arg14) at any. -/
abbrev Trip_k0_t1 (c : Dev nD) (arg15 : Memref sig .tc .vmem S4x8192 .f32) (arg16 : Memref sig .tc .vmem S2x4x256x128 .f32) (arg14 : Memref sig .tc .vmem S128x8192 .f32) (i : grid0.Coords) (arg11 : Memref sig .tc .vmem S2x32768x128 .i8) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (f_arg14 : BufTy.Contents (Elt F) arg14.view.ty) : sProp 𝕄D :=
  iprop((arg15.view.loc (c : Thread nD τ) ↦[arg15.view.set]{fullShare} X_arg15) ∗ (arg16.view.loc (c : Thread nD τ) ↦[arg16.view.set]{fullShare} X_arg16) ∗ (mv_v3568.view.loc (c : Thread nD τ) ↦[mv_v3568.view.set]{fullShare} X_v3568) ∗ (arg14.view.loc (c : Thread nD τ) ↦[arg14.view.set]{fullShare} f_arg14))

section
variable (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty)

/-- ONE TRIP of `k0_t1_loop` at a symbolic `k` and carried value `acc`, run by `sl_exec` (its
   rectangles' offsets closed forms of `k`, their geometry linear arithmetic): what it yields and
   the pieces it writes into arg14 are the run's own finds — the witnesses `sl_close` assigns
   handing the buffers to the continuation, as functions of the carried value. `@[irreducible]`:
   cited, never unfolded. -/
@[irreducible] def trip_k0_t1 (k : Fin k0_t1_loop.trips) :
    Σ' (R_k0_t1 : ((FVec F S128x128 .f32) → FVec F S128x128 .f32)) , { L_arg14 : ((FVec F S128x128 .f32) → List (View.Piece (Elt F) S128x8192 .f32)) // ∀ (E : Set ℕ) (acc : FVec F S128x128 .f32) (f_arg14 : BufTy.Contents (Elt F) arg14.view.ty),
      Trip_k0_t1 (F := F) c arg15 arg16 arg14 i arg11 mv_v3568 hcanon_v3568 X_arg15 X_arg16 X_v3568 f_arg14
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 k acc)
          (fun yld => iprop(⌜yld = R_k0_t1 acc⌝ ∗ Trip_k0_t1 (F := F) c arg15 arg16 arg14 i arg11 mv_v3568 hcanon_v3568 X_arg15 X_arg16 X_v3568 (arg14.view.writes (Elt F) f_arg14 (L_arg14 acc)))) } := by
  have hk : k.val < 32 := Nat.lt_of_lt_of_le k.isLt k0_t1_abs.2.1
  refine ⟨?_, ?_, fun E acc f_arg14 => ?run⟩
  case run =>
    unfold k0_t1_body
    iintro ⟨HR_arg15, HR_arg16, HR_v3568, HW_arg14⟩
    sl_exec
    sl_step
    sl_close

/-- The trip's result (a plain projection of `trip_…`, for the recursion below to cite without its
   proof). -/
abbrev tripR_k0_t1 (k : Fin k0_t1_loop.trips) (acc : FVec F S128x128 .f32) : FVec F S128x128 .f32 :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).1 acc

/-- The trip's piece lists (plain projections of `trip_…`, for the recursion below to cite without
   its proof), at the carried value. -/
abbrev tripL_k0_t1 (k : Fin k0_t1_loop.trips) (acc : FVec F S128x128 .f32) : List (View.Piece (Elt F) S128x8192 .f32) :=
  (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).2.1 acc

/-- Trip `k`'s contribution to the state the recursion `st_k0_t1` below carries (`prev`): its result
   as the new carried value and its pieces in front, per written memref; past the last trip, `prev`
   itself. -/
@[irreducible] def st_k0_t1Step (init : FVec F S128x128 .f32) (k : ℕ) (prev : (FVec F S128x128 .f32) × List (View.Piece (Elt F) S128x8192 .f32)) : (FVec F S128x128 .f32) × List (View.Piece (Elt F) S128x8192 .f32) :=
  if h : k < k0_t1_loop.trips then
    (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 ⟨k, h⟩ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 ⟨k, h⟩ prev.1) ++ prev.2)
  else prev

/-- The STATE before trip `k`: the carried value and, per written memref, the pieces of the trips
   before (last first), from the loop's initial value `init`. -/
def st_k0_t1 (init : FVec F S128x128 .f32) : ℕ → (FVec F S128x128 .f32) × List (View.Piece (Elt F) S128x8192 .f32)
  | 0 => (init, [])
  | k + 1 => st_k0_t1Step 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k (st_k0_t1 init k)

theorem st_k0_t1_succ (init : FVec F S128x128 .f32) (k : Fin k0_t1_loop.trips) :
    st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init (k.val + 1)
      = ((tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).1), (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).1) ++ (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k.val).2) := by
  rw [st_k0_t1.eq_2]; unfold st_k0_t1Step; exact dif_pos k.isLt

/-- The carried value before trip 0 is the initial one: the invariant's equation at loop entry,
   which the run closes by this (`sl_pure`) without unfolding the value it holds. -/
theorem st_k0_t1_zero (init : FVec F S128x128 .f32) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init 0).1 = init := rfl

/-- THE INVARIANT before trip `k`: arg15, arg16, v3568 read at `X_·`; arg14 holding the pieces of
   the trips before `k` written over the contents at loop entry `G_·` (stated `∃ f, … ∗ ⌜f = …⌝`, so
   that a hypothesis of any contents matches and the equation is what is proved); and `acc` equal to
   the state's carried value (an equation the run substitutes after the loop). -/
abbrev inv_k0_t1 (G_arg14 : BufTy.Contents (Elt F) arg14.view.ty) (init : FVec F S128x128 .f32) (k : ℕ) (acc : FVec F S128x128 .f32) : sProp 𝕄D :=
  iprop((arg15.view.loc (c : Thread nD τ) ↦[arg15.view.set]{fullShare} X_arg15) ∗ (arg16.view.loc (c : Thread nD τ) ↦[arg16.view.set]{fullShare} X_arg16) ∗ (mv_v3568.view.loc (c : Thread nD τ) ↦[mv_v3568.view.set]{fullShare} X_v3568) ∗ (∃ f, (arg14.view.loc (c : Thread nD τ) ↦[arg14.view.set]{fullShare} f) ∗ ⌜f = arg14.view.writes (Elt F) G_arg14 (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).2⌝) ∗ ⌜acc = (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).1⌝)

end

set_option warn.classDefReducibility false in
/-- THE LOOP BY ITS INVARIANT (`@[sl_loop]`: `sl_exec` finds it meeting `k0_t1_loop`,
   fixing `X_· G_·` and `init` against the context; after the loop each written memref holds `writes
   G (st … trips).2` and what it yields is `(st … trips).1`). -/
@[sl_loop] def loopInv_k0_t1 (𝒱 : Variants) (c : Dev nD) (bd : Option 𝒱.V) (E : Set ℕ) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (G_arg14 : BufTy.Contents (Elt F) arg14.view.ty) (init : FVec F S128x128 .f32) :
    LoopInvTy_k0_t1 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 init where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 G_arg14 init
  step k acc := by
    iintro ⟨HR_arg15, HR_arg16, HR_v3568, ⟨%f_arg14, HW_arg14, %h_arg14⟩, %h_acc⟩
    subst h_acc
    iapply (wp_wand_r Idealize.ShloMosaic.frame (wpE (defs₀ (F := F)) 𝒱 (c : Thread nD τ) bd) E)
    isplitl [HR_arg15 HR_arg16 HR_v3568 HW_arg14]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).2.2 E (st_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 init k).1 f_arg14)
      isplitl [HR_arg15]; · iexact HR_arg15
      isplitl [HR_arg16]; · iexact HR_arg16
      isplitl [HR_v3568]; · iexact HR_v3568
      iexact HW_arg14
    · iintro %yld ⟨%h_res, HR_arg15, HR_arg16, HR_v3568, HW_arg14⟩
      isplitl [HR_arg15]; · iexact HR_arg15
      isplitl [HR_arg16]; · iexact HR_arg16
      isplitl [HR_v3568]; · iexact HR_v3568
      simp only [st_k0_t1_succ]
      isplitl [HW_arg14]
      · iexists _; isplitl [HW_arg14]; · iexact HW_arg14
        ipureintro; rw [h_arg14, ← View.writes_append]
      ipureintro; rw [h_res]

/-- The class of invariants of `k0_part110`'s counted loop `k0_t2_loop` (`scf.for %arg20 =
   %c0_i32_1134 to %3470 step %c1_i32_1135 : i32 {`), trip `k0_t2`, carrying `Unit`, region
   `Gen.k0_t2_body`. Classifier: AFFINE — every store at a `Rect.unit` whose offsets are a stated
   closed form of the trips, nothing carried, no transfer or conditional inside: the invariant is
   the pieces of the trips before `k`. The region loads back what
   it stores into `arg18`, `arg19` (an accumulation): each trip's pieces are stated as functions of
   the contents it finds there. One trip calls the parts `k0_part28`, `k0_part29`. Per trip it
   STORES through arg19 at ![0, 0]; arg18 at ![0, 0]; arg18 at ![64, 0]. It LOADS through arg14 at
   (k0_off20 k0_t2); arg19 at ![0, 0]; arg17 at (k0_off21 k0_t2); v3550 at (k0_off23 k0_t2); v3562
   at (k0_off23 k0_t2); v3574 at (k0_off23 k0_t2); v3586 at (k0_off23 k0_t2); arg18 at ![0, 0];
   arg18 at ![64, 0]. Below: `Gen.loopInv_k0_t2` (`@[sl_loop]`), at `UR sig nD τ ×
   Counters` (`𝕄D`: where the generated frame of a kernel with DMA semaphores of its own runs) — a
   run at that algebra goes through the loop with nothing more to state; a proof at another algebra
   instances the class itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454)

/-! ### `k0_t2_loop`: the invariant (classifier: affine) -/

/-- One trip's resources: what the region reads (arg14, arg17, v3550) at its contents, what it
   writes (arg18, arg19) at any. -/
abbrev Trip_k0_t2 (c : Dev nD) (arg14 : Memref sig .tc .vmem S128x8192 .f32) (arg17 : Memref sig .tc .vmem S16x8192 .f32) (arg18 : Memref sig .tc .vmem S128x256 .f32) (arg19 : Memref sig .tc .vmem S128x128 .f32) (i : grid0.Coords) (arg12 : Memref sig .tc .vmem S2x32768x128 .i8) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (f_arg18 : BufTy.Contents (Elt F) arg18.view.ty) (f_arg19 : BufTy.Contents (Elt F) arg19.view.ty) : sProp 𝕄D :=
  iprop((arg14.view.loc (c : Thread nD τ) ↦[arg14.view.set]{fullShare} X_arg14) ∗ (arg17.view.loc (c : Thread nD τ) ↦[arg17.view.set]{fullShare} X_arg17) ∗ (mv_v3550.view.loc (c : Thread nD τ) ↦[mv_v3550.view.set]{fullShare} X_v3550) ∗ (arg18.view.loc (c : Thread nD τ) ↦[arg18.view.set]{fullShare} f_arg18) ∗ (arg19.view.loc (c : Thread nD τ) ↦[arg19.view.set]{fullShare} f_arg19))

section
variable (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty)

/-- ONE TRIP of `k0_t2_loop` at a symbolic `k`, run by `sl_exec` (its rectangles' offsets closed
   forms of `k`, their geometry linear arithmetic): the pieces it writes into arg18, arg19 are the
   run's own finds — the witnesses `sl_close` assigns handing the buffers to the continuation, as
   functions of the contents the trip finds in the memrefs it writes (the region loads some of them
   back). `@[irreducible]`: cited, never unfolded. -/
@[irreducible] def trip_k0_t2 (k : Fin k0_t2_loop.trips) :
    Σ' (L_arg18 : (BufTy.Contents (Elt F) arg18.view.ty → BufTy.Contents (Elt F) arg19.view.ty → List (View.Piece (Elt F) S128x256 .f32))) , { L_arg19 : (BufTy.Contents (Elt F) arg18.view.ty → BufTy.Contents (Elt F) arg19.view.ty → List (View.Piece (Elt F) S128x128 .f32)) // ∀ (E : Set ℕ) (f_arg18 : BufTy.Contents (Elt F) arg18.view.ty) (f_arg19 : BufTy.Contents (Elt F) arg19.view.ty),
      Trip_k0_t2 (F := F) c arg14 arg17 arg18 arg19 i arg12 mv_v3550 hcanon_v3550 X_arg14 X_arg17 X_v3550 f_arg18 f_arg19
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 k PUnit.unit)
          (fun _ => Trip_k0_t2 (F := F) c arg14 arg17 arg18 arg19 i arg12 mv_v3550 hcanon_v3550 X_arg14 X_arg17 X_v3550 (arg18.view.writes (Elt F) f_arg18 (L_arg18 f_arg18 f_arg19)) (arg19.view.writes (Elt F) f_arg19 (L_arg19 f_arg18 f_arg19))) } := by
  have hk : k.val < 8 := Nat.lt_of_lt_of_le k.isLt k0_t2_abs.2.1
  refine ⟨?_, ?_, fun E f_arg18 f_arg19 => ?run⟩
  case run =>
    unfold k0_t2_body
    iintro ⟨HR_arg14, HR_arg17, HR_v3550, HW_arg18, HW_arg19⟩
    sl_exec
    sl_step
    sl_close

/-- The trip's piece lists (plain projections of `trip_…`, for the recursion below to cite without
   its proof), at the contents the trip finds in the written memrefs. -/
abbrev tripL_k0_t2 (k : Fin k0_t2_loop.trips) (f_arg18 : BufTy.Contents (Elt F) arg18.view.ty) (f_arg19 : BufTy.Contents (Elt F) arg19.view.ty) : List (View.Piece (Elt F) S128x256 .f32) × List (View.Piece (Elt F) S128x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).1 f_arg18 f_arg19, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).2.1 f_arg18 f_arg19)

/-- Trip `k`'s contribution to the state the recursion `pb_k0_t2` below carries (`prev`): its pieces
   in front, per written memref; past the last trip, `prev` itself. -/
@[irreducible] def pb_k0_t2Step (G_arg18 : BufTy.Contents (Elt F) arg18.view.ty) (G_arg19 : BufTy.Contents (Elt F) arg19.view.ty) (k : ℕ) (prev : List (View.Piece (Elt F) S128x256 .f32) × List (View.Piece (Elt F) S128x128 .f32)) : List (View.Piece (Elt F) S128x256 .f32) × List (View.Piece (Elt F) S128x128 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 ⟨k, h⟩ (arg18.view.writes (Elt F) G_arg18 prev.1) (arg19.view.writes (Elt F) G_arg19 prev.2)).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 ⟨k, h⟩ (arg18.view.writes (Elt F) G_arg18 prev.1) (arg19.view.writes (Elt F) G_arg19 prev.2)).2 ++ prev.2)
  else prev

/-- The pieces of the trips before `k` (last first), per written memref, starting from the contents
   `G_·` at loop entry; each trip's pieces taken at the contents the earlier trips left. -/
def pb_k0_t2 (G_arg18 : BufTy.Contents (Elt F) arg18.view.ty) (G_arg19 : BufTy.Contents (Elt F) arg19.view.ty) : ℕ → List (View.Piece (Elt F) S128x256 .f32) × List (View.Piece (Elt F) S128x128 .f32)
  | 0 => ([], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k (pb_k0_t2 G_arg18 G_arg19 k)

theorem pb_k0_t2_succ (G_arg18 : BufTy.Contents (Elt F) arg18.view.ty) (G_arg19 : BufTy.Contents (Elt F) arg19.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k (arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2)).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k (arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).1) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2)).2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k.val).2) := by
  rw [pb_k0_t2.eq_2]; unfold pb_k0_t2Step; exact dif_pos k.isLt

/-- THE INVARIANT before trip `k`: arg14, arg17, v3550 read at `X_·`; arg18, arg19 holding the
   pieces of the trips before `k` written over the contents at loop entry `G_·` (stated `∃ f, … ∗ ⌜f
   = …⌝`, so that a hypothesis of any contents matches and the equation is what is proved). -/
abbrev inv_k0_t2 (G_arg18 : BufTy.Contents (Elt F) arg18.view.ty) (G_arg19 : BufTy.Contents (Elt F) arg19.view.ty) (k : ℕ) (_u : PUnit) : sProp 𝕄D :=
  iprop((arg14.view.loc (c : Thread nD τ) ↦[arg14.view.set]{fullShare} X_arg14) ∗ (arg17.view.loc (c : Thread nD τ) ↦[arg17.view.set]{fullShare} X_arg17) ∗ (mv_v3550.view.loc (c : Thread nD τ) ↦[mv_v3550.view.set]{fullShare} X_v3550) ∗ (∃ f, (arg18.view.loc (c : Thread nD τ) ↦[arg18.view.set]{fullShare} f) ∗ ⌜f = arg18.view.writes (Elt F) G_arg18 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k).1⌝) ∗ (∃ f, (arg19.view.loc (c : Thread nD τ) ↦[arg19.view.set]{fullShare} f) ∗ ⌜f = arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k).2⌝))

end

set_option warn.classDefReducibility false in
/-- THE LOOP BY ITS INVARIANT (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (G_arg18 : BufTy.Contents (Elt F) arg18.view.ty) (G_arg19 : BufTy.Contents (Elt F) arg19.view.ty) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19
  step k acc := by
    iintro ⟨HR_arg14, HR_arg17, HR_v3550, ⟨%f_arg18, HW_arg18, %h_arg18⟩, ⟨%f_arg19, HW_arg19, %h_arg19⟩⟩
    iapply (wp_wand_r Idealize.ShloMosaic.frame (wpE (defs₀ (F := F)) 𝒱 (c : Thread nD τ) bd) E)
    isplitl [HR_arg14 HR_arg17 HR_v3550 HW_arg18 HW_arg19]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).2.2 E f_arg18 f_arg19)
      isplitl [HR_arg14]; · iexact HR_arg14
      isplitl [HR_arg17]; · iexact HR_arg17
      isplitl [HR_v3550]; · iexact HR_v3550
      isplitl [HW_arg18]; · iexact HW_arg18
      iexact HW_arg19
    · iintro %_ ⟨HR_arg14, HR_arg17, HR_v3550, HW_arg18, HW_arg19⟩
      isplitl [HR_arg14]; · iexact HR_arg14
      isplitl [HR_arg17]; · iexact HR_arg17
      isplitl [HR_v3550]; · iexact HR_v3550
      rw [pb_k0_t2_succ]
      isplitl [HW_arg18]
      · iexists _; isplitl [HW_arg18]; · iexact HW_arg18
        ipureintro; rw [h_arg18, h_arg19, ← View.writes_append]
      iexists _; isplitl [HW_arg19]; · iexact HW_arg19
      ipureintro; rw [h_arg18, h_arg19, ← View.writes_append]

end Cert.KernelIdeal.Gen

end
-- ==== Proof.Ideal.Score.lean ====
/- What one trip of the score loop computes, written once for the four groups of heads: the lanes of the key scales
   gathered, interleaved by row pairs and multiplied onto the key codes, and the products with the two halves of the queries. -/
module

public import proofs.«01_k».proof.Proof.Ideal.Loops

@[expose] public section
set_option maxRecDepth 16384
noncomputable section
namespace Cert.KernelIdeal.Gen
open Idealize.ShloMosaic Idealize.ShloMosaic.TcCoe Idealize.ShloMosaic.Tactic

variable {F : FTy → Type} [FloatOps F] [Named F]

/-- The tile of 128 slots (of the four of a scale tile) that trip `k` is in. -/
def slotTile (k : Fin k0_t1_loop.trips) : BitVec 32 := BitVec.ofNat 32 (k.val / 2 % 4)

/-- A gather index with negative entries wrapped (none is). -/
def gIdx (idx : IVec S8x128 32) : IVec S8x128 32 :=
  shapeCast S8x128 (shapeCast S8x128x1 (select (cmpi .slt idx (broadcast S8x128 0#32)) (addi idx (broadcast S8x128 128#32)) idx)
    shapeCasts_S8x128_S8x128x1) shapeCasts_S8x128x1_S8x128

/-- Eight rows gathered along the lanes. -/
def gath (off : Fin 2 → ℕ) (h : S128x128.Slices off S8x128) (rows : FVec F S128x128 .f32) (idx : IVec S8x128 32) : FVec F S8x128 .f32 :=
  dynamicGather 1 (extractStridedSlice S8x128 off rows h) (gIdx idx)

/-- All 128 rows gathered along the lanes, eight at a time by the same index. -/
def laneGather (rows : FVec F S128x128 .f32) (idx : IVec S8x128 32) : FVec F S128x128 .f32 :=
  concatenate S128x128 0 [⟨S8x128, gath ![0, 0] slices_S128x128_o0_0_S8x128 rows idx⟩, ⟨S8x128, gath ![8, 0] slices_S128x128_o8_0_S8x128 rows idx⟩, ⟨S8x128, gath ![16, 0] slices_S128x128_o16_0_S8x128 rows idx⟩, ⟨S8x128, gath ![24, 0] slices_S128x128_o24_0_S8x128 rows idx⟩, ⟨S8x128, gath ![32, 0] slices_S128x128_o32_0_S8x128 rows idx⟩, ⟨S8x128, gath ![40, 0] slices_S128x128_o40_0_S8x128 rows idx⟩, ⟨S8x128, gath ![48, 0] slices_S128x128_o48_0_S8x128 rows idx⟩, ⟨S8x128, gath ![56, 0] slices_S128x128_o56_0_S8x128 rows idx⟩, ⟨S8x128, gath ![64, 0] slices_S128x128_o64_0_S8x128 rows idx⟩, ⟨S8x128, gath ![72, 0] slices_S128x128_o72_0_S8x128 rows idx⟩, ⟨S8x128, gath ![80, 0] slices_S128x128_o80_0_S8x128 rows idx⟩, ⟨S8x128, gath ![88, 0] slices_S128x128_o88_0_S8x128 rows idx⟩, ⟨S8x128, gath ![96, 0] slices_S128x128_o96_0_S8x128 rows idx⟩, ⟨S8x128, gath ![104, 0] slices_S128x128_o104_0_S8x128 rows idx⟩, ⟨S8x128, gath ![112, 0] slices_S128x128_o112_0_S8x128 rows idx⟩, ⟨S8x128, gath ![120, 0] slices_S128x128_o120_0_S8x128 rows idx⟩]
    concatenates_S8x128_S8x128_S8x128_S8x128_S8x128_S8x128_S8x128_S8x128_S8x128_S8x128_S8x128_S8x128_S8x128_S8x128_S8x128_S8x128_S128x128_d0

/-- Rows of two arrays alternating. -/
def rowPairs (e o : FVec F S128x128 .f32) : FVec F S256x128 .bf16 :=
  truncf .bf16 (shapeCast S256x128 (concatenate S128x2x128 1
    [⟨S128x1x128, shapeCast S128x1x128 e shapeCasts_S128x128_S128x1x128⟩,
     ⟨S128x1x128, shapeCast S128x1x128 o shapeCasts_S128x128_S128x1x128⟩] concatenates_S128x1x128_S128x1x128_S128x2x128_d1)
    shapeCasts_S128x2x128_S256x128) bitsLt_bf16_f32

/-- The codes of the four heads of a group, of 64 slots of sixteen heads each. -/
def widen64 (off : Fin 3 → ℕ) (h : S64x4x128.Slices off S64x1x128) (rows : IVec S1024x128 8) : IVec S256x128 8 :=
  bitcast S256x128 8 (shapeCast S64x128 (extractStridedSlice S64x1x128 off
    (shapeCast S64x4x128 (bitcast S256x128 32 rows bitcasts_S1024x128_w8_S256x128_w32) shapeCasts_S256x128_S64x4x128)
    h) shapeCasts_S64x1x128_S64x128) bitcasts_S64x128_w32_S256x128_w8

/-- The lanes of the scales that a group's heads read. -/
def quadIdx (base : IVec S8x128 32) (st : BitVec 32) (c : BitVec 32) : IVec S8x128 32 :=
  addi base (broadcast S8x128 (Scalar.addi c (Scalar.muli st 4#32)))

/-- The keys of a group: codes times scales. -/
def keysQ (off : Fin 3 → ℕ) (h : S64x4x128.Slices off S64x1x128) (c : BitVec 32) (rows : IVec S1024x128 8)
    (u0 u1 : Vec F S1x1x128x128 .f32) (base : IVec S8x128 32) (st : BitVec 32) : FVec F S256x128 .bf16 :=
  mulf (sitofp .bf16 (widen64 off h rows)) (rowPairs (laneGather (k0_pay2 u0) (quadIdx base st c)) (laneGather (k0_pay3 u1) (quadIdx base st c)))

/-- The scores of one trip, before the bias. -/
def scoreRaw (q0 q1 : FVec F S64x256 .bf16) (rows : IVec S1024x128 8) (u0 u1 : Vec F S1x1x128x128 .f32) (base : IVec S8x128 32)
    (st : BitVec 32) : FVec F S128x256 .f32 :=
  concatenate S128x256 0
    [⟨S64x256, matmul dot_S64x256_S256x256_S64x256_1_1_0_0_n_n none q0 (concatenate S256x256 1
        [⟨S256x128, keysQ ![0, 0, 0] slices_S64x4x128_o0_0_0_S64x1x128 0#32 rows u0 u1 base st⟩, ⟨S256x128, keysQ ![0, 1, 0] slices_S64x4x128_o0_1_0_S64x1x128 32#32 rows u0 u1 base st⟩] concatenates_S256x128_S256x128_S256x256_d1)
        (constant S64x256 .f32 0x00000000#32)⟩,
     ⟨S64x256, matmul dot_S64x256_S256x256_S64x256_1_1_0_0_n_n none q1 (concatenate S256x256 1
        [⟨S256x128, keysQ ![0, 2, 0] slices_S64x4x128_o0_2_0_S64x1x128 64#32 rows u0 u1 base st⟩, ⟨S256x128, keysQ ![0, 3, 0] slices_S64x4x128_o0_3_0_S64x1x128 96#32 rows u0 u1 base st⟩] concatenates_S256x128_S256x128_S256x256_d1)
        (constant S64x256 .f32 0x00000000#32)⟩] concatenates_S64x256_S64x256_S128x256_d0

/-- The scores of one trip with the bias added. -/
def scoreTrip (q0 q1 : FVec F S64x256 .bf16) (rows : IVec S1024x128 8) (u0 u1 : Vec F S1x1x128x128 .f32) (base : IVec S8x128 32)
    (st : BitVec 32) (b : Vec F S4x256 .f32) : FVec F S128x256 .f32 :=
  k0_pay456 (scoreRaw q0 q1 rows u0 u1 base st) (k0_pay158 b)

/-- The running maximum after one trip. -/
def maxTrip (acc : FVec F S128x128 .f32) (t : FVec F S128x256 .f32) : FVec F S128x128 .f32 :=
  maximumf (maximumf acc (extractStridedSlice S128x128 ![0, 0] t slices_S128x256_o0_0_S128x128))
    (extractStridedSlice S128x128 ![0, 128] t slices_S128x256_o0_128_S128x128)

theorem tile_eq : ∀ k : Fin k0_t1_loop.trips, trip_k0_t1.sl.v3546 k = slotTile k := by decide +kernel

theorem idx0 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v3564 v12 v3412 c32_i32_1105 k = (quadIdx (k0_pay454 v12 v3412 c32_i32_1105) (slotTile k) 0#32) := by
  rw [← tile_eq]; rfl
theorem even0 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v3721 arg16 v12 v3412 c32_i32_1105 X_arg16 k = laneGather (k0_pay2 (View.readAt (Elt F) arg16.view (Rect.unit (s := S2x4x256x128) (k0_off13 k) S1x1x128x128.size (k0_off13_inb k)).toLoadRect X_arg16)) (quadIdx (k0_pay454 v12 v3412 c32_i32_1105) (slotTile k) 0#32) := by
  rw [← idx0 arg16 v12 v3412 c32_i32_1105 mv_v3568 X_arg16 X_v3568 k]; rfl
theorem odd0 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v3866 arg16 v12 v3412 c32_i32_1105 X_arg16 k = laneGather (k0_pay3 (View.readAt (Elt F) arg16.view (Rect.unit (s := S2x4x256x128) (k0_off14 k) S1x1x128x128.size (k0_off14_inb k)).toLoadRect X_arg16)) (quadIdx (k0_pay454 v12 v3412 c32_i32_1105) (slotTile k) 0#32) := by
  rw [← idx0 arg16 v12 v3412 c32_i32_1105 mv_v3568 X_arg16 X_v3568 k]; rfl
theorem keys0 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v3872 arg16 v12 v3412 c32_i32_1105 mv_v3568 X_arg16 X_v3568 k =
    keysQ ![0, 0, 0] slices_S64x4x128_o0_0_0_S64x1x128 0#32 (View.readAt (Elt F) mv_v3568.view (Rect.unit (s := S32768x128) (k0_off16 k) S1024x128.size (k0_off16_inb k)).toLoadRect X_v3568) (View.readAt (Elt F) arg16.view (Rect.unit (s := S2x4x256x128) (k0_off13 k) S1x1x128x128.size (k0_off13_inb k)).toLoadRect X_arg16) (View.readAt (Elt F) arg16.view (Rect.unit (s := S2x4x256x128) (k0_off14 k) S1x1x128x128.size (k0_off14_inb k)).toLoadRect X_arg16) (k0_pay454 v12 v3412 c32_i32_1105) (slotTile k) := by
  unfold trip_k0_t1.sl.v3872 keysQ
  rw [← even0 arg16 v12 v3412 c32_i32_1105 mv_v3568 X_arg16 X_v3568 k, ← odd0 arg16 v12 v3412 c32_i32_1105 mv_v3568 X_arg16 X_v3568 k]; rfl

theorem idx1 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v3876 v12 v3412 c32_i32_1105 k = (quadIdx (k0_pay454 v12 v3412 c32_i32_1105) (slotTile k) 32#32) := by
  rw [← tile_eq]; rfl
theorem even1 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4033 arg16 v12 v3412 c32_i32_1105 X_arg16 k = laneGather (k0_pay2 (View.readAt (Elt F) arg16.view (Rect.unit (s := S2x4x256x128) (k0_off13 k) S1x1x128x128.size (k0_off13_inb k)).toLoadRect X_arg16)) (quadIdx (k0_pay454 v12 v3412 c32_i32_1105) (slotTile k) 32#32) := by
  rw [← idx1 arg16 v12 v3412 c32_i32_1105 mv_v3568 X_arg16 X_v3568 k]; rfl
theorem odd1 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4178 arg16 v12 v3412 c32_i32_1105 X_arg16 k = laneGather (k0_pay3 (View.readAt (Elt F) arg16.view (Rect.unit (s := S2x4x256x128) (k0_off14 k) S1x1x128x128.size (k0_off14_inb k)).toLoadRect X_arg16)) (quadIdx (k0_pay454 v12 v3412 c32_i32_1105) (slotTile k) 32#32) := by
  rw [← idx1 arg16 v12 v3412 c32_i32_1105 mv_v3568 X_arg16 X_v3568 k]; rfl
theorem keys1 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4184 arg16 v12 v3412 c32_i32_1105 mv_v3568 X_arg16 X_v3568 k =
    keysQ ![0, 1, 0] slices_S64x4x128_o0_1_0_S64x1x128 32#32 (View.readAt (Elt F) mv_v3568.view (Rect.unit (s := S32768x128) (k0_off16 k) S1024x128.size (k0_off16_inb k)).toLoadRect X_v3568) (View.readAt (Elt F) arg16.view (Rect.unit (s := S2x4x256x128) (k0_off13 k) S1x1x128x128.size (k0_off13_inb k)).toLoadRect X_arg16) (View.readAt (Elt F) arg16.view (Rect.unit (s := S2x4x256x128) (k0_off14 k) S1x1x128x128.size (k0_off14_inb k)).toLoadRect X_arg16) (k0_pay454 v12 v3412 c32_i32_1105) (slotTile k) := by
  unfold trip_k0_t1.sl.v4184 keysQ
  rw [← even1 arg16 v12 v3412 c32_i32_1105 mv_v3568 X_arg16 X_v3568 k, ← odd1 arg16 v12 v3412 c32_i32_1105 mv_v3568 X_arg16 X_v3568 k]; rfl

theorem idx2 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4188 v12 v3412 c32_i32_1105 k = (quadIdx (k0_pay454 v12 v3412 c32_i32_1105) (slotTile k) 64#32) := by
  rw [← tile_eq]; rfl
theorem even2 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4345 arg16 v12 v3412 c32_i32_1105 X_arg16 k = laneGather (k0_pay2 (View.readAt (Elt F) arg16.view (Rect.unit (s := S2x4x256x128) (k0_off13 k) S1x1x128x128.size (k0_off13_inb k)).toLoadRect X_arg16)) (quadIdx (k0_pay454 v12 v3412 c32_i32_1105) (slotTile k) 64#32) := by
  rw [← idx2 arg16 v12 v3412 c32_i32_1105 mv_v3568 X_arg16 X_v3568 k]; rfl
theorem odd2 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4490 arg16 v12 v3412 c32_i32_1105 X_arg16 k = laneGather (k0_pay3 (View.readAt (Elt F) arg16.view (Rect.unit (s := S2x4x256x128) (k0_off14 k) S1x1x128x128.size (k0_off14_inb k)).toLoadRect X_arg16)) (quadIdx (k0_pay454 v12 v3412 c32_i32_1105) (slotTile k) 64#32) := by
  rw [← idx2 arg16 v12 v3412 c32_i32_1105 mv_v3568 X_arg16 X_v3568 k]; rfl
theorem keys2 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4496 arg16 v12 v3412 c32_i32_1105 mv_v3568 X_arg16 X_v3568 k =
    keysQ ![0, 2, 0] slices_S64x4x128_o0_2_0_S64x1x128 64#32 (View.readAt (Elt F) mv_v3568.view (Rect.unit (s := S32768x128) (k0_off16 k) S1024x128.size (k0_off16_inb k)).toLoadRect X_v3568) (View.readAt (Elt F) arg16.view (Rect.unit (s := S2x4x256x128) (k0_off13 k) S1x1x128x128.size (k0_off13_inb k)).toLoadRect X_arg16) (View.readAt (Elt F) arg16.view (Rect.unit (s := S2x4x256x128) (k0_off14 k) S1x1x128x128.size (k0_off14_inb k)).toLoadRect X_arg16) (k0_pay454 v12 v3412 c32_i32_1105) (slotTile k) := by
  unfold trip_k0_t1.sl.v4496 keysQ
  rw [← even2 arg16 v12 v3412 c32_i32_1105 mv_v3568 X_arg16 X_v3568 k, ← odd2 arg16 v12 v3412 c32_i32_1105 mv_v3568 X_arg16 X_v3568 k]; rfl

theorem idx3 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4500 v12 v3412 c32_i32_1105 k = (quadIdx (k0_pay454 v12 v3412 c32_i32_1105) (slotTile k) 96#32) := by
  rw [← tile_eq]; rfl
theorem even3 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4657 arg16 v12 v3412 c32_i32_1105 X_arg16 k = laneGather (k0_pay2 (View.readAt (Elt F) arg16.view (Rect.unit (s := S2x4x256x128) (k0_off13 k) S1x1x128x128.size (k0_off13_inb k)).toLoadRect X_arg16)) (quadIdx (k0_pay454 v12 v3412 c32_i32_1105) (slotTile k) 96#32) := by
  rw [← idx3 arg16 v12 v3412 c32_i32_1105 mv_v3568 X_arg16 X_v3568 k]; rfl
theorem odd3 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4802 arg16 v12 v3412 c32_i32_1105 X_arg16 k = laneGather (k0_pay3 (View.readAt (Elt F) arg16.view (Rect.unit (s := S2x4x256x128) (k0_off14 k) S1x1x128x128.size (k0_off14_inb k)).toLoadRect X_arg16)) (quadIdx (k0_pay454 v12 v3412 c32_i32_1105) (slotTile k) 96#32) := by
  rw [← idx3 arg16 v12 v3412 c32_i32_1105 mv_v3568 X_arg16 X_v3568 k]; rfl
theorem keys3 (arg16 : Memref sig .tc .vmem S2x4x256x128 .f32) (v12 v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4808 arg16 v12 v3412 c32_i32_1105 mv_v3568 X_arg16 X_v3568 k =
    keysQ ![0, 3, 0] slices_S64x4x128_o0_3_0_S64x1x128 96#32 (View.readAt (Elt F) mv_v3568.view (Rect.unit (s := S32768x128) (k0_off16 k) S1024x128.size (k0_off16_inb k)).toLoadRect X_v3568) (View.readAt (Elt F) arg16.view (Rect.unit (s := S2x4x256x128) (k0_off13 k) S1x1x128x128.size (k0_off13_inb k)).toLoadRect X_arg16) (View.readAt (Elt F) arg16.view (Rect.unit (s := S2x4x256x128) (k0_off14 k) S1x1x128x128.size (k0_off14_inb k)).toLoadRect X_arg16) (k0_pay454 v12 v3412 c32_i32_1105) (slotTile k) := by
  unfold trip_k0_t1.sl.v4808 keysQ
  rw [← even3 arg16 v12 v3412 c32_i32_1105 mv_v3568 X_arg16 X_v3568 k, ← odd3 arg16 v12 v3412 c32_i32_1105 mv_v3568 X_arg16 X_v3568 k]; rfl

theorem raw_eq (arg16 : Memref sig .tc .vmem S2x4x256x128 .f32) (v12 : IVec S8x128 32) (v3382 v3387 : FVec F S64x256 .bf16) (v3412 : IVec S8x128 32) (c32_i32_1105 : BitVec 32) (mv_v3568 : Memref sig .tc .vmem S32768x128 .i8) (X_arg16 : BufTy.Contents (Elt F) arg16.view.ty) (X_v3568 : BufTy.Contents (Elt F) mv_v3568.view.ty) (k : Fin k0_t1_loop.trips) : trip_k0_t1.sl.v4813 arg16 v12 v3382 v3387 v3412 c32_i32_1105 mv_v3568 X_arg16 X_v3568 k =
    scoreRaw v3382 v3387 (View.readAt (Elt F) mv_v3568.view (Rect.unit (s := S32768x128) (k0_off16 k) S1024x128.size (k0_off16_inb k)).toLoadRect X_v3568) (View.readAt (Elt F) arg16.view (Rect.unit (s := S2x4x256x128) (k0_off13 k) S1x1x128x128.size (k0_off13_inb k)).toLoadRect X_arg16) (View.readAt (Elt F) arg16.view (Rect.unit (s := S2x4x256x128) (k0_off14 k) S1x1x128x128.size (k0_off14_inb k)).toLoadRect X_arg16) (k0_pay454 v12 v3412 c32_i32_1105) (slotTile k) := by
  unfold scoreRaw
  rw [← keys0 arg16 v12 v3412 c32_i32_1105 mv_v3568 X_arg16 X_v3568 k, ← keys1 arg16 v12 v3412 c32_i32_1105 mv_v3568 X_arg16 X_v3568 k,
    ← keys2 arg16 v12 v3412 c32_i32_1105 mv_v3568 X_arg16 X_v3568 k, ← keys3 arg16 v12 v3412 c32_i32_1105 mv_v3568 X_arg16 X_v3568 k]
  rfl

set_option maxHeartbeats 4000000 in
/-- What a trip of the score loop stores. -/
theorem tripL_eq (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (k : Fin k0_t1_loop.trips)  (acc : FVec F S128x128 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).2.1 acc = [⟨Rect.unit (s := S128x8192) (k0_off18 k) S128x256.size (k0_off18_inb k), shapeCast S128x256 (scoreTrip v3382 v3387 (View.readAt (Elt F) mv_v3568.view (Rect.unit (s := S32768x128) (k0_off16 k) S1024x128.size (k0_off16_inb k)).toLoadRect X_v3568)
      (View.readAt (Elt F) arg16.view (Rect.unit (s := S2x4x256x128) (k0_off13 k) S1x1x128x128.size (k0_off13_inb k)).toLoadRect X_arg16)
      (View.readAt (Elt F) arg16.view (Rect.unit (s := S2x4x256x128) (k0_off14 k) S1x1x128x128.size (k0_off14_inb k)).toLoadRect X_arg16)
      (k0_pay454 v12 v3412 c32_i32_1105) (slotTile k)
      (View.readAt (Elt F) arg15.view (Rect.unit (s := S4x8192) (k0_off17 k) S4x256.size (k0_off17_inb k)).toLoadRect X_arg15)) shapeCasts_S128x256_S128x256⟩] := by
  delta trip_k0_t1
  dsimp only
  rw [raw_eq]
  rfl

set_option maxHeartbeats 4000000 in
/-- What a trip of the score loop yields. -/
theorem tripR_eq (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (arg0 : BitVec 32) (v12 : IVec S8x128 32) (v3376 : FVec F S128x128 .bf16) (v3382 : FVec F S64x256 .bf16) (v3387 : FVec F S64x256 .bf16) (v3412 : IVec S8x128 32) (c32_i32_1105 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt F) arg15.view.ty) (X_arg16 : BufTy.Contents (Elt F) arg16.view.ty) (X_v3568 : BufTy.Contents (Elt F) mv_v3568.view.ty) (k : Fin k0_t1_loop.trips)  (acc : FVec F S128x128 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 v12 v3376 v3382 v3387 v3412 c32_i32_1105 mv_v3568 hcanon_v3568 X_arg15 X_arg16 X_v3568 k).1 acc = maxTrip acc (scoreTrip v3382 v3387 (View.readAt (Elt F) mv_v3568.view (Rect.unit (s := S32768x128) (k0_off16 k) S1024x128.size (k0_off16_inb k)).toLoadRect X_v3568)
      (View.readAt (Elt F) arg16.view (Rect.unit (s := S2x4x256x128) (k0_off13 k) S1x1x128x128.size (k0_off13_inb k)).toLoadRect X_arg16)
      (View.readAt (Elt F) arg16.view (Rect.unit (s := S2x4x256x128) (k0_off14 k) S1x1x128x128.size (k0_off14_inb k)).toLoadRect X_arg16)
      (k0_pay454 v12 v3412 c32_i32_1105) (slotTile k)
      (View.readAt (Elt F) arg15.view (Rect.unit (s := S4x8192) (k0_off17 k) S4x256.size (k0_off17_inb k)).toLoadRect X_arg15)) := by
  delta trip_k0_t1
  dsimp only
  rw [raw_eq]
  rfl

end Cert.KernelIdeal.Gen

end
-- ==== Proof.Ideal.Pt1.lean ====
/- The keys that one trip of the score loop multiplies with, element by element. -/
module

public import proofs.«01_k».proof.Proof.Ideal.Score
public import Idealize.ShloMosaic.Lib.Pointwise
public import Idealize.ShloMosaic.Lib.BitcastFour
public import Idealize.ShloMosaic.Lib.BitcastPair

@[expose] public section
set_option maxRecDepth 16384
noncomputable section
namespace Cert.KernelIdeal.Gen
open Idealize.ShloMosaic Idealize.ShloMosaic.TcCoe Idealize.ShloMosaic.Tactic

variable {F : FTy → Type} [FloatOps F] [Named F]

/-- One group's words of 64 slots. -/
theorem quadRow (W : IVec S256x128 32) (qd : Fin 4) (h : S64x4x128.Slices ![0, qd.val, 0] S64x1x128) (a : Fin 64) (d : Fin 128) :
    shapeCast S64x128 (extractStridedSlice S64x1x128 ![0, qd.val, 0] (shapeCast S64x4x128 W shapeCasts_S256x128_S64x4x128) h)
      shapeCasts_S64x1x128_S64x128 (ix2 a d) = W (ix2 ⟨4 * a.val + qd.val, by omega⟩ d) := by
  pointwise
  congr 2
  exact Fin.ext (by show a.val * 4 + qd.val = 4 * a.val + qd.val; omega)

/-- The code of slot `l / 4` (of the 64) and head `4 qd + l % 4`. -/
theorem widen64_at (rows : IVec S1024x128 8) (qd : Fin 4) (h : S64x4x128.Slices ![0, qd.val, 0] S64x1x128) (l : Fin 256) (d : Fin 128) :
    widen64 ![0, qd.val, 0] h rows (ix2 l d) = rows (ix2 ⟨16 * (l.val / 4) + 4 * qd.val + l.val % 4, by omega⟩ d) := by
  refine BitVec.eq_of_getLsbD_eq fun q hq => ?_
  unfold widen64
  rw [bitcast_getLsbD _ _ _ q hq (by decide)]
  have hrow : (S256x128.row (ix2 l d)) = l.val := rfl
  have e : ∀ hp, Shape.Bitcasts.srcIdx bitcasts_S64x128_w32_S256x128_w8 (ix2 l d) ((S256x128.row (ix2 l d) * 8 + q) / 32) hp = ix2 ⟨l.val / 4, by omega⟩ d := by
    intro hp
    funext c
    match c with
    | ⟨0, _⟩ => exact Fin.ext ((Shape.Bitcasts.srcIdx_row _ _ _ _ ⟨0, Nat.zero_lt_two⟩ rfl).trans (by rw [hrow]; show _ = l.val / 4; omega))
    | ⟨1, _⟩ => exact Fin.ext (Shape.Bitcasts.srcIdx_other _ _ _ _ ⟨1, Nat.one_lt_two⟩ (by show ¬ 1 + 2 = 2; omega))
  rw [e, quadRow]
  refine (bitcast_8_32_getLsbD_ix2 (R := 1024) (r := 256) (n := 128) rows bitcasts_S1024x128_w8_S256x128_w32 ⟨4 * (l.val / 4) + qd.val, by omega⟩ d _ (by omega) ⟨16 * (l.val / 4) + 4 * qd.val + l.val % 4, by omega⟩ (by rw [hrow]; show 16 * (l.val / 4) + 4 * qd.val + l.val % 4 = 4 * (4 * (l.val / 4) + qd.val) + (l.val * 8 + q) % 32 / 8; omega)).trans ?_
  rw [hrow]
  refine congrArg (fun z => BitVec.getLsbD _ z) (by omega)

/-- A word below 128 is not wrapped. -/
theorem wrap_id : ∀ v : Fin 128, Scalar.select (IntOp.cmpi CmpIPredicate.slt (BitVec.ofNat 32 v.val) 0#32) (IntOp.addi (BitVec.ofNat 32 v.val) 128#32)
    (BitVec.ofNat 32 v.val) = BitVec.ofNat 32 v.val := by decide +kernel

theorem gIdx_at (idx : IVec S8x128 32) (g : Fin 8) (j : Fin 128) (v : Fin 128) (hv : idx (ix2 g j) = BitVec.ofNat 32 v.val) :
    gIdx idx (ix2 g j) = BitVec.ofNat 32 v.val := by
  unfold gIdx
  pointwise
  rw [hv]
  exact wrap_id v

theorem gath_at (rows : FVec F S128x128 .f32) (idx : IVec S8x128 32) (p : Fin 16) (h : S128x128.Slices ![8 * p.val, 0] S8x128) (g : Fin 8) (j : Fin 128) (v : Fin 128)
    (hv : idx (ix2 g j) = BitVec.ofNat 32 v.val) :
    gath ![8 * p.val, 0] h rows idx (ix2 g j) = rows (ix2 ⟨8 * p.val + g.val, by omega⟩ v) := by
  have e := gIdx_at idx g j v hv
  unfold gath
  pointwise
  congr 2
  refine Fin.ext ?_
  show (gIdx idx (ix2 g j)).toNat % 128 = v.val
  rw [e, BitVec.toNat_ofNat]
  omega

theorem slices8 : ∀ p : Fin 16, S128x128.Slices ![8 * p.val, 0] S8x128 := by decide

theorem laneGather_at (rows : FVec F S128x128 .f32) (idx : IVec S8x128 32) (r : Fin 128) (j : Fin 128) (v : Fin 128)
    (hv : idx (ix2 ⟨r.val % 8, by omega⟩ j) = BitVec.ofNat 32 v.val) :
    laneGather rows idx (ix2 r j) = rows (ix2 r v) := by
  have e : laneGather rows idx = concatenate S128x128 0 (List.ofFn fun p : Fin 16 => (⟨S8x128, gath ![8 * p.val, 0] (slices8 p) rows idx⟩ : (s : Shape) × (s.Idx → F .f32)))
      concatenates_S8x128_S8x128_S8x128_S8x128_S8x128_S8x128_S8x128_S8x128_S8x128_S8x128_S8x128_S8x128_S8x128_S8x128_S8x128_S8x128_S128x128_d0 := rfl
  rw [e]
  refine (concatenate_ofFn_apply (t := S128x128) (s₁ := S8x128) 0 (fun p : Fin 16 => gath ![8 * p.val, 0] (slices8 p) rows idx) _ rfl 8 rfl (ix2 r j)
    ⟨r.val / 8, by omega⟩ rfl (ix2 ⟨r.val % 8, by omega⟩ j) rfl ?_).trans ?_
  · intro b hb
    match b with
    | ⟨0, _⟩ => exact absurd rfl hb
    | ⟨1, _⟩ => rfl
  · rw [gath_at rows idx ⟨r.val / 8, by omega⟩ (slices8 _) ⟨r.val % 8, by omega⟩ j v hv]
    congr 2
    exact Fin.ext (by show 8 * (r.val / 8) + r.val % 8 = r.val; omega)

theorem rowPairs_at (e o : FVec Ideal S128x128 .f32) (l : Fin 256) (d : Fin 128) :
    rowPairs e o (ix2 l d) = if l.val % 2 < 1 then e (ix2 ⟨l.val / 2, by omega⟩ d) else o (ix2 ⟨l.val / 2, by omega⟩ d) := by
  unfold rowPairs
  pointwise
  split <;> rfl

/-- The first lane of a row's scales, by the row's parity and the place in the head. -/
theorem base_at : ∀ (g : Fin 8) (j : Fin 128), k0_pay454 (iota .tc S8x128 32 [1] iota_S8x128_d1_w32) (k0_pay453 (iota .tc S8x128 32 [0] iota_S8x128_d0_w32)) 32#32 (ix2 g j)
    = BitVec.ofNat 32 (16 * (g.val % 2) + j.val / 32) := by decide +kernel

/-- The index array of one group and trip. -/
abbrev baseIdx : IVec S8x128 32 := k0_pay454 (iota .tc S8x128 32 [1] iota_S8x128_d1_w32) (k0_pay453 (iota .tc S8x128 32 [0] iota_S8x128_d0_w32)) 32#32

theorem quadIdx_at (k : Fin k0_t1_loop.trips) (qd : Fin 4) (g : Fin 8) (j : Fin 128) :
    quadIdx baseIdx (slotTile k) (BitVec.ofNat 32 (32 * qd.val)) (ix2 g j)
      = BitVec.ofNat 32 (32 * qd.val + 16 * (g.val % 2) + 4 * (k.val / 2 % 4) + j.val / 32) := by
  have e : quadIdx baseIdx (slotTile k) (BitVec.ofNat 32 (32 * qd.val)) (ix2 g j) = baseIdx (ix2 g j) + (BitVec.ofNat 32 (32 * qd.val) + BitVec.ofNat 32 (k.val / 2 % 4) * 4#32) := rfl
  rw [e, show baseIdx (ix2 g j) = _ from base_at g j]
  refine BitVec.eq_of_toNat_eq ?_
  simp only [BitVec.toNat_add, BitVec.toNat_mul, BitVec.toNat_ofNat]
  omega

/-- The key of head `4 qd + l % 4` and slot `l / 4` of trip `k`, element `d`: the code times the scale. -/
def keyAt (k : Fin k0_t1_loop.trips) (rows : IVec S1024x128 8) (u0 u1 : Vec Ideal S1x1x128x128 .f32) (qd : Fin 4) (l : Fin 256) (d : Fin 128) : EReal :=
  (((rows (ix2 ⟨16 * (l.val / 4) + 4 * qd.val + l.val % 4, by omega⟩ d)).toInt : ℝ) : EReal) *
    (if l.val % 2 < 1 then u0 (ix4 0 0 ⟨l.val / 2, by omega⟩ ⟨32 * qd.val + 16 * (l.val / 2 % 2) + 4 * (k.val / 2 % 4) + d.val / 32, by omega⟩)
      else u1 (ix4 0 0 ⟨l.val / 2, by omega⟩ ⟨32 * qd.val + 16 * (l.val / 2 % 2) + 4 * (k.val / 2 % 4) + d.val / 32, by omega⟩))

theorem keysQ_at (k : Fin k0_t1_loop.trips) (qd : Fin 4) (h : S64x4x128.Slices ![0, qd.val, 0] S64x1x128) (rows : IVec S1024x128 8) (u0 u1 : Vec Ideal S1x1x128x128 .f32)
    (l : Fin 256) (d : Fin 128) :
    keysQ (F := Ideal) ![0, qd.val, 0] h (BitVec.ofNat 32 (32 * qd.val)) rows u0 u1 baseIdx (slotTile k) (ix2 l d) = keyAt k rows u0 u1 qd l d := by
  have e : keysQ (F := Ideal) ![0, qd.val, 0] h (BitVec.ofNat 32 (32 * qd.val)) rows u0 u1 baseIdx (slotTile k) (ix2 l d)
      = (((widen64 ![0, qd.val, 0] h rows (ix2 l d)).toInt : ℝ) : EReal) * rowPairs (laneGather (k0_pay2 u0) (quadIdx baseIdx (slotTile k) (BitVec.ofNat 32 (32 * qd.val))))
        (laneGather (k0_pay3 u1) (quadIdx baseIdx (slotTile k) (BitVec.ofNat 32 (32 * qd.val)))) (ix2 l d) := rfl
  have hi : quadIdx baseIdx (slotTile k) (BitVec.ofNat 32 (32 * qd.val)) (ix2 ⟨l.val / 2 % 8, by omega⟩ d)
      = BitVec.ofNat 32 (⟨32 * qd.val + 16 * (l.val / 2 % 2) + 4 * (k.val / 2 % 4) + d.val / 32, by omega⟩ : Fin 128).val := by
    rw [quadIdx_at]
    have : l.val / 2 % 8 % 2 = l.val / 2 % 2 := by omega
    simp only [this]
  rw [e, widen64_at, rowPairs_at, laneGather_at _ _ ⟨l.val / 2, by omega⟩ d _ hi, laneGather_at _ _ ⟨l.val / 2, by omega⟩ d _ hi]
  unfold k0_pay2 k0_pay3 keyAt
  pointwise

theorem q0_at (x1 : Vec Ideal S1x128x128 .bf16) (r : Fin 64) (x : Fin 256) :
    k0_pay451 x1 (ix2 r x) = if h : r.val < 32 then (if h' : x.val < 128 then x1 (ix3 0 ⟨r.val, by omega⟩ ⟨x.val, h'⟩) else 0)
      else if h' : x.val < 128 then 0 else x1 (ix3 0 ⟨r.val, by omega⟩ ⟨x.val - 128, by omega⟩) := by
  unfold k0_pay451 k0_pay450 k0_pay449
  pointwise
  split
  · rfl
  · rename_i hh
    have : ∀ hp, (⟨32 + (r.val - 32), hp⟩ : Fin 128) = ⟨r.val, by omega⟩ := fun hp => Fin.ext (by show 32 + (r.val - 32) = r.val; omega)
    simp only [this]

theorem q1_at (x1 : Vec Ideal S1x128x128 .bf16) (r : Fin 64) (x : Fin 256) :
    k0_pay452 x1 (ix2 r x) = if h : r.val < 32 then (if h' : x.val < 128 then x1 (ix3 0 ⟨64 + r.val, by omega⟩ ⟨x.val, h'⟩) else 0)
      else if h' : x.val < 128 then 0 else x1 (ix3 0 ⟨64 + r.val, by omega⟩ ⟨x.val - 128, by omega⟩) := by
  unfold k0_pay452 k0_pay450 k0_pay449
  pointwise
  split
  · rfl
  · rename_i hh
    have : ∀ hp, (⟨96 + (r.val - 32), hp⟩ : Fin 128) = ⟨64 + r.val, by omega⟩ := fun hp => Fin.ext (by show 96 + (r.val - 32) = 64 + r.val; omega)
    simp only [this]

/-- The product of row `r` of the queries with the key of its group at lane `l`. -/
theorem raw_at (k : Fin k0_t1_loop.trips) (rows : IVec S1024x128 8) (u0 u1 : Vec Ideal S1x1x128x128 .f32) (x1 : Vec Ideal S1x128x128 .bf16)
    (r : Fin 128) (l : Fin 256) :
    scoreRaw (k0_pay451 x1) (k0_pay452 x1) rows u0 u1 baseIdx (slotTile k) (ix2 r l)
      = ∑ x : Fin 128, x1 (ix3 0 r x) * keyAt k rows u0 u1 ⟨r.val / 32, by omega⟩ l x := by
  have h0 := fun x => keysQ_at k 0 slices_S64x4x128_o0_0_0_S64x1x128 rows u0 u1 l x
  have h1 := fun x => keysQ_at k 1 slices_S64x4x128_o0_1_0_S64x1x128 rows u0 u1 l x
  have h2 := fun x => keysQ_at k 2 slices_S64x4x128_o0_2_0_S64x1x128 rows u0 u1 l x
  have h3 := fun x => keysQ_at k 3 slices_S64x4x128_o0_3_0_S64x1x128 rows u0 u1 l x
  unfold scoreRaw
  pointwise
  have g0 : ∀ x, keysQ ![0, 0, 0] slices_S64x4x128_o0_0_0_S64x1x128 (0#32) rows u0 u1 baseIdx (slotTile k) (ix2 l x) = keyAt k rows u0 u1 0 l x := h0
  have g1 : ∀ x, keysQ ![0, 1, 0] slices_S64x4x128_o0_1_0_S64x1x128 (32#32) rows u0 u1 baseIdx (slotTile k) (ix2 l x) = keyAt k rows u0 u1 1 l x := h1
  have g2 : ∀ x, keysQ ![0, 2, 0] slices_S64x4x128_o0_2_0_S64x1x128 (64#32) rows u0 u1 baseIdx (slotTile k) (ix2 l x) = keyAt k rows u0 u1 2 l x := h2
  have g3 : ∀ x, keysQ ![0, 3, 0] slices_S64x4x128_o0_3_0_S64x1x128 (96#32) rows u0 u1 baseIdx (slotTile k) (ix2 l x) = keyAt k rows u0 u1 3 l x := h3
  simp only [g0, g1, g2, g3, q0_at, q1_at]
  have hn : ∀ x : Fin 128, ¬ (128 + x.val < 128) := fun x => by omega
  have hs : ∀ (x : Fin 128) hp, (⟨128 + x.val - 128, hp⟩ : Fin 128) = x := fun x hp => Fin.ext (by show 128 + x.val - 128 = x.val; omega)
  by_cases c1 : r.val < 64
  · rw [dif_pos c1]
    by_cases c2 : r.val < 32
    · have e : (⟨r.val / 32, by omega⟩ : Fin 4) = 0 := Fin.ext (by show r.val / 32 = 0; omega)
      simp only [c2, hn, dif_pos, dif_neg, not_false_eq_true, Fin.is_lt, zero_mul, Finset.sum_const_zero, add_zero, e]
    · have e : (⟨r.val / 32, by omega⟩ : Fin 4) = 1 := Fin.ext (by show r.val / 32 = 1; omega)
      simp only [c2, hn, hs, dif_pos, dif_neg, not_false_eq_true, Fin.is_lt, zero_mul, Finset.sum_const_zero, zero_add, e]
  · rw [dif_neg c1]
    have er : ∀ hp, (⟨64 + (r.val - 64), hp⟩ : Fin 128) = r := fun hp => Fin.ext (by show 64 + (r.val - 64) = r.val; omega)
    by_cases c2 : r.val - 64 < 32
    · have e : (⟨r.val / 32, by omega⟩ : Fin 4) = 2 := Fin.ext (by show r.val / 32 = 2; omega)
      simp only [c2, hn, er, dif_pos, dif_neg, not_false_eq_true, Fin.is_lt, zero_mul, Finset.sum_const_zero, add_zero, e]
    · have e : (⟨r.val / 32, by omega⟩ : Fin 4) = 3 := Fin.ext (by show r.val / 32 = 3; omega)
      simp only [c2, hn, hs, er, dif_pos, dif_neg, not_false_eq_true, Fin.is_lt, zero_mul, Finset.sum_const_zero, zero_add, e]

/-- A trip's scores: the products, and the bias of the row's head class. -/
theorem scoreTrip_at (k : Fin k0_t1_loop.trips) (rows : IVec S1024x128 8) (u0 u1 : Vec Ideal S1x1x128x128 .f32) (x1 : Vec Ideal S1x128x128 .bf16)
    (b : Vec Ideal S4x256 .f32) (r : Fin 128) (l : Fin 256) :
    scoreTrip (k0_pay451 x1) (k0_pay452 x1) rows u0 u1 baseIdx (slotTile k) b (ix2 r l)
      = ∑ x : Fin 128, x1 (ix3 0 r x) * keyAt k rows u0 u1 ⟨r.val / 32, by omega⟩ l x + b (ix2 ⟨r.val / 8 % 4, by omega⟩ l) := by
  unfold scoreTrip k0_pay456 k0_pay158
  pointwise
  rw [raw_at]
  congr 1
  split
  · exact congrArg (fun z => b (ix2 z l)) (Fin.ext (by show r.val / 8 = r.val / 8 % 4; omega))
  split
  · exact congrArg (fun z => b (ix2 z l)) (Fin.ext (by show (r.val - 32) / 8 = r.val / 8 % 4; omega))
  split
  · exact congrArg (fun z => b (ix2 z l)) (Fin.ext (by show (r.val - 32 - 32) / 8 = r.val / 8 % 4; omega))
  · exact congrArg (fun z => b (ix2 z l)) (Fin.ext (by show (r.val - 32 - 32 - 32) / 8 = r.val / 8 % 4; omega))

theorem maxTrip_at (acc : FVec Ideal S128x128 .f32) (t : FVec Ideal S128x256 .f32) (r j : Fin 128) :
    maxTrip acc t (ix2 r j) = max (max (acc (ix2 r j)) (t (ix2 r ⟨j.val, by omega⟩))) (t (ix2 r ⟨128 + j.val, by omega⟩)) := by
  unfold maxTrip
  pointwise

end Cert.KernelIdeal.Gen

end
-- ==== Proof.Ideal.Pt2.lean ====
/- What one trip of the value loop adds, element by element, and the last steps of the kernel. -/
module

public import proofs.«01_k».proof.Proof.Ideal.Loops
public import Idealize.ShloMosaic.Lib.Pointwise
public import Idealize.ShloMosaic.Lib.BitcastFour
public import Idealize.ShloMosaic.Lib.BitcastPair

@[expose] public section
set_option maxRecDepth 16384
noncomputable section
namespace Cert.KernelIdeal.Gen
open Idealize.ShloMosaic Idealize.ShloMosaic.TcCoe Idealize.ShloMosaic.Tactic

/-- The factor in the exponent: the softmax scale over the logarithm of two. -/
def kap : EReal := (((Real.sqrt 128)⁻¹ * (Real.log 2)⁻¹ : ℝ) : EReal)

/-- The codes of a group's heads in 256 slots. -/
def widenV (off : Fin 3 → ℕ) (h : S256x4x128.Slices off S256x1x128) (rows : IVec S4096x128 8) : IVec S1024x128 8 :=
  bitcast S1024x128 8 (shapeCast S256x128 (extractStridedSlice S256x1x128 off
    (shapeCast S256x4x128 (bitcast S1024x128 32 rows bitcasts_S4096x128_w8_S1024x128_w32) shapeCasts_S1024x128_S256x4x128)
    h) shapeCasts_S256x1x128_S256x128) bitcasts_S256x128_w32_S1024x128_w8

theorem quadRowV (W : IVec S1024x128 32) (qd : Fin 4) (h : S256x4x128.Slices ![0, qd.val, 0] S256x1x128) (a : Fin 256) (d : Fin 128) :
    shapeCast S256x128 (extractStridedSlice S256x1x128 ![0, qd.val, 0] (shapeCast S256x4x128 W shapeCasts_S1024x128_S256x4x128) h)
      shapeCasts_S256x1x128_S256x128 (ix2 a d) = W (ix2 ⟨4 * a.val + qd.val, by omega⟩ d) := by
  pointwise
  congr 2
  exact Fin.ext (by show a.val * 4 + qd.val = 4 * a.val + qd.val; omega)

theorem widenV_at (rows : IVec S4096x128 8) (qd : Fin 4) (h : S256x4x128.Slices ![0, qd.val, 0] S256x1x128) (l : Fin 1024) (d : Fin 128) :
    widenV ![0, qd.val, 0] h rows (ix2 l d) = rows (ix2 ⟨16 * (l.val / 4) + 4 * qd.val + l.val % 4, by omega⟩ d) := by
  refine BitVec.eq_of_getLsbD_eq fun q hq => ?_
  unfold widenV
  rw [bitcast_getLsbD _ _ _ q hq (by decide)]
  have hrow : (S1024x128.row (ix2 l d)) = l.val := rfl
  have e : ∀ hp, Shape.Bitcasts.srcIdx bitcasts_S256x128_w32_S1024x128_w8 (ix2 l d) ((S1024x128.row (ix2 l d) * 8 + q) / 32) hp = ix2 ⟨l.val / 4, by omega⟩ d := by
    intro hp
    funext c
    match c with
    | ⟨0, _⟩ => exact Fin.ext ((Shape.Bitcasts.srcIdx_row _ _ _ _ ⟨0, Nat.zero_lt_two⟩ rfl).trans (by rw [hrow]; show _ = l.val / 4; omega))
    | ⟨1, _⟩ => exact Fin.ext (Shape.Bitcasts.srcIdx_other _ _ _ _ ⟨1, Nat.one_lt_two⟩ (by show ¬ 1 + 2 = 2; omega))
  rw [e, quadRowV]
  refine (bitcast_8_32_getLsbD_ix2 (R := 4096) (r := 1024) (n := 128) rows bitcasts_S4096x128_w8_S1024x128_w32 ⟨4 * (l.val / 4) + qd.val, by omega⟩ d _ (by omega) ⟨16 * (l.val / 4) + 4 * qd.val + l.val % 4, by omega⟩ (by rw [hrow]; show 16 * (l.val / 4) + 4 * qd.val + l.val % 4 = 4 * (4 * (l.val / 4) + qd.val) + (l.val * 8 + q) % 32 / 8; omega)).trans ?_
  rw [hrow]
  refine congrArg (fun z => BitVec.getLsbD _ z) (by omega)

/-- The value code of head `4 qd + l % 4` and slot `l / 4` (of 256), element `d`. -/
def valAt (rows : IVec S4096x128 8) (qd : Fin 4) (l : Fin 1024) (d : Fin 128) : EReal :=
  (((rows (ix2 ⟨16 * (l.val / 4) + 4 * qd.val + l.val % 4, by omega⟩ d)).toInt : ℝ) : EReal)

theorem kap_eq : (Named.named κ "score_scale" 0x3E0293EE#32 : Ideal .f32) = kap := by
  rfl

theorem ix2_eq {n m : ℕ} {a a' : Fin n} {b b' : Fin m} (ha : a.val = a'.val) (hb : b.val = b'.val) : ix2 a b = ix2 a' b' := by
  rw [Fin.ext ha, Fin.ext hb]

theorem exp_at (m : FVec Ideal S128x1 .f32) (t : FVec Ideal S128x1024 .f32) (r : Fin 128) (l : Fin 1024) :
    k0_pay159 m t (ix2 r l) = Ideal.exp2 ((t (ix2 r l) - m (ix2 r 0)) * kap) := by
  unfold k0_pay159
  pointwise
  rw [kap_eq]
  rfl

theorem sums_at (m : FVec Ideal S128x1 .f32) (t : FVec Ideal S128x1024 .f32) (a : FVec Ideal S128x128 .f32) (r j : Fin 128) :
    k0_pay160 m t a (ix2 r j) = a (ix2 r j) + ∑ i : Fin 8, k0_pay159 m t (ix2 r ⟨128 * i.val + j.val, by omega⟩) := by
  unfold k0_pay160
  pointwise
  rw [Fin.sum_univ_eight]
  have h0 : (⟨128 * (0 : Fin 8).val + j.val, by have : (0 : Fin 8).val = 0 := rfl; omega⟩ : Fin 1024) = ⟨j.val, by omega⟩ :=
    Fin.ext (by show 128 * 0 + j.val = j.val; omega)
  rw [h0]
  rfl

theorem weights_at (m : FVec Ideal S128x1 .f32) (t : FVec Ideal S128x1024 .f32) (v : FVec Ideal S16x1024 .f32) (r : Fin 128) (l : Fin 1024) :
    k0_pay161 m t v (ix2 r l) = k0_pay159 m t (ix2 r l) * v (ix2 ⟨r.val / 8, by omega⟩ l) := by
  unfold k0_pay161
  pointwise

theorem accLo_at (w : FVec Ideal S128x1024 .bf16) (rows : IVec S4096x128 8) (a : FVec Ideal S64x256 .f32) (r : Fin 64) (j : Fin 256) :
    k0_pay463 a (k0_pay165 w (k0_pay162 (F := Ideal) rows) rows) (ix2 r j) = a (ix2 r j) + ∑ x : Fin 1024, w (ix2 ⟨r.val, by omega⟩ x) *
      valAt rows ⟨j.val / 128, by omega⟩ x ⟨j.val % 128, by omega⟩ := by
  have e : k0_pay165 w (k0_pay162 (F := Ideal) rows) rows = matmul dot_S64x1024_S1024x256_S64x256_1_0_0_1_n_n none
      (extractStridedSlice S64x1024 ![0, 0] w slices_S128x1024_o0_0_S64x1024)
      (concatenate S1024x256 1 [⟨S1024x128, sitofp .bf16 (widenV ![0, 0, 0] slices_S256x4x128_o0_0_0_S256x1x128 rows)⟩, ⟨S1024x128, sitofp .bf16 (widenV ![0, 1, 0] slices_S256x4x128_o0_1_0_S256x1x128 rows)⟩] concatenates_S1024x128_S1024x128_S1024x256_d1)
      (constant S64x256 .f32 0x00000000#32) := rfl
  rw [e]
  have g0 : ∀ x d, widenV ![0, 0, 0] slices_S256x4x128_o0_0_0_S256x1x128 rows (ix2 x d) = _ := fun x d => widenV_at rows 0 _ x d
  have g1 : ∀ x d, widenV ![0, 1, 0] slices_S256x4x128_o0_1_0_S256x1x128 rows (ix2 x d) = _ := fun x d => widenV_at rows 1 _ x d
  unfold k0_pay463
  pointwise
  refine congrArg (_ + ·) (Finset.sum_congr rfl fun x _ => congrArg (_ * ·) ?_)
  unfold valAt
  split
  · rename_i c
    show (((widenV _ _ rows (ix2 x _)).toInt : ℝ) : EReal) = _
    rw [g0]
    refine congrArg (fun z => (((rows z).toInt : ℝ) : EReal)) (ix2_eq ?_ ?_)
    · show 16 * (x.val / 4) + 4 * 0 + x.val % 4 = 16 * (x.val / 4) + 4 * (j.val / 128) + x.val % 4; omega
    · show j.val = j.val % 128; omega
  · rename_i c
    show (((widenV _ _ rows (ix2 x _)).toInt : ℝ) : EReal) = _
    rw [g1]
    refine congrArg (fun z => (((rows z).toInt : ℝ) : EReal)) (ix2_eq ?_ ?_)
    · show 16 * (x.val / 4) + 4 * 1 + x.val % 4 = 16 * (x.val / 4) + 4 * (j.val / 128) + x.val % 4; omega
    · show j.val - 128 = j.val % 128; omega

theorem accHi_at (w : FVec Ideal S128x1024 .bf16) (rows : IVec S4096x128 8) (a : FVec Ideal S64x256 .f32) (r : Fin 64) (j : Fin 256) :
    k0_pay464 w (k0_pay163 rows) (k0_pay164 rows) a (ix2 r j) = a (ix2 r j) + ∑ x : Fin 1024, w (ix2 ⟨64 + r.val, by omega⟩ x) *
      valAt rows ⟨2 + j.val / 128, by omega⟩ x ⟨j.val % 128, by omega⟩ := by
  have e : k0_pay464 w (k0_pay163 rows) (k0_pay164 rows) a = shapeCast S64x256 (addf a (matmul dot_S64x1024_S1024x256_S64x256_1_0_0_1_n_n none
      (extractStridedSlice S64x1024 ![64, 0] w slices_S128x1024_o64_0_S64x1024)
      (concatenate S1024x256 1 [⟨S1024x128, sitofp .bf16 (widenV ![0, 2, 0] slices_S256x4x128_o0_2_0_S256x1x128 rows)⟩, ⟨S1024x128, sitofp .bf16 (widenV ![0, 3, 0] slices_S256x4x128_o0_3_0_S256x1x128 rows)⟩] concatenates_S1024x128_S1024x128_S1024x256_d1)
      (constant S64x256 .f32 0x00000000#32))) shapeCasts_S64x256_S64x256 := rfl
  rw [e]
  have g0 : ∀ x d, widenV ![0, 2, 0] slices_S256x4x128_o0_2_0_S256x1x128 rows (ix2 x d) = _ := fun x d => widenV_at rows 2 _ x d
  have g1 : ∀ x d, widenV ![0, 3, 0] slices_S256x4x128_o0_3_0_S256x1x128 rows (ix2 x d) = _ := fun x d => widenV_at rows 3 _ x d
  pointwise
  refine congrArg (_ + ·) (Finset.sum_congr rfl fun x _ => congrArg (_ * ·) ?_)
  unfold valAt
  split
  · rename_i c
    show (((widenV _ _ rows (ix2 x _)).toInt : ℝ) : EReal) = _
    rw [g0]
    refine congrArg (fun z => (((rows z).toInt : ℝ) : EReal)) (ix2_eq ?_ ?_)
    · show 16 * (x.val / 4) + 4 * 2 + x.val % 4 = 16 * (x.val / 4) + 4 * (2 + j.val / 128) + x.val % 4; omega
    · show j.val = j.val % 128; omega
  · rename_i c
    show (((widenV _ _ rows (ix2 x _)).toInt : ℝ) : EReal) = _
    rw [g1]
    refine congrArg (fun z => (((rows z).toInt : ℝ) : EReal)) (ix2_eq ?_ ?_)
    · show 16 * (x.val / 4) + 4 * 3 + x.val % 4 = 16 * (x.val / 4) + 4 * (2 + j.val / 128) + x.val % 4; omega
    · show j.val - 128 = j.val % 128; omega

theorem snew_at (x1 : Vec Ideal S1x128x128 .bf16) (x2 : Vec Ideal S1x16x128 .bf16) (r : Fin 128) :
    k0_pay459 (k0_pay449 x1) x2 (ix2 r 0) = ∑ x : Fin 128, x1 (ix3 0 r x) * x2 (ix3 0 ⟨r.val / 8, by omega⟩ x) := by
  unfold k0_pay459 k0_pay449
  pointwise

theorem enew_at (s m : FVec Ideal S128x1 .f32) (r : Fin 128) :
    k0_pay465 s m (ix2 r 0) = Ideal.exp2 ((s (ix2 r 0) - m (ix2 r 0)) * kap) := by
  unfold k0_pay465
  pointwise
  rw [kap_eq]
  rfl

theorem total_at (s m : FVec Ideal S128x1 .f32) (a : FVec Ideal S128x128 .f32) (r : Fin 128) :
    k0_pay466 s m a (ix2 r 0) = ∑ j : Fin 128, a (ix2 r j) + k0_pay465 s m (ix2 r 0) := by
  unfold k0_pay466
  pointwise

theorem out_at (e l : FVec Ideal S128x1 .f32) (o : FVec Ideal S128x128 .f32) (x4 : Vec Ideal S1x16x1 .f32) (x3 : Vec Ideal S1x16x128 .i8) (r d : Fin 128) :
    k0_pay1 e l o x4 x3 (ix3 0 r d) = Ideal.div (o (ix2 r d) + e (ix2 r 0) * x4 (ix3 0 ⟨r.val / 8, by omega⟩ 0) * (((x3 (ix3 0 ⟨r.val / 8, by omega⟩ d)).toInt : ℝ) : EReal)) (l (ix2 r 0)) := by
  unfold k0_pay1
  pointwise
  rfl

theorem quads_at (a b c d : FVec Ideal S32x128 .f32) (r j : Fin 128) :
    k0_pay467 a b c d (ix2 r j) = if h : r.val < 32 then a (ix2 ⟨r.val, h⟩ j) else if h : r.val - 32 < 32 then b (ix2 ⟨r.val - 32, h⟩ j)
      else if h : r.val - 32 - 32 < 32 then c (ix2 ⟨r.val - 32 - 32, h⟩ j) else d (ix2 ⟨r.val - 32 - 32 - 32, by omega⟩ j) := by
  unfold k0_pay467
  pointwise

end Cert.KernelIdeal.Gen

end
-- ==== Proof.Ideal.LoopSpec.lean ====
/- What the two loops leave, told over any lists of stores that grow as a trip's stores say: the scores of all lanes and
   the running maximum of the first, the sums of exponentials and the weighted value codes of the second. -/
module

public import proofs.«01_k».proof.Proof.Ideal.Pt1
public import proofs.«01_k».proof.Proof.Ideal.Pt2
public import Idealize.ShloMosaic.Lib.VecWindow

@[expose] public section
set_option maxRecDepth 16384
noncomputable section
namespace Cert.KernelIdeal.Gen
open Idealize.ShloMosaic Idealize.ShloMosaic.TcCoe Idealize.ShloMosaic.Tactic

theorem trips1 : k0_t1_loop.trips = 32 := by decide
theorem trips2 : k0_t2_loop.trips = 8 := by decide
theorem off18_eq : ∀ k : Fin k0_t1_loop.trips, k0_off18 k = ![0, 256 * k.val] := by decide +kernel

theorem negInf : Ideal.ofBits FTy.f32 0xFF800000#32 = ⊥ := by simp [Ideal.ofBits, Ideal.ieee]

variable {sg : RefSig} {κ₀ : Kind} {sp : Space}

/-- After `n` trips the score buffer holds the scores of the first `256 n` lanes. -/
theorem scores_loop (v : View sg κ₀ sp S128x8192 .f32) (f : v.ty.Contents (Elt Ideal)) (T : Fin 128 → Fin 8192 → EReal)
    (tr : Fin k0_t1_loop.trips → FVec Ideal S128x256 .f32)
    (htr : ∀ (k : Fin k0_t1_loop.trips) (r : Fin 128) (l : Fin 256), tr k (ix2 r l) = T r ⟨256 * k.val + l.val, by have := trips1; omega⟩)
    (S : ℕ → FVec Ideal S128x128 .f32 × List (View.Piece (Elt Ideal) S128x8192 .f32)) (h0 : S 0 = (k0_pay455, []))
    (hs : ∀ k : Fin k0_t1_loop.trips, S (k.val + 1) = (maxTrip (S k.val).1 (tr k),
      [⟨Rect.unit (s := S128x8192) (k0_off18 k) S128x256.size (k0_off18_inb k), shapeCast S128x256 (tr k) shapeCasts_S128x256_S128x256⟩] ++ (S k.val).2)) :
    ∀ n, n ≤ 32 → ∀ (r : Fin 128) (l : Fin 8192), l.val < 256 * n → v.read (Elt Ideal) (v.writes (Elt Ideal) f (S n).2) (ix2 r l) = T r l
  | 0, _, r, l, hl => by omega
  | n + 1, hn, r, l, hl => by
    have hk : n < k0_t1_loop.trips := by have := trips1; omega
    rw [hs ⟨n, hk⟩]
    by_cases c : 256 * n ≤ l.val
    · refine (View.read_writes_cons_unit_of_mem v f (k0_off18_inb ⟨n, hk⟩) _ _ (ix2 r l) (ix2 r (⟨l.val - 256 * n, by omega⟩ : Fin 256)) (off18_eq ⟨n, hk⟩) ?_).trans ?_
      · intro a
        match a with
        | ⟨0, _⟩ => show r.val = 0 + r.val; omega
        | ⟨1, _⟩ => show l.val = 256 * n + (l.val - 256 * n); omega
      · have e : shapeCast S128x256 (tr ⟨n, hk⟩) shapeCasts_S128x256_S128x256 (ix2 r (⟨l.val - 256 * n, by omega⟩ : Fin 256)) = tr ⟨n, hk⟩ (ix2 r (⟨l.val - 256 * n, by omega⟩ : Fin 256)) := by
          pointwise
        refine e.trans ((htr _ _ _).trans (congrArg (T r) (Fin.ext ?_)))
        show 256 * n + (l.val - 256 * n) = l.val; omega
    · refine (View.read_writes_cons_unit_of_not_mem v f (k0_off18_inb ⟨n, hk⟩) _ _ (ix2 r l) (off18_eq ⟨n, hk⟩) (1 : Fin 2) (Or.inl ?_)).trans
        (scores_loop v f T tr htr S h0 hs n (by omega) r l (by omega))
      show l.val < 256 * n; omega

/-- The running maximum is below any bound of the scores, and above every score of the trips before. -/
theorem max_loop (T : Fin 128 → Fin 8192 → EReal)
    (tr : Fin k0_t1_loop.trips → FVec Ideal S128x256 .f32)
    (htr : ∀ (k : Fin k0_t1_loop.trips) (r : Fin 128) (l : Fin 256), tr k (ix2 r l) = T r ⟨256 * k.val + l.val, by have := trips1; omega⟩)
    (S : ℕ → FVec Ideal S128x128 .f32 × List (View.Piece (Elt Ideal) S128x8192 .f32)) (h0 : S 0 = (k0_pay455, []))
    (hs : ∀ k : Fin k0_t1_loop.trips, S (k.val + 1) = (maxTrip (S k.val).1 (tr k),
      [⟨Rect.unit (s := S128x8192) (k0_off18 k) S128x256.size (k0_off18_inb k), shapeCast S128x256 (tr k) shapeCasts_S128x256_S128x256⟩] ++ (S k.val).2)) :
    ∀ n, n ≤ 32 → ∀ (r j : Fin 128), (S n).1 (ix2 r j) ≤ Finset.univ.sup (T r) ∧
      ∀ l : Fin 8192, l.val < 256 * n → l.val % 128 = j.val → T r l ≤ (S n).1 (ix2 r j)
  | 0, _, r, j => by
    refine ⟨?_, fun l hl _ => by omega⟩
    rw [h0]
    have e : (k0_pay455 (F := Ideal)) (ix2 r j) = ⊥ := by
      unfold k0_pay455
      pointwise
      exact negInf
    show k0_pay455 (F := Ideal) (ix2 r j) ≤ _
    rw [e]; exact bot_le
  | n + 1, hn, r, j => by
    have hk : n < k0_t1_loop.trips := by have := trips1; omega
    obtain ⟨i1, i2⟩ := max_loop T tr htr S h0 hs n (by omega) r j
    rw [hs ⟨n, hk⟩]
    show maxTrip (S n).1 (tr ⟨n, hk⟩) (ix2 r j) ≤ _ ∧ ∀ l : Fin 8192, _ → _ → T r l ≤ maxTrip (S n).1 (tr ⟨n, hk⟩) (ix2 r j)
    rw [maxTrip_at, htr, htr]
    refine ⟨max_le (max_le i1 (Finset.le_sup (Finset.mem_univ _))) (Finset.le_sup (Finset.mem_univ _)), fun l hl hm => ?_⟩
    by_cases c : l.val < 256 * n
    · exact le_max_of_le_left (le_max_of_le_left (i2 l c hm))
    · by_cases c' : l.val < 256 * n + 128
      · refine le_max_of_le_left (le_max_of_le_right (le_of_eq (congrArg (T r) (Fin.ext ?_))))
        show l.val = 256 * n + j.val; omega
      · refine le_max_of_le_right (le_of_eq (congrArg (T r) (Fin.ext ?_)))
        show l.val = 256 * n + (128 + j.val); omega

theorem top_eq (T : Fin 128 → Fin 8192 → EReal) (q : FVec Ideal S128x128 .bf16) (a : FVec Ideal S128x128 .f32) (x2 : Vec Ideal S1x16x128 .bf16) (r : Fin 128)
    (ha : ∀ j : Fin 128, a (ix2 r j) ≤ Finset.univ.sup (T r) ∧ ∀ l : Fin 8192, l.val < 256 * 32 → l.val % 128 = j.val → T r l ≤ a (ix2 r j)) :
    k0_pay460 q a x2 (ix2 r 0) = max (Finset.univ.sup (T r)) (k0_pay459 q x2 (ix2 r 0)) := by
  have e : k0_pay460 q a x2 (ix2 r 0) = max (Finset.univ.sup fun j : Fin 128 => a (ix2 r j)) (k0_pay459 q x2 (ix2 r 0)) := by
    unfold k0_pay460
    pointwise
    rw [negInf]
    rfl
  rw [e]
  refine congrArg (max · _) ?_
  refine le_antisymm (Finset.sup_le fun j _ => (ha j).1) (Finset.sup_le fun l _ => ?_)
  exact ((ha ⟨l.val % 128, by omega⟩).2 l (by omega) rfl).trans (Finset.le_sup (f := fun j : Fin 128 => a (ix2 r j)) (Finset.mem_univ _))

/-- A function of the lanes, continued by zero. -/
def ext (E : Fin 8192 → EReal) (n : ℕ) : EReal := if h : n < 8192 then E ⟨n, h⟩ else 0

/-- After `n` trips the sums per lane are those of the first `1024 n` lanes. -/
theorem sums_loop (v : View sg κ₀ sp S128x128 .f32) (f : v.ty.Contents (Elt Ideal)) (E : Fin 128 → Fin 8192 → EReal) (m : FVec Ideal S128x1 .f32)
    (tk : Fin k0_t2_loop.trips → FVec Ideal S128x1024 .f32)
    (hE : ∀ (k : Fin k0_t2_loop.trips) (r : Fin 128) (x : Fin 1024), k0_pay159 m (tk k) (ix2 r x) = E r ⟨1024 * k.val + x.val, by have := trips2; omega⟩)
    (S : ℕ → List (View.Piece (Elt Ideal) S128x128 .f32)) (h0 : S 0 = []) (hf : ∀ r j, v.read (Elt Ideal) f (ix2 r j) = (0 : EReal))
    (hs : ∀ k : Fin k0_t2_loop.trips, S (k.val + 1) = [⟨Rect.unit (s := S128x128) ![0, 0] S128x128.size inb_S128x128_S128x128_0_0,
        k0_pay160 m (tk k) (View.readAt (Elt Ideal) v (Rect.unit (s := S128x128) ![0, 0] S128x128.size inb_S128x128_S128x128_0_0).toLoadRect (v.writes (Elt Ideal) f (S k.val)))⟩] ++ S k.val) :
    ∀ n, n ≤ 8 → ∀ (r j : Fin 128), v.read (Elt Ideal) (v.writes (Elt Ideal) f (S n)) (ix2 r j)
      = ∑ k ∈ Finset.range n, ∑ i : Fin 8, ext (E r) (1024 * k + (128 * i.val + j.val))
  | 0, _, r, j => by
    rw [h0, Finset.sum_range_zero]; exact hf r j
  | n + 1, hn, r, j => by
    have hk : n < k0_t2_loop.trips := by have := trips2; omega
    rw [hs ⟨n, hk⟩, Finset.sum_range_succ, ← sums_loop v f E m tk hE S h0 hf hs n (by omega) r j]
    refine (congrFun (View.read_writes_full v f inb_S128x128_S128x128_0_0 _ _) (ix2 r j)).trans ((sums_at _ _ _ r j).trans ?_)
    rw [View.readAt_full]
    refine congrArg (_ + ·) (Finset.sum_congr rfl fun i _ => (hE _ _ _).trans ?_)
    unfold ext
    rw [dif_pos (by omega)]

/-- After `n` trips the accumulator's rows hold, in the half of their group, the weighted codes of the first `1024 n` lanes. -/
theorem acc_loop (v : View sg κ₀ sp S128x256 .f32) (f : v.ty.Contents (Elt Ideal)) (P : Fin 128 → Fin 128 → Fin 8192 → EReal)
    (W : Fin k0_t2_loop.trips → FVec Ideal S128x1024 .bf16) (R : Fin k0_t2_loop.trips → IVec S4096x128 8)
    (hP : ∀ (k : Fin k0_t2_loop.trips) (r d : Fin 128) (x : Fin 1024), W k (ix2 r x) * valAt (R k) ⟨r.val / 32, by omega⟩ x d = P r d ⟨1024 * k.val + x.val, by have := trips2; omega⟩)
    (S : ℕ → List (View.Piece (Elt Ideal) S128x256 .f32)) (h0 : S 0 = []) (hf : ∀ r j, v.read (Elt Ideal) f (ix2 r j) = (0 : EReal))
    (hs : ∀ k : Fin k0_t2_loop.trips, S (k.val + 1) = [⟨Rect.unit (s := S128x256) ![64, 0] S64x256.size inb_S128x256_S64x256_64_0,
          k0_pay464 (W k) (k0_pay163 (R k)) (k0_pay164 (R k)) (View.readAt (Elt Ideal) v (Rect.unit (s := S128x256) ![64, 0] S64x256.size inb_S128x256_S64x256_64_0).toLoadRect (v.writes (Elt Ideal) f (S k.val)))⟩,
       ⟨Rect.unit (s := S128x256) ![0, 0] S64x256.size inb_S128x256_S64x256_0_0,
          k0_pay463 (View.readAt (Elt Ideal) v (Rect.unit (s := S128x256) ![0, 0] S64x256.size inb_S128x256_S64x256_0_0).toLoadRect (v.writes (Elt Ideal) f (S k.val))) (k0_pay165 (W k) (k0_pay162 (F := Ideal) (R k)) (R k))⟩] ++ S k.val) :
    ∀ n, n ≤ 8 → ∀ (r d : Fin 128), v.read (Elt Ideal) (v.writes (Elt Ideal) f (S n)) (ix2 r (⟨128 * (r.val / 32 % 2) + d.val, by omega⟩ : Fin 256))
      = ∑ k ∈ Finset.range n, ∑ x : Fin 1024, ext (P r d) (1024 * k + x.val)
  | 0, _, r, d => by
    rw [h0, Finset.sum_range_zero]; exact hf r _
  | n + 1, hn, r, d => by
    have hk : n < k0_t2_loop.trips := by have := trips2; omega
    have ih := acc_loop v f P W R hP S h0 hf hs n (by omega) r d
    rw [hs ⟨n, hk⟩, Finset.sum_range_succ, ← ih]
    have hsum : ∀ x : Fin 1024, W ⟨n, hk⟩ (ix2 r x) * valAt (R ⟨n, hk⟩) ⟨r.val / 32, by omega⟩ x d = ext (P r d) (1024 * n + x.val) := fun x => by
      rw [hP]; unfold ext; rw [dif_pos (by omega)]
    by_cases c : 64 ≤ r.val
    · refine (View.read_writes_cons_unit_of_mem v f inb_S128x256_S64x256_64_0 _ _ _ (ix2 (⟨r.val - 64, by omega⟩ : Fin 64) (⟨128 * (r.val / 32 % 2) + d.val, by omega⟩ : Fin 256)) rfl ?_).trans ?_
      · intro a
        match a with
        | ⟨0, _⟩ => show r.val = 64 + (r.val - 64); omega
        | ⟨1, _⟩ => show 128 * (r.val / 32 % 2) + d.val = 0 + (128 * (r.val / 32 % 2) + d.val); omega
      · refine (accHi_at _ _ _ _ _).trans (congr (congrArg HAdd.hAdd ?_) (Finset.sum_congr rfl fun x _ => Eq.trans ?_ (hsum x)))
        · rw [View.readAt_apply]
          refine congrArg (v.read (Elt Ideal) (v.writes (Elt Ideal) f (S n))) (funext fun a => Fin.ext ?_)
          match a with
          | ⟨0, _⟩ => show 64 + 1 * (r.val - 64) = r.val; omega
          | ⟨1, _⟩ => show 0 + 1 * (128 * (r.val / 32 % 2) + d.val) = (128 * (r.val / 32 % 2) + d.val); omega
        · have e1 : (⟨64 + (r.val - 64), by omega⟩ : Fin 128) = r := Fin.ext (by show 64 + (r.val - 64) = r.val; omega)
          have e2 : (⟨2 + (128 * (r.val / 32 % 2) + d.val) / 128, by omega⟩ : Fin 4) = ⟨r.val / 32, by omega⟩ := Fin.ext (by show 2 + (128 * (r.val / 32 % 2) + d.val) / 128 = r.val / 32; omega)
          have e3 : (⟨(128 * (r.val / 32 % 2) + d.val) % 128, by omega⟩ : Fin 128) = d := Fin.ext (by show (128 * (r.val / 32 % 2) + d.val) % 128 = d.val; omega)
          rw [e1, e2, e3]
    · refine (View.read_writes_cons_unit_of_not_mem v f inb_S128x256_S64x256_64_0 _ _ _ rfl (0 : Fin 2) (Or.inl ?_)).trans ?_
      · show r.val < 64; omega
      refine (View.read_writes_cons_unit_of_mem v f inb_S128x256_S64x256_0_0 _ _ _ (ix2 (⟨r.val, by omega⟩ : Fin 64) (⟨128 * (r.val / 32 % 2) + d.val, by omega⟩ : Fin 256)) rfl ?_).trans ?_
      · intro a
        match a with
        | ⟨0, _⟩ => show r.val = 0 + r.val; omega
        | ⟨1, _⟩ => show 128 * (r.val / 32 % 2) + d.val = 0 + (128 * (r.val / 32 % 2) + d.val); omega
      · refine (accLo_at _ _ _ _ _).trans (congr (congrArg HAdd.hAdd ?_) (Finset.sum_congr rfl fun x _ => Eq.trans ?_ (hsum x)))
        · rw [View.readAt_apply]
          refine congrArg (v.read (Elt Ideal) (v.writes (Elt Ideal) f (S n))) (funext fun a => Fin.ext ?_)
          match a with
          | ⟨0, _⟩ => show 0 + 1 * r.val = r.val; omega
          | ⟨1, _⟩ => show 0 + 1 * (128 * (r.val / 32 % 2) + d.val) = (128 * (r.val / 32 % 2) + d.val); omega
        · have e2 : (⟨(128 * (r.val / 32 % 2) + d.val) / 128, by omega⟩ : Fin 4) = ⟨r.val / 32, by omega⟩ := Fin.ext (by show (128 * (r.val / 32 % 2) + d.val) / 128 = r.val / 32; omega)
          have e3 : (⟨(128 * (r.val / 32 % 2) + d.val) % 128, by omega⟩ : Fin 128) = d := Fin.ext (by show (128 * (r.val / 32 % 2) + d.val) % 128 = d.val; omega)
          refine (congrArg₂ (fun a b => W ⟨n, hk⟩ (ix2 r x) * valAt (R ⟨n, hk⟩) a x b) e2 e3)

/-- A sum over the trips and a trip's lanes is the sum over all lanes. -/
theorem sum_lanes (E : Fin 8192 → EReal) : ∑ k ∈ Finset.range 8, ∑ x : Fin 1024, ext E (1024 * k + x.val) = ∑ l : Fin 8192, E l := by
  rw [Finset.sum_range, ← Finset.sum_product']
  have := Fintype.sum_equiv (finProdFinEquiv (m := 8) (n := 1024)) (fun p : Fin 8 × Fin 1024 => ext E (1024 * p.1.val + p.2.val)) (fun l : Fin (8 * 1024) => E l)
    (fun p => by
      unfold ext
      rw [dif_pos (by omega)]
      exact congrArg E (Fin.ext (by show 1024 * p.1.val + p.2.val = p.2.val + 1024 * p.1.val; omega)))
  exact this

theorem sum_lanes' (E : Fin 8192 → EReal) : ∑ j : Fin 128, ∑ k ∈ Finset.range 8, ∑ i : Fin 8, ext E (1024 * k + (128 * i.val + j.val)) = ∑ l : Fin 8192, E l := by
  rw [← sum_lanes, Finset.sum_comm]
  refine Finset.sum_congr rfl fun k _ => ?_
  rw [Finset.sum_comm, ← Finset.sum_product']
  exact Fintype.sum_equiv (finProdFinEquiv (m := 8) (n := 128)) (fun p : Fin 8 × Fin 128 => ext E (1024 * k + (128 * p.1.val + p.2.val)))
    (fun l : Fin (8 * 128) => ext E (1024 * k + l.val))
    (fun p => congrArg (ext E) (by show 1024 * k + (128 * p.1.val + p.2.val) = 1024 * k + (p.2.val + 128 * p.1.val); omega))

end Cert.KernelIdeal.Gen

end
-- ==== Proof.Ideal.Reads.lean ====
/- The arrays the attention body writes before its loops — the bias of every slot's lanes, the key scales laid out by lane, the value
   scales spread over the lanes — and what each holds at an index. -/
module

public import proofs.«01_k».proof.Proof.Ideal.LoopSpec

@[expose] public section
set_option maxRecDepth 16384
noncomputable section
namespace Cert.KernelIdeal.Gen
open Idealize.ShloMosaic Idealize.ShloMosaic.TcCoe Idealize.ShloMosaic.Tactic

theorem off13_eq : ∀ k : Fin k0_t1_loop.trips, k0_off13 k = ![0, k.val / 8, 128 * (k.val % 2), 0] := by decide +kernel
theorem off14_eq : ∀ k : Fin k0_t1_loop.trips, k0_off14 k = ![1, k.val / 8, 128 * (k.val % 2), 0] := by decide +kernel
theorem off16_eq : ∀ k : Fin k0_t1_loop.trips, k0_off16 k = ![1024 * k.val, 0] := by decide +kernel
theorem off17_eq : ∀ k : Fin k0_t1_loop.trips, k0_off17 k = ![0, 256 * k.val] := by decide +kernel
theorem off20_eq : ∀ k : Fin k0_t2_loop.trips, k0_off20 k = ![0, 1024 * k.val] := by decide +kernel
theorem off21_eq : ∀ k : Fin k0_t2_loop.trips, k0_off21 k = ![0, 1024 * k.val] := by decide +kernel
theorem off23_eq : ∀ k : Fin k0_t2_loop.trips, k0_off23 k = ![4096 * k.val, 0] := by decide +kernel

/-- The position in the sequence that slot `s` of the ring holds when the word of positions is `p`. -/
def slotWord (p : BitVec 32) (s : ℕ) : BitVec 32 := (p - 1#32) - ((p - 1#32 - BitVec.ofNat 32 s) &&& 2047#32)

/-- Whether slot `s` is attended to. -/
def okSlot (p : BitVec 32) (s : ℕ) : BitVec 1 :=
  IntOp.andi (IntOp.cmpi .sge (slotWord p s) 0#32) (IntOp.cmpi .sgt (slotWord p s) (p - 2048#32))

/-- What is added to the score of lane `l` in a row of class `c`. -/
def biasV (p : BitVec 32) (c l : ℕ) : EReal := if okSlot p (l / 4) = 1#1 ∧ l % 4 = c then 0 else ⊥

def biasLit (r : BitVec 32) : FVec Ideal S4x8192 .f32 :=
  let v13 : IVec S4x8192 32 := iota .tc S4x8192 32 [1] iota_S4x8192_d1_w32
  let v14 : IVec S4x8192 32 := iota .tc S4x8192 32 [0] iota_S4x8192_d0_w32
  let v15 : BitVec 32 := Scalar.subi r 1#32
  let v17 : IVec S4x8192 32 := broadcast S4x8192 4#32
  let v19 : IVec S4x8192 32 := broadcast S4x8192 0#32
  let v31 : IVec S4x8192 32 := broadcast S4x8192 1#32
  let v32 := cmpi .ne (subi (extui 32 (cmpi .sgt v13 v19) natLt_1_32) (extui 32 (cmpi .slt v13 v19) natLt_1_32)) v31
  let v36 := cmpi .ne (remsi v13 v17) v19
  let v40 : IVec S4x8192 32 := select (andi v32 v36) (subi (divsi v13 v17) v31) (divsi v13 v17)
  let v41 : IVec S4x8192 32 := broadcast S4x8192 v15
  let v44 : IVec S4x8192 32 := andi (subi v41 v40) (broadcast S4x8192 2047#32)
  let v46 := subi v41 v44
  let v52 := andi (cmpi .sge v46 v19) (cmpi .sgt v46 (broadcast S4x8192 (Scalar.subi r 2048#32)))
  let v56 := andi v52 (cmpi .eq (andi v13 (broadcast S4x8192 3#32)) v14)
  shapeCast S4x8192 (select v56 (broadcast S4x8192 (FloatOps.ofBits (F := Ideal) FTy.f32 0#32)) (broadcast S4x8192 (FloatOps.ofBits (F := Ideal) FTy.f32 4286578688#32))) shapeCasts_S4x8192_S4x8192

theorem lane4 : ∀ l : Fin 8192, (Scalar.select (IntOp.andi (IntOp.cmpi .ne (IntOp.subi (BitVec.setWidth 32 (IntOp.cmpi .sgt (BitVec.ofNat 32 l.val) 0#32)) (BitVec.setWidth 32 (IntOp.cmpi .slt (BitVec.ofNat 32 l.val) 0#32))) 1#32)
    (IntOp.cmpi .ne (IntOp.remsi ArithUnit.vector (BitVec.ofNat 32 l.val) 4#32) 0#32)) (IntOp.subi (IntOp.divsi ArithUnit.vector (BitVec.ofNat 32 l.val) 4#32) 1#32) (IntOp.divsi ArithUnit.vector (BitVec.ofNat 32 l.val) 4#32)) = BitVec.ofNat 32 (l.val / 4) := by
  decide +kernel

theorem class4 : ∀ l : Fin 8192, IntOp.andi (BitVec.ofNat 32 l.val) 3#32 = BitVec.ofNat 32 (l.val % 4) := by decide +kernel

theorem bias_at (p : BitVec 32) (c : Fin 4) (l : Fin 8192) : biasLit p (ix2 c l) = biasV p c.val l.val := by
  unfold biasLit
  pointwise
  rw [lane4, class4, show Ideal.ofBits FTy.f32 4286578688#32 = ⊥ from negInf]
  have e : ∀ u : BitVec 1, ∀ x y : ℕ, x < 4 → y < 4 →
      (Scalar.select (IntOp.andi u (IntOp.cmpi CmpIPredicate.eq (BitVec.ofNat 32 x) (BitVec.ofNat 32 y))) (0 : EReal) ⊥) = if u = 1#1 ∧ x = y then 0 else ⊥ := by
    have e1 : ∀ u : BitVec 1, ∀ x y : Fin 4, (IntOp.andi u (IntOp.cmpi CmpIPredicate.eq (BitVec.ofNat 32 x.val) (BitVec.ofNat 32 y.val)) = 1#1) ↔ (u = 1#1 ∧ x.val = y.val) := by decide
    intro u x y hx hy
    have := e1 u ⟨x, hx⟩ ⟨y, hy⟩
    show (if _ = 1#1 then (0 : EReal) else ⊥) = _
    exact if_congr this rfl rfl
  exact e _ _ _ (Nat.mod_lt _ (by decide)) c.isLt

/-- Eight groups of sixteen rows stacked. -/
def stack8 (w : Fin 8 → Vec Ideal S1x16x128 .f32) : FVec Ideal S128x128 .f32 :=
  concatenate S128x128 0
    [⟨S16x128, shapeCast S16x128 (w 0) shapeCasts_S1x16x128_S16x128⟩, ⟨S16x128, shapeCast S16x128 (w 1) shapeCasts_S1x16x128_S16x128⟩,
     ⟨S16x128, shapeCast S16x128 (w 2) shapeCasts_S1x16x128_S16x128⟩, ⟨S16x128, shapeCast S16x128 (w 3) shapeCasts_S1x16x128_S16x128⟩,
     ⟨S16x128, shapeCast S16x128 (w 4) shapeCasts_S1x16x128_S16x128⟩, ⟨S16x128, shapeCast S16x128 (w 5) shapeCasts_S1x16x128_S16x128⟩,
     ⟨S16x128, shapeCast S16x128 (w 6) shapeCasts_S1x16x128_S16x128⟩, ⟨S16x128, shapeCast S16x128 (w 7) shapeCasts_S1x16x128_S16x128⟩]
    concatenates_S16x128_S16x128_S16x128_S16x128_S16x128_S16x128_S16x128_S16x128_S128x128_d0

/-- One half of the key scales of 512 slots by lane: the sixteen-row groups stacked and turned. -/
def kuPiece (w : Fin 8 → Vec Ideal S1x16x128 .f32) : FVec Ideal S1x1x128x128 .f32 :=
  shapeCast S1x1x128x128 (transpose S128x128 [1, 0] (extf (F := Ideal) .f32 (truncf (F := Ideal) .bf16 (stack8 w) bitsLt_bf16_f32) bitsLt_bf16_f32) transposes_S128x128_p1_0_S128x128) shapeCasts_S128x128_S1x1x128x128

theorem stack8_at (w : Fin 8 → Vec Ideal S1x16x128 .f32) (a b : Fin 128) : stack8 w (ix2 a b) = w ⟨a.val / 16, by omega⟩ (ix3 0 ⟨a.val % 16, by omega⟩ b) := by
  have e : stack8 w = concatenate S128x128 0 (List.ofFn fun p : Fin 8 => (⟨S16x128, shapeCast S16x128 (w p) shapeCasts_S1x16x128_S16x128⟩ : (s : Shape) × (s.Idx → Ideal .f32)))
    concatenates_S16x128_S16x128_S16x128_S16x128_S16x128_S16x128_S16x128_S16x128_S128x128_d0 := rfl
  rw [e]
  refine (concatenate_ofFn_apply (t := S128x128) (s₁ := S16x128) 0 (fun p : Fin 8 => (shapeCast S16x128 (w p) shapeCasts_S1x16x128_S16x128 : FVec Ideal S16x128 .f32)) _ rfl 16 rfl (ix2 a b)
    ⟨a.val / 16, by omega⟩ rfl (ix2 ⟨a.val % 16, by omega⟩ b) rfl ?_).trans ?_
  · intro b hb
    match b with
    | ⟨0, _⟩ => exact absurd rfl hb
    | ⟨1, _⟩ => rfl
  · pointwise

theorem kuPiece_at (w : Fin 8 → Vec Ideal S1x16x128 .f32) (i j : Fin 128) : kuPiece w (ix4 0 0 i j) = w ⟨j.val / 16, by omega⟩ (ix3 0 ⟨j.val % 16, by omega⟩ i) := by
  unfold kuPiece
  pointwise
  rw [stack8_at]

def quarter : IVec S8x128 32 :=
  let v12 : IVec S8x128 32 := iota .tc S8x128 32 [1] iota_S8x128_d1_w32
  let z : IVec S8x128 32 := broadcast S8x128 0#32
  let o : IVec S8x128 32 := broadcast S8x128 1#32
  let f : IVec S8x128 32 := broadcast S8x128 4#32
  select (andi (cmpi .ne (subi (extui 32 (cmpi .sgt v12 z) natLt_1_32) (extui 32 (cmpi .slt v12 z) natLt_1_32)) o) (cmpi .ne (remsi v12 f) z)) (subi (divsi v12 f) o) (divsi v12 f)

/-- Thirty-two of the value scales' slots, each four lanes wide. -/
def vxPiece (x : Vec Ideal S1x16x128 .f32) (b : BitVec 32) : Vec Ideal S16x128 .f32 :=
  let rows : FVec Ideal S16x128 .f32 := shapeCast S16x128 x shapeCasts_S1x16x128_S16x128
  let idx : IVec S8x128 32 := addi (broadcast S8x128 b) quarter
  shapeCast S16x128 (concatenate S16x128 0
    [⟨S8x128, dynamicGather 1 (extractStridedSlice S8x128 ![0, 0] rows slices_S16x128_o0_0_S8x128) (gIdx idx)⟩,
     ⟨S8x128, dynamicGather 1 (extractStridedSlice S8x128 ![8, 0] rows slices_S16x128_o8_0_S8x128) (gIdx idx)⟩]
    concatenates_S8x128_S8x128_S16x128_d0) shapeCasts_S16x128_S16x128

theorem quarter_at : ∀ (g : Fin 8) (j : Fin 128) (b : Fin 4), (addi (broadcast S8x128 (BitVec.ofNat 32 (32 * b.val))) quarter : IVec S8x128 32) (ix2 g j) = BitVec.ofNat 32 (32 * b.val + j.val / 4) := by
  decide +kernel

theorem vxPiece_at (x : Vec Ideal S1x16x128 .f32) (b : Fin 4) (h : Fin 16) (j : Fin 128) :
    vxPiece x (BitVec.ofNat 32 (32 * b.val)) (ix2 h j) = x (ix3 0 h ⟨32 * b.val + j.val / 4, by omega⟩) := by
  have e : ∀ g : Fin 8, gIdx (addi (broadcast S8x128 (BitVec.ofNat 32 (32 * b.val))) quarter) (ix2 g j) = BitVec.ofNat 32 (⟨32 * b.val + j.val / 4, by omega⟩ : Fin 128).val :=
    fun g => gIdx_at _ g j _ (quarter_at g j b)
  unfold vxPiece
  pointwise
  split
  · refine congrArg x (congrArg (ix3 0 h) (Fin.ext ?_))
    show (gIdx _ (ix2 _ j)).toNat % 128 = 32 * b.val + j.val / 4
    rw [e, BitVec.toNat_ofNat]
    show (32 * b.val + j.val / 4) % 2 ^ 32 % 128 = 32 * b.val + j.val / 4
    omega
  · rename_i hn
    refine congrArg x (congr (congrArg (ix3 0) (Fin.ext ?_)) (Fin.ext ?_))
    · show 8 + (h.val - 8) = h.val
      omega
    show (gIdx _ (ix2 _ j)).toNat % 128 = 32 * b.val + j.val / 4
    rw [e, BitVec.toNat_ofNat]
    show (32 * b.val + j.val / 4) % 2 ^ 32 % 128 = 32 * b.val + j.val / 4
    omega

end Cert.KernelIdeal.Gen

end
-- ==== Proof.Ideal.Content.lean ====
/- What the key scales' and the value scales' scratch arrays hold after the stores the attention body makes into them. -/
module

public import proofs.«01_k».proof.Proof.Ideal.Reads
public import Idealize.ShloMosaic.Lib.Writes

@[expose] public section
set_option maxRecDepth 16384
noncomputable section
namespace Cert.KernelIdeal.Gen
open Idealize.ShloMosaic Idealize.ShloMosaic.TcCoe Idealize.ShloMosaic.Tactic

variable {sg : RefSig} {κ₀ : Kind} {sp : Space}

theorem inbKu (o : Fin 2) (t : Fin 4) (c : Fin 2) : ∀ a : Fin 4, 0 < S1x1x128x128.size a → (![o.val, t.val, c.val, 0] : Fin 4 → ℕ) a + (![1, 1, 2, 1] : Fin 4 → ℕ) a * (S1x1x128x128.size a - 1) < S2x4x256x128.size a := by
  revert o t c; decide

/-- Every second row of a half of a tile. -/
def kuRect (o : Fin 2) (t : Fin 4) (c : Fin 2) : Rect S2x4x256x128 :=
  { off := ![o.val, t.val, c.val, 0], size := S1x1x128x128.size, stride := ![1, 1, 2, 1], inb := by revert o t c; decide, stride_pos := by decide }

theorem inbRow (o : Fin 2) (t : Fin 4) (p : Fin 8) : ∀ a : Fin 3, (![0, 64 * (2 * p.val + o.val) + 16 * t.val, 0] : Fin 3 → ℕ) a + S1x16x128.size a ≤ S1x1024x128.size a := by
  revert o t p; decide

/-- The sixteen rows of the key scales of one head. -/
def kuRows (v : View sg κ₀ sp S1x1024x128 .f32) (f : v.ty.Contents (Elt Ideal)) (o : Fin 2) (t : Fin 4) (p : Fin 8) : Vec Ideal S1x16x128 .f32 :=
  v.readAt (Elt Ideal) (Rect.unit (s := S1x1024x128) ![0, 64 * (2 * p.val + o.val) + 16 * t.val, 0] S1x16x128.size (inbRow o t p)).toLoadRect f

def kuTriples : List (Fin 2 × Fin 4 × Fin 2) :=
  [(1, 3, 1), (0, 3, 1), (1, 3, 0), (0, 3, 0), (1, 2, 1), (0, 2, 1), (1, 2, 0), (0, 2, 0),
   (1, 1, 1), (0, 1, 1), (1, 1, 0), (0, 1, 0), (1, 0, 1), (0, 0, 1), (1, 0, 0), (0, 0, 0)]

/-- The stores of the key scales, the last first. -/
def kuList (v : View sg κ₀ sp S1x1024x128 .f32) (f : v.ty.Contents (Elt Ideal)) : List (View.Piece (Elt Ideal) S2x4x256x128 .f32) :=
  kuTriples.map fun q => ⟨kuRect q.1 q.2.1 q.2.2, kuPiece (kuRows v f q.1 q.2.1)⟩

/-- The key scale at a row of the laid-out array: its half, tile, row and lane. -/
def kuV (x5 : Vec Ideal S1x1024x128 .f32) (y : S2x4x256x128.Idx) : EReal :=
  x5 (ix3 0 ⟨64 * (2 * ((y 3).val / 16) + (y 0).val) + 16 * (y 1).val + (y 3).val % 16, by
    have h3 : (y 3).val < 128 := (y 3).isLt
    have h0 : (y 0).val < 2 := (y 0).isLt
    have h1 : (y 1).val < 4 := (y 1).isLt
    omega⟩ ⟨(y 2).val / 2, by have h2 : (y 2).val < 256 := (y 2).isLt; omega⟩)

theorem ku_at {sg' : RefSig} {κ' : Kind} {sp' : Space} (v : View sg κ₀ sp S1x1024x128 .f32) (f : v.ty.Contents (Elt Ideal)) (w : View sg' κ' sp' S2x4x256x128 .f32)
    (g : w.ty.Contents (Elt Ideal)) (y : S2x4x256x128.Idx) : w.read (Elt Ideal) (w.writes (Elt Ideal) g (kuList v f)) y = kuV (v.read (Elt Ideal) f) y := by
  refine View.read_writes_apply_of_pieces w g (kuV (v.read (Elt Ideal) f)) (kuList v f) ?_ y ?_
  · intro p hp x
    obtain ⟨⟨o, t, c⟩, _, rfl⟩ := List.mem_map.mp hp
    obtain ⟨i, j, rfl⟩ : ∃ i j : Fin 128, x = ix4 0 0 i j := ⟨x 2, x 3, funext fun a => by
      match a with
      | ⟨0, _⟩ => exact Fin.ext (by have h : (x 0).val < 1 := (x 0).isLt; show (x 0).val = 0; omega)
      | ⟨1, _⟩ => exact Fin.ext (by have h : (x 1).val < 1 := (x 1).isLt; show (x 1).val = 0; omega)
      | ⟨2, _⟩ => rfl
      | ⟨3, _⟩ => rfl⟩
    refine (kuPiece_at _ i j).trans ?_
    unfold kuRows kuV
    rw [View.readAt_apply]
    refine congrArg (v.read (Elt Ideal) f) (funext fun a => Fin.ext ?_)
    match a with
    | ⟨0, _⟩ => rfl
    | ⟨1, _⟩ =>
      show (64 * (2 * (j.val / 16) + o.val) + 16 * t.val) + 1 * (j.val % 16) = 64 * (2 * ((0 + 1 * j.val) / 16) + (o.val + 1 * 0)) + 16 * (t.val + 1 * 0) + (0 + 1 * j.val) % 16
      omega
    | ⟨2, _⟩ =>
      show 0 + 1 * i.val = (c.val + 2 * i.val) / 2
      omega
  · have h3 : (y 3).val < 128 := (y 3).isLt
    have h0 : (y 0).val < 2 := (y 0).isLt
    have h1 : (y 1).val < 4 := (y 1).isLt
    have h2 : (y 2).val < 256 := (y 2).isLt
    have hmem : ∀ o t c, ((o, t, c) : Fin 2 × Fin 4 × Fin 2) ∈ kuTriples := by decide
    refine ⟨⟨kuRect ⟨(y 0).val, h0⟩ ⟨(y 1).val, h1⟩ ⟨(y 2).val % 2, by omega⟩, kuPiece (kuRows v f ⟨(y 0).val, h0⟩ ⟨(y 1).val, h1⟩)⟩, List.mem_map.mpr ⟨(⟨(y 0).val, h0⟩, ⟨(y 1).val, h1⟩, ⟨(y 2).val % 2, by omega⟩), hmem _ _ _, rfl⟩, ?_⟩
    refine (LoadRect.mem_set _).mpr fun a => ?_
    match a with
    | ⟨0, _⟩ => exact ⟨0, Nat.one_pos, by show (y 0).val = (y 0).val + 1 * 0; omega⟩
    | ⟨1, _⟩ => exact ⟨0, Nat.one_pos, by show (y 1).val = (y 1).val + 1 * 0; omega⟩
    | ⟨2, _⟩ => exact ⟨(y 2).val / 2, by show (y 2).val / 2 < 128; omega, by show (y 2).val = (y 2).val % 2 + 2 * ((y 2).val / 2); omega⟩
    | ⟨3, _⟩ => exact ⟨(y 3).val, h3, by show (y 3).val = 0 + 1 * (y 3).val; omega⟩

theorem inbVx (n : Fin 64) : ∀ a : Fin 2, (![0, 128 * n.val] : Fin 2 → ℕ) a + S16x128.size a ≤ S16x8192.size a := by revert n; decide
theorem inbVr (n : Fin 16) : ∀ a : Fin 3, (![0, 0, 128 * n.val] : Fin 3 → ℕ) a + S1x16x128.size a ≤ S1x16x2048.size a := by revert n; decide

/-- One store of the value scales. -/
def vxStore (v : View sg κ₀ sp S1x16x2048 .f32) (f : v.ty.Contents (Elt Ideal)) (n : Fin 64) : View.Piece (Elt Ideal) S16x8192 .f32 :=
  ⟨Rect.unit (s := S16x8192) ![0, 128 * n.val] S16x128.size (inbVx n),
    vxPiece (v.readAt (Elt Ideal) (Rect.unit (s := S1x16x2048) ![0, 0, 128 * (n.val / 4)] S1x16x128.size (inbVr ⟨n.val / 4, by omega⟩)).toLoadRect f) (BitVec.ofNat 32 (32 * (n.val % 4)))⟩

/-- The stores of the value scales, the last first. -/
def vxList (v : View sg κ₀ sp S1x16x2048 .f32) (f : v.ty.Contents (Elt Ideal)) : List (View.Piece (Elt Ideal) S16x8192 .f32) :=
  [vxStore v f 63, vxStore v f 62, vxStore v f 61, vxStore v f 60, vxStore v f 59, vxStore v f 58, vxStore v f 57, vxStore v f 56, vxStore v f 55, vxStore v f 54, vxStore v f 53, vxStore v f 52, vxStore v f 51, vxStore v f 50, vxStore v f 49, vxStore v f 48, vxStore v f 47, vxStore v f 46, vxStore v f 45, vxStore v f 44, vxStore v f 43, vxStore v f 42, vxStore v f 41, vxStore v f 40, vxStore v f 39, vxStore v f 38, vxStore v f 37, vxStore v f 36, vxStore v f 35, vxStore v f 34, vxStore v f 33, vxStore v f 32, vxStore v f 31, vxStore v f 30, vxStore v f 29, vxStore v f 28, vxStore v f 27, vxStore v f 26, vxStore v f 25, vxStore v f 24, vxStore v f 23, vxStore v f 22, vxStore v f 21, vxStore v f 20, vxStore v f 19, vxStore v f 18, vxStore v f 17, vxStore v f 16, vxStore v f 15, vxStore v f 14, vxStore v f 13, vxStore v f 12, vxStore v f 11, vxStore v f 10, vxStore v f 9, vxStore v f 8, vxStore v f 7, vxStore v f 6, vxStore v f 5, vxStore v f 4, vxStore v f 3, vxStore v f 2, vxStore v f 1, vxStore v f 0]

theorem vxList_eq (v : View sg κ₀ sp S1x16x2048 .f32) (f : v.ty.Contents (Elt Ideal)) : vxList v f = List.ofFn fun n : Fin 64 => vxStore v f ⟨63 - n.val, by omega⟩ := rfl

/-- The value scale of a lane. -/
def vxV (x6 : Vec Ideal S1x16x2048 .f32) (y : S16x8192.Idx) : EReal :=
  x6 (ix3 0 ⟨(y 0).val, (y 0).isLt⟩ ⟨(y 1).val / 4, by have h : (y 1).val < 8192 := (y 1).isLt; omega⟩)

theorem vxStore_at (v : View sg κ₀ sp S1x16x2048 .f32) (f : v.ty.Contents (Elt Ideal)) (n : Fin 64) (x : (vxStore v f n).1.shape.Idx) :
    (vxStore v f n).2 x = vxV (v.read (Elt Ideal) f) ((vxStore v f n).1.emb x) := by
  obtain ⟨h, j, rfl⟩ : ∃ (h : Fin 16) (j : Fin 128), x = ix2 h j := ⟨x 0, x 1, funext fun a => by
    match a with
    | ⟨0, _⟩ => rfl
    | ⟨1, _⟩ => rfl⟩
  have hv := vxPiece_at (v.readAt (Elt Ideal) (Rect.unit (s := S1x16x2048) ![0, 0, 128 * (n.val / 4)] S1x16x128.size (inbVr ⟨n.val / 4, by omega⟩)).toLoadRect f) ⟨n.val % 4, by omega⟩ h j
  refine Eq.trans hv ?_
  rw [View.readAt_apply]
  unfold vxV
  refine congrArg (v.read (Elt Ideal) f) (funext fun a => Fin.ext ?_)
  match a with
  | ⟨0, _⟩ => rfl
  | ⟨1, _⟩ => show 0 + 1 * h.val = 0 + 1 * h.val; rfl
  | ⟨2, _⟩ =>
    show 128 * (n.val / 4) + 1 * (32 * (n.val % 4) + j.val / 4) = (128 * n.val + 1 * j.val) / 4
    omega

theorem vx_at {sg' : RefSig} {κ' : Kind} {sp' : Space} (v : View sg κ₀ sp S1x16x2048 .f32) (f : v.ty.Contents (Elt Ideal)) (w : View sg' κ' sp' S16x8192 .f32)
    (g : w.ty.Contents (Elt Ideal)) (y : S16x8192.Idx) : w.read (Elt Ideal) (w.writes (Elt Ideal) g (vxList v f)) y = vxV (v.read (Elt Ideal) f) y := by
  rw [vxList_eq]
  refine View.read_writes_apply_of_pieces w g (vxV (v.read (Elt Ideal) f)) _ ?_ y ?_
  · intro p hp x
    obtain ⟨m, rfl⟩ := (List.mem_ofFn' _ _).mp hp
    exact vxStore_at v f _ x
  · have h0 : (y 0).val < 16 := (y 0).isLt
    have h1 : (y 1).val < 8192 := (y 1).isLt
    refine ⟨vxStore v f ⟨63 - (63 - (y 1).val / 128), by omega⟩, (List.mem_ofFn' _ _).mpr ⟨⟨63 - (y 1).val / 128, by omega⟩, rfl⟩, ?_⟩
    refine (LoadRect.mem_set _).mpr fun a => ?_
    match a with
    | ⟨0, _⟩ => exact ⟨(y 0).val, h0, by show (y 0).val = 0 + 1 * (y 0).val; omega⟩
    | ⟨1, _⟩ => exact ⟨(y 1).val % 128, by show (y 1).val % 128 < 128; omega, by show (y 1).val = 128 * (63 - (63 - (y 1).val / 128)) + 1 * ((y 1).val % 128); omega⟩

end Cert.KernelIdeal.Gen

end
-- ==== Proof.Ideal.Acc.lean ====
/- What one trip of the value loop stores: the two halves of the accumulator, each with the products of the weighted
   exponentials and the value codes of two groups of heads added, and the sums of exponentials per lane. -/
module

public import proofs.«01_k».proof.Proof.Ideal.Loops

@[expose] public section
set_option maxRecDepth 16384
noncomputable section
namespace Cert.KernelIdeal.Gen
open Idealize.ShloMosaic Idealize.ShloMosaic.TcCoe Idealize.ShloMosaic.Tactic

variable {F : FTy → Type} [FloatOps F] [Named F]

set_option maxHeartbeats 4000000 in
/-- What a trip of the value loop stores into the accumulator. -/
theorem accL_eq (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (k : Fin k0_t2_loop.trips) (f18 : BufTy.Contents (Elt F) arg18.view.ty) (f19 : BufTy.Contents (Elt F) arg19.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).1 f18 f19 =
      [⟨Rect.unit (s := S128x256) ![64, 0] S64x256.size inb_S128x256_S64x256_64_0,
          k0_pay464 (k0_pay161 v3454 (View.readAt (Elt F) arg14.view (Rect.unit (s := S128x8192) (k0_off20 k) S128x1024.size (k0_off20_inb k)).toLoadRect X_arg14) (View.readAt (Elt F) arg17.view (Rect.unit (s := S16x8192) (k0_off21 k) S16x1024.size (k0_off21_inb k)).toLoadRect X_arg17)) (k0_pay163 (View.readAt (Elt F) mv_v3550.view (Rect.unit (s := S32768x128) (k0_off23 k) S4096x128.size (k0_off23_inb k)).toLoadRect X_v3550)) (k0_pay164 (View.readAt (Elt F) mv_v3550.view (Rect.unit (s := S32768x128) (k0_off23 k) S4096x128.size (k0_off23_inb k)).toLoadRect X_v3550)) (View.readAt (Elt F) arg18.view (Rect.unit (s := S128x256) ![64, 0] S64x256.size inb_S128x256_S64x256_64_0).toLoadRect f18)⟩,
       ⟨Rect.unit (s := S128x256) ![0, 0] S64x256.size inb_S128x256_S64x256_0_0,
          k0_pay463 (View.readAt (Elt F) arg18.view (Rect.unit (s := S128x256) ![0, 0] S64x256.size inb_S128x256_S64x256_0_0).toLoadRect f18) (k0_pay165 (k0_pay161 v3454 (View.readAt (Elt F) arg14.view (Rect.unit (s := S128x8192) (k0_off20 k) S128x1024.size (k0_off20_inb k)).toLoadRect X_arg14) (View.readAt (Elt F) arg17.view (Rect.unit (s := S16x8192) (k0_off21 k) S16x1024.size (k0_off21_inb k)).toLoadRect X_arg17)) (k0_pay162 (View.readAt (Elt F) mv_v3550.view (Rect.unit (s := S32768x128) (k0_off23 k) S4096x128.size (k0_off23_inb k)).toLoadRect X_v3550)) (View.readAt (Elt F) mv_v3550.view (Rect.unit (s := S32768x128) (k0_off23 k) S4096x128.size (k0_off23_inb k)).toLoadRect X_v3550))⟩] := by
  delta trip_k0_t2
  rfl

set_option maxHeartbeats 4000000 in
/-- What a trip of the value loop stores into the sums. -/
theorem sumL_eq (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (v3451 : FVec F S128x1 .f32) (v3454 : FVec F S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt F) arg14.view.ty) (X_arg17 : BufTy.Contents (Elt F) arg17.view.ty) (X_v3550 : BufTy.Contents (Elt F) mv_v3550.view.ty) (k : Fin k0_t2_loop.trips) (f18 : BufTy.Contents (Elt F) arg18.view.ty) (f19 : BufTy.Contents (Elt F) arg19.view.ty) :
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k).2.1 f18 f19 =
      [⟨Rect.unit (s := S128x128) ![0, 0] S128x128.size inb_S128x128_S128x128_0_0,
        k0_pay160 v3454 (View.readAt (Elt F) arg14.view (Rect.unit (s := S128x8192) (k0_off20 k) S128x1024.size (k0_off20_inb k)).toLoadRect X_arg14) (View.readAt (Elt F) arg19.view (Rect.unit (s := S128x128) ![0, 0] S128x128.size inb_S128x128_S128x128_0_0).toLoadRect f19)⟩] := by
  delta trip_k0_t2
  rfl

end Cert.KernelIdeal.Gen

end
-- ==== Proof.Ideal.Core.lean ====
/- What the attention body computes for one sequence, as sums over the lanes of its rows, and the proof that the two loops compute it. -/
module

public import proofs.«01_k».proof.Proof.Ideal.Content
public import proofs.«01_k».proof.Proof.Ideal.Acc

@[expose] public section
set_option maxRecDepth 16384
set_option pp.maxSteps 40
noncomputable section
namespace Cert.KernelIdeal.Gen
open Idealize.ShloMosaic Idealize.ShloMosaic.TcCoe Idealize.ShloMosaic.Tactic

/-- An int8 code as a number. -/
abbrev codeV (b : BitVec 8) : EReal := ((b.toInt : ℝ) : EReal)

/-- The dequantised key of lane `l` for row `r`: lane `4 s + c` of a row in the quarter `q` is slot `s` of head `4 q + c`. -/
def keyV (x5 : Vec Ideal S1x1024x128 .f32) (KR : IVec S32768x128 8) (r : Fin 128) (l : Fin 8192) (d : Fin 128) : EReal :=
  codeV (KR (ix2 ⟨16 * (l.val / 4) + 4 * (r.val / 32) + l.val % 4, by omega⟩ d)) *
    x5 (ix3 0 ⟨64 * (4 * (r.val / 32) + l.val % 4) + 4 * (l.val / 4 / 128) + d.val / 32, by omega⟩ ⟨l.val / 4 % 128, by omega⟩)

/-- The score of a lane. -/
def scoreV (p : BitVec 32) (x1 : Vec Ideal S1x128x128 .bf16) (x5 : Vec Ideal S1x1024x128 .f32) (KR : IVec S32768x128 8) (r : Fin 128) (l : Fin 8192) : EReal :=
  ∑ x : Fin 128, x1 (ix3 0 r x) * keyV x5 KR r l x + biasV p (r.val / 8 % 4) l.val

/-- The score of the new key. -/
def newV (x1 : Vec Ideal S1x128x128 .bf16) (x2 : Vec Ideal S1x16x128 .bf16) (r : Fin 128) : EReal :=
  ∑ x : Fin 128, x1 (ix3 0 r x) * x2 (ix3 0 ⟨r.val / 8, by omega⟩ x)

/-- The maximum of a row's scores. -/
def topV (p : BitVec 32) (x1 : Vec Ideal S1x128x128 .bf16) (x2 : Vec Ideal S1x16x128 .bf16) (x5 : Vec Ideal S1x1024x128 .f32) (KR : IVec S32768x128 8) (r : Fin 128) : EReal :=
  max (Finset.univ.sup (scoreV p x1 x5 KR r)) (newV x1 x2 r)

/-- The exponential of a lane. -/
def expoV (p : BitVec 32) (x1 : Vec Ideal S1x128x128 .bf16) (x2 : Vec Ideal S1x16x128 .bf16) (x5 : Vec Ideal S1x1024x128 .f32) (KR : IVec S32768x128 8) (r : Fin 128) (l : Fin 8192) : EReal :=
  Ideal.exp2 ((scoreV p x1 x5 KR r l - topV p x1 x2 x5 KR r) * kap)

/-- The exponential of the new key. -/
def expoNewV (p : BitVec 32) (x1 : Vec Ideal S1x128x128 .bf16) (x2 : Vec Ideal S1x16x128 .bf16) (x5 : Vec Ideal S1x1024x128 .f32) (KR : IVec S32768x128 8) (r : Fin 128) : EReal :=
  Ideal.exp2 ((newV x1 x2 r - topV p x1 x2 x5 KR r) * kap)

/-- The weighted value code of a lane. -/
def partV (p : BitVec 32) (x1 : Vec Ideal S1x128x128 .bf16) (x2 : Vec Ideal S1x16x128 .bf16) (x5 : Vec Ideal S1x1024x128 .f32) (x6 : Vec Ideal S1x16x2048 .f32) (KR VR : IVec S32768x128 8)
    (r d : Fin 128) (l : Fin 8192) : EReal :=
  expoV p x1 x2 x5 KR r l * x6 (ix3 0 ⟨r.val / 8, by omega⟩ ⟨l.val / 4, by omega⟩) * codeV (VR (ix2 ⟨16 * (l.val / 4) + 4 * (r.val / 32) + l.val % 4, by omega⟩ d))

/-- The result of the body at row `r` and column `d`. -/
def outV (p : BitVec 32) (x1 : Vec Ideal S1x128x128 .bf16) (x2 : Vec Ideal S1x16x128 .bf16) (x3 : Vec Ideal S1x16x128 .i8) (x4 : Vec Ideal S1x16x1 .f32)
    (x5 : Vec Ideal S1x1024x128 .f32) (x6 : Vec Ideal S1x16x2048 .f32) (KR VR : IVec S32768x128 8) (r d : Fin 128) : EReal :=
  Ideal.div (∑ l : Fin 8192, partV p x1 x2 x5 x6 KR VR r d l + expoNewV p x1 x2 x5 KR r * x4 (ix3 0 ⟨r.val / 8, by omega⟩ 0) * codeV (x3 (ix3 0 ⟨r.val / 8, by omega⟩ d)))
    (∑ l : Fin 8192, expoV p x1 x2 x5 KR r l + expoNewV p x1 x2 x5 KR r)

/-- A load of a block at a known offset. -/
theorem readAt_unit {sg : RefSig} {κ₀ : Kind} {sp : Space} {s : Shape} {e : EltTy} (v : View sg κ₀ sp s e) (f : v.ty.Contents (Elt Ideal)) {off off' size : Fin s.rank → ℕ}
    (inb : ∀ a, off a + size a ≤ s.size a) (x : (Rect.unit off size inb).shape.Idx) (y : s.Idx) (h : off = off') (hy : ∀ a, (y a).val = off' a + (x a).val) :
    v.readAt (Elt Ideal) (Rect.unit off size inb).toLoadRect f x = v.read (Elt Ideal) f y := by
  subst h
  rw [View.readAt_apply]
  refine congrArg (v.read (Elt Ideal) f) (funext fun a => Fin.ext ?_)
  show off a + 1 * (x a).val = (y a).val
  rw [hy]; omega

/-- The place of a head's key scale in the laid-out array. -/
theorem scalePlace (k l e x o : ℕ) (hk : k < 32) (hl : l < 256) (hx : x < 4) (ho : l % 2 = o) :
    64 * (2 * ((32 * e + 16 * (l / 2 % 2) + 4 * (k / 2 % 4) + x) / 16) + o) + 16 * (k / 8) + (32 * e + 16 * (l / 2 % 2) + 4 * (k / 2 % 4) + x) % 16
      = 64 * (4 * e + (256 * k + l) % 4) + 4 * ((256 * k + l) / 4 / 128) + x := by
  have h1 : (32 * e + 16 * (l / 2 % 2) + 4 * (k / 2 % 4) + x) / 16 = 2 * e + l / 2 % 2 := by omega
  have h2 : (32 * e + 16 * (l / 2 % 2) + 4 * (k / 2 % 4) + x) % 16 = 4 * (k / 2 % 4) + x := by omega
  have h3 : (256 * k + l) % 4 = 2 * (l / 2 % 2) + o := by omega
  have h4 : (256 * k + l) / 4 / 128 = k / 2 := by omega
  have h5 : 16 * (k / 8) + 4 * (k / 2 % 4) = 4 * (k / 2) := by omega
  rw [h1, h2, h3, h4]
  omega

/-- A trip's scores are those of its 256 lanes. -/
theorem trip_scores (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole)  (arg0 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt Ideal) arg15.view.ty) (X_arg16 : BufTy.Contents (Elt Ideal) arg16.view.ty) (X_v3568 : BufTy.Contents (Elt Ideal) mv_v3568.view.ty)  (p : BitVec 32) (x1 : Vec Ideal S1x128x128 .bf16) (x5 : Vec Ideal S1x1024x128 .f32) (KR : IVec S32768x128 8)
    (h15 : ∀ (c : Fin 4) (l : Fin 8192), View.read (Elt Ideal) arg15.view X_arg15 (ix2 c l) = biasV p c.val l.val)
    (h16 : ∀ y, View.read (Elt Ideal) arg16.view X_arg16 y = kuV x5 y) (hK : View.read (Elt Ideal) mv_v3568.view X_v3568 = KR)
    (k : Fin k0_t1_loop.trips) (r : Fin 128) (l : Fin 256) :
    scoreTrip (k0_pay451 x1) (k0_pay452 x1) (View.readAt (Elt Ideal) mv_v3568.view (Rect.unit (s := S32768x128) (k0_off16 k) S1024x128.size (k0_off16_inb k)).toLoadRect X_v3568) (View.readAt (Elt Ideal) arg16.view (Rect.unit (s := S2x4x256x128) (k0_off13 k) S1x1x128x128.size (k0_off13_inb k)).toLoadRect X_arg16) (View.readAt (Elt Ideal) arg16.view (Rect.unit (s := S2x4x256x128) (k0_off14 k) S1x1x128x128.size (k0_off14_inb k)).toLoadRect X_arg16) baseIdx (slotTile k) (View.readAt (Elt Ideal) arg15.view (Rect.unit (s := S4x8192) (k0_off17 k) S4x256.size (k0_off17_inb k)).toLoadRect X_arg15) (ix2 r l) = scoreV p x1 x5 KR r ⟨256 * k.val + l.val, by have := trips1; omega⟩ := by
  have hk : k.val < 32 := by have := trips1; omega
  rw [scoreTrip_at]
  unfold scoreV
  refine congr (congrArg HAdd.hAdd (Finset.sum_congr rfl fun x _ => congrArg (x1 (ix3 0 r x) * ·) ?_)) ?_
  · unfold keyAt keyV codeV
    refine congr (congrArg HMul.hMul ?_) ?_
    · refine congrArg (fun b : BitVec 8 => (((b.toInt : ℝ) : EReal))) ?_
      rw [← hK]
      refine readAt_unit _ _ _ _ _ (off16_eq k) fun a => ?_
      match a with
      | ⟨0, _⟩ =>
        show 16 * ((256 * k.val + l.val) / 4) + 4 * (r.val / 32) + (256 * k.val + l.val) % 4 = 1024 * k.val + (16 * (l.val / 4) + 4 * (r.val / 32) + l.val % 4)
        omega
      | ⟨1, _⟩ => show x.val = 0 + x.val; omega
    · split
      · rename_i hp
        refine (readAt_unit _ _ _ _ (ix4 (0 : Fin 2) (⟨k.val / 8, by omega⟩ : Fin 4) (⟨128 * (k.val % 2) + l.val / 2, by omega⟩ : Fin 256) (⟨32 * (r.val / 32) + 16 * (l.val / 2 % 2) + 4 * (k.val / 2 % 4) + x.val / 32, by omega⟩ : Fin 128)) (off13_eq k) fun a => ?_).trans ((h16 _).trans ?_)
        · match a with
          | ⟨0, _⟩ => rfl
          | ⟨1, _⟩ => show k.val / 8 = k.val / 8 + 0; omega
          | ⟨2, _⟩ => rfl
          | ⟨3, _⟩ => show 32 * (r.val / 32) + 16 * (l.val / 2 % 2) + 4 * (k.val / 2 % 4) + x.val / 32 = 0 + (32 * (r.val / 32) + 16 * (l.val / 2 % 2) + 4 * (k.val / 2 % 4) + x.val / 32); omega
        · unfold kuV
          refine congrArg x5 (congr (congrArg (ix3 0) (Fin.ext ?_)) (Fin.ext ?_))
          · exact scalePlace k.val l.val (r.val / 32) (x.val / 32) 0 hk l.isLt (by omega) (by omega)
          · show (128 * (k.val % 2) + l.val / 2) / 2 = (256 * k.val + l.val) / 4 % 128
            omega
      · rename_i hp
        refine (readAt_unit _ _ _ _ (ix4 (1 : Fin 2) (⟨k.val / 8, by omega⟩ : Fin 4) (⟨128 * (k.val % 2) + l.val / 2, by omega⟩ : Fin 256) (⟨32 * (r.val / 32) + 16 * (l.val / 2 % 2) + 4 * (k.val / 2 % 4) + x.val / 32, by omega⟩ : Fin 128)) (off14_eq k) fun a => ?_).trans ((h16 _).trans ?_)
        · match a with
          | ⟨0, _⟩ => rfl
          | ⟨1, _⟩ => show k.val / 8 = k.val / 8 + 0; omega
          | ⟨2, _⟩ => rfl
          | ⟨3, _⟩ => show 32 * (r.val / 32) + 16 * (l.val / 2 % 2) + 4 * (k.val / 2 % 4) + x.val / 32 = 0 + (32 * (r.val / 32) + 16 * (l.val / 2 % 2) + 4 * (k.val / 2 % 4) + x.val / 32); omega
        · unfold kuV
          refine congrArg x5 (congr (congrArg (ix3 0) (Fin.ext ?_)) (Fin.ext ?_))
          · exact scalePlace k.val l.val (r.val / 32) (x.val / 32) 1 hk l.isLt (by omega) (by omega)
          · show (128 * (k.val % 2) + l.val / 2) / 2 = (256 * k.val + l.val) / 4 % 128
            omega
  · refine (readAt_unit _ _ _ _ (ix2 (⟨r.val / 8 % 4, by omega⟩ : Fin 4) (⟨256 * k.val + l.val, by omega⟩ : Fin 8192)) (off17_eq k) fun a => ?_).trans (h15 _ _)
    match a with
    | ⟨0, _⟩ => show r.val / 8 % 4 = 0 + r.val / 8 % 4; omega
    | ⟨1, _⟩ => rfl

/-- The score loop: it leaves the scores of all lanes, and the row maximum with the new key's score. -/
theorem loop1 (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole)  (arg0 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt Ideal) arg15.view.ty) (X_arg16 : BufTy.Contents (Elt Ideal) arg16.view.ty) (X_v3568 : BufTy.Contents (Elt Ideal) mv_v3568.view.ty)  (p : BitVec 32) (x1 : Vec Ideal S1x128x128 .bf16) (x2 : Vec Ideal S1x16x128 .bf16) (x5 : Vec Ideal S1x1024x128 .f32) (KR : IVec S32768x128 8)
    (h15 : ∀ (c : Fin 4) (l : Fin 8192), View.read (Elt Ideal) arg15.view X_arg15 (ix2 c l) = biasV p c.val l.val)
    (h16 : ∀ y, View.read (Elt Ideal) arg16.view X_arg16 y = kuV x5 y) (hK : View.read (Elt Ideal) mv_v3568.view X_v3568 = KR) (f14 : BufTy.Contents (Elt Ideal) arg14.view.ty) (r : Fin 128) :
    (∀ l, View.read (Elt Ideal) arg14.view (arg14.view.writes (Elt Ideal) f14 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) (ix2 r l) = scoreV p x1 x5 KR r l)
      ∧ k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2 (ix2 r 0) = topV p x1 x2 x5 KR r := by
  have htr := trip_scores 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 mv_v3568 hcanon_v3568 X_arg15 X_arg16 X_v3568 p x1 x5 KR h15 h16 hK
  have ht : Scf.trips k0_t1_loop.lb k0_t1_loop.ub k0_t1_loop.st = 32 := trips1
  have hs := fun k : Fin k0_t1_loop.trips => (st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 k).trans
    (congr (congrArg Prod.mk (tripR_eq 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k _)) (congrArg (· ++ _) (tripL_eq 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k _)))
  rw [ht]
  constructor
  · intro l
    exact scores_loop arg14.view f14 (scoreV p x1 x5 KR) _ htr (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455) rfl hs 32 le_rfl r l (by omega)
  · refine (top_eq (scoreV p x1 x5 KR) _ _ x2 r (max_loop (scoreV p x1 x5 KR) _ htr (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455) rfl hs 32 le_rfl r)).trans ?_
    rw [snew_at]
    rfl

/-- The value loop: it leaves the sums of the exponentials and the weighted codes of all lanes. -/
theorem loop2 (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole)  (v3451 v3454 : FVec Ideal S128x1 .f32) (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550) (X_arg14 : BufTy.Contents (Elt Ideal) arg14.view.ty) (X_arg17 : BufTy.Contents (Elt Ideal) arg17.view.ty) (X_v3550 : BufTy.Contents (Elt Ideal) mv_v3550.view.ty)  (G_arg18 : BufTy.Contents (Elt Ideal) arg18.view.ty) (G_arg19 : BufTy.Contents (Elt Ideal) arg19.view.ty)
    (p : BitVec 32) (x1 : Vec Ideal S1x128x128 .bf16) (x2 : Vec Ideal S1x16x128 .bf16) (x5 : Vec Ideal S1x1024x128 .f32) (x6 : Vec Ideal S1x16x2048 .f32) (KR VR : IVec S32768x128 8)
    (h14 : ∀ (r : Fin 128) (l : Fin 8192), View.read (Elt Ideal) arg14.view X_arg14 (ix2 r l) = scoreV p x1 x5 KR r l)
    (hM : ∀ r : Fin 128, v3454 (ix2 r 0) = topV p x1 x2 x5 KR r)
    (h17 : ∀ y, View.read (Elt Ideal) arg17.view X_arg17 y = vxV x6 y) (hV : View.read (Elt Ideal) mv_v3550.view X_v3550 = VR)
    (h18 : ∀ r j, View.read (Elt Ideal) arg18.view G_arg18 (ix2 r j) = (0 : EReal)) (h19 : ∀ r j, View.read (Elt Ideal) arg19.view G_arg19 (ix2 r j) = (0 : EReal)) (r : Fin 128) :
    (∀ d : Fin 128, View.read (Elt Ideal) arg18.view (arg18.view.writes (Elt Ideal) G_arg18 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 (Scf.trips k0_t2_loop.lb k0_t2_loop.ub k0_t2_loop.st)).1) (ix2 r (⟨128 * (r.val / 32 % 2) + d.val, by omega⟩ : Fin 256))
        = ∑ l : Fin 8192, partV p x1 x2 x5 x6 KR VR r d l)
      ∧ ∑ j : Fin 128, (id (α := EReal) (View.read (Elt Ideal) arg19.view (arg19.view.writes (Elt Ideal) G_arg19 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 (Scf.trips k0_t2_loop.lb k0_t2_loop.ub k0_t2_loop.st)).2) (ix2 r j))) = ∑ l : Fin 8192, expoV p x1 x2 x5 KR r l := by
  have ht : Scf.trips k0_t2_loop.lb k0_t2_loop.ub k0_t2_loop.st = 8 := trips2
  have hE : ∀ (k : Fin k0_t2_loop.trips) (r : Fin 128) (x : Fin 1024), k0_pay159 v3454 (View.readAt (Elt Ideal) arg14.view (Rect.unit (s := S128x8192) (k0_off20 k) S128x1024.size (k0_off20_inb k)).toLoadRect X_arg14) (ix2 r x)
      = expoV p x1 x2 x5 KR r ⟨1024 * k.val + x.val, by have := trips2; omega⟩ := fun k r x => by
    have hk : k.val < 8 := by have := trips2; omega
    rw [exp_at, hM]
    unfold expoV
    refine congrArg (fun e => Ideal.exp2 ((e - topV p x1 x2 x5 KR r) * kap)) ((readAt_unit _ _ _ _ (ix2 r (⟨1024 * k.val + x.val, by omega⟩ : Fin 8192)) (off20_eq k) fun a => ?_).trans (h14 _ _))
    match a with
    | ⟨0, _⟩ => show r.val = 0 + r.val; omega
    | ⟨1, _⟩ => rfl
  have hP : ∀ (k : Fin k0_t2_loop.trips) (r d : Fin 128) (x : Fin 1024), k0_pay161 v3454 (View.readAt (Elt Ideal) arg14.view (Rect.unit (s := S128x8192) (k0_off20 k) S128x1024.size (k0_off20_inb k)).toLoadRect X_arg14) (View.readAt (Elt Ideal) arg17.view (Rect.unit (s := S16x8192) (k0_off21 k) S16x1024.size (k0_off21_inb k)).toLoadRect X_arg17) (ix2 r x) * valAt (View.readAt (Elt Ideal) mv_v3550.view (Rect.unit (s := S32768x128) (k0_off23 k) S4096x128.size (k0_off23_inb k)).toLoadRect X_v3550) ⟨r.val / 32, by omega⟩ x d
      = partV p x1 x2 x5 x6 KR VR r d ⟨1024 * k.val + x.val, by have := trips2; omega⟩ := fun k r d x => by
    have hk : k.val < 8 := by have := trips2; omega
    rw [weights_at, hE]
    unfold partV valAt codeV
    refine congr (congrArg HMul.hMul (congrArg (expoV p x1 x2 x5 KR r _ * ·) ?_)) ?_
    · refine (readAt_unit _ _ _ _ (ix2 (⟨r.val / 8, by omega⟩ : Fin 16) (⟨1024 * k.val + x.val, by omega⟩ : Fin 8192)) (off21_eq k) fun a => ?_).trans (h17 _)
      match a with
      | ⟨0, _⟩ => show r.val / 8 = 0 + r.val / 8; omega
      | ⟨1, _⟩ => rfl
    · refine congrArg (fun b : BitVec 8 => (((b.toInt : ℝ) : EReal))) ?_
      rw [← hV]
      refine readAt_unit _ _ _ _ _ (off23_eq k) fun a => ?_
      match a with
      | ⟨0, _⟩ =>
        show 16 * ((1024 * k.val + x.val) / 4) + 4 * (r.val / 32) + (1024 * k.val + x.val) % 4 = 4096 * k.val + (16 * (x.val / 4) + 4 * (r.val / 32) + x.val % 4)
        omega
      | ⟨1, _⟩ => show d.val = 0 + d.val; omega
  have hs := fun k : Fin k0_t2_loop.trips => (pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 k)
  rw [ht]
  constructor
  · intro d
    refine (acc_loop arg18.view G_arg18 (fun r d => partV p x1 x2 x5 x6 KR VR r d) _ _ hP (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 n).1) rfl h18
      (fun k => (congrArg Prod.fst (hs k)).trans (congrArg (· ++ _) (accL_eq 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k _ _))) 8 le_rfl r d).trans ?_
    exact sum_lanes _
  · refine Eq.trans ?_ (sum_lanes' (expoV p x1 x2 x5 KR r))
    refine Finset.sum_congr rfl fun j _ => ?_
    exact sums_loop arg19.view G_arg19 (expoV p x1 x2 x5 KR) v3454 _ hE (fun n => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 G_arg18 G_arg19 n).2) rfl h19
      (fun k => (congrArg Prod.snd (hs k)).trans (congrArg (· ++ _) (sumL_eq 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 v3451 v3454 mv_v3550 hcanon_v3550 X_arg14 X_arg17 X_v3550 k _ _))) 8 le_rfl r j

end Cert.KernelIdeal.Gen

end
-- ==== Proof.Ideal.Out.lean ====
/- The value the attention body stores: the two loops' results put together. -/
module

public import proofs.«01_k».proof.Proof.Ideal.Core

@[expose] public section
set_option maxRecDepth 16384
set_option pp.maxSteps 40
noncomputable section
namespace Cert.KernelIdeal.Gen
open Idealize.ShloMosaic Idealize.ShloMosaic.TcCoe Idealize.ShloMosaic.Tactic

theorem zero461 (r : Fin 128) (j : Fin 256) : (k0_pay461 (F := Ideal)) (ix2 r j) = (0 : EReal) := by
  unfold k0_pay461
  pointwise

theorem zero462 (r j : Fin 128) : (k0_pay462 (F := Ideal)) (ix2 r j) = (0 : EReal) := by
  unfold k0_pay462
  pointwise

theorem out_core (𝒱 : Variants) (c : Dev nD) (bd : Option 𝒱.V) (i : grid0.Coords) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg8 : Memref sig .tc .hbm S64x32768x128 .i8) (harg8 : arg8.IsWhole) (arg9 : Memref sig .tc .hbm S64x32768x128 .i8) (harg9 : arg9.IsWhole) (arg10 : Memref sig .tc .vmem S1x128x128 .bf16) (harg10 : arg10.IsWhole) (arg11 : Memref sig .tc .vmem S2x32768x128 .i8) (harg11 : arg11.IsWhole) (arg12 : Memref sig .tc .vmem S2x32768x128 .i8) (harg12 : arg12.IsWhole) (arg13 : DmaSems sig S2x2) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole)  (arg0 : BitVec 32) (mv_v3568 : Memref sig .tc .vmem S32768x128 .i8) (hcanon_v3568 : (arg11.slice (Rect.unit (s := S2x32768x128) (k0_off15 i) S1x32768x128.size (k0_off15_inb i)) (fun _ => rfl)).squeeze S32768x128 squeezes_S1x32768x128_S32768x128 = mv_v3568) (X_arg15 : BufTy.Contents (Elt Ideal) arg15.view.ty) (X_arg16 : BufTy.Contents (Elt Ideal) arg16.view.ty) (X_v3568 : BufTy.Contents (Elt Ideal) mv_v3568.view.ty)  (mv_v3550 : Memref sig .tc .vmem S32768x128 .i8) (hcanon_v3550 : (arg12.slice (Rect.unit (s := S2x32768x128) (k0_off22 i) S1x32768x128.size (k0_off22_inb i)) (fun _ => rfl)).squeeze S32768x128 squeezes_S1x32768x128_S32768x128 = mv_v3550)  (X_arg17 : BufTy.Contents (Elt Ideal) arg17.view.ty) (X_v3550 : BufTy.Contents (Elt Ideal) mv_v3550.view.ty)  (fs2 : BufTy.Contents (Elt Ideal) arg14.view.ty)
    (p : BitVec 32) (x1 : Vec Ideal S1x128x128 .bf16) (x2 : Vec Ideal S1x16x128 .bf16) (x3 : Vec Ideal S1x16x128 .i8) (x4 : Vec Ideal S1x16x1 .f32) (x5 : Vec Ideal S1x1024x128 .f32) (x6 : Vec Ideal S1x16x2048 .f32) (KR VR : IVec S32768x128 8)
    (h15 : ∀ (c : Fin 4) (l : Fin 8192), View.read (Elt Ideal) arg15.view X_arg15 (ix2 c l) = biasV p c.val l.val)
    (h16 : ∀ y, View.read (Elt Ideal) arg16.view X_arg16 y = kuV x5 y) (hK : View.read (Elt Ideal) mv_v3568.view X_v3568 = KR)
    (h17 : ∀ y, View.read (Elt Ideal) arg17.view X_arg17 y = vxV x6 y) (hV : View.read (Elt Ideal) mv_v3550.view X_v3550 = VR) (r d : Fin 128) :
    k0_pay1 (k0_pay465 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2)) (k0_pay466 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) (arg19.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).2 ++ [⟨Rect.unit (s := S128x128) ![0, 0] S128x128.size inb_S128x128_S128x128_0_0, k0_pay462 (F := Ideal)⟩]) (Rect.unit (s := S128x128) ![0, 0] S128x128.size inb_S128x128_S128x128_0_0).toLoadRect))
      (k0_pay467 (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![0, 0] S32x128.size inb_S128x256_S32x128_0_0).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![32, 128] S32x128.size inb_S128x256_S32x128_32_128).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![64, 0] S32x128.size inb_S128x256_S32x128_64_0).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![96, 128] S32x128.size inb_S128x256_S32x128_96_128).toLoadRect)) x4 x3 (ix3 0 r d) = outV p x1 x2 x3 x4 x5 x6 KR VR r d := by
  have l1 := fun r => loop1 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 mv_v3568 hcanon_v3568 X_arg15 X_arg16 X_v3568 p x1 x2 x5 KR h15 h16 hK fs2 r
  have l2 := fun r => loop2 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩])
    p x1 x2 x5 x6 KR VR (fun r l => (l1 r).1 l) (fun r => (l1 r).2) h17 hV
    (fun r j => (congrFun (View.read_writes_full _ _ _ _ _) (ix2 r j)).trans (zero461 r j)) (fun r j => (congrFun (View.read_writes_full _ _ _ _ _) (ix2 r j)).trans (zero462 r j)) r
  have he : k0_pay465 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) (ix2 r 0) = expoNewV p x1 x2 x5 KR r := by
    rw [enew_at, snew_at, (l1 r).2]
    rfl
  have hl : k0_pay466 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) (arg19.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).2 ++ [⟨Rect.unit (s := S128x128) ![0, 0] S128x128.size inb_S128x128_S128x128_0_0, k0_pay462 (F := Ideal)⟩]) (Rect.unit (s := S128x128) ![0, 0] S128x128.size inb_S128x128_S128x128_0_0).toLoadRect) (ix2 r 0)
      = ∑ l : Fin 8192, expoV p x1 x2 x5 KR r l + expoNewV p x1 x2 x5 KR r := by
    rw [total_at, he]
    refine congrArg (· + expoNewV p x1 x2 x5 KR r) (Eq.trans (Finset.sum_congr rfl fun j _ => ?_) (l2 r).2)
    refine (readAt_unit arg19.view (arg19.view.writes (Elt Ideal) arg19.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).2 ++ [⟨Rect.unit (s := S128x128) ![0, 0] S128x128.size inb_S128x128_S128x128_0_0, k0_pay462 (F := Ideal)⟩])) inb_S128x128_S128x128_0_0 (ix2 r j) (ix2 r j) rfl fun a => ?_).trans ?_
    · match a with
      | ⟨0, _⟩ => exact (Nat.zero_add _).symm
      | ⟨1, _⟩ => exact (Nat.zero_add _).symm
    · rw [View.writes_append]
      rfl
  have ho : k0_pay467 (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![0, 0] S32x128.size inb_S128x256_S32x128_0_0).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![32, 128] S32x128.size inb_S128x256_S32x128_32_128).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![64, 0] S32x128.size inb_S128x256_S32x128_64_0).toLoadRect) (arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![96, 128] S32x128.size inb_S128x256_S32x128_96_128).toLoadRect) (ix2 r d) = ∑ l : Fin 8192, partV p x1 x2 x5 x6 KR VR r d l := by
    have hq : ∀ (off : Fin 2 → ℕ) (inb : ∀ a, off a + S32x128.size a ≤ S128x256.size a) (b : Fin 32), off 0 + b.val = r.val → off 1 = 128 * (r.val / 32 % 2) →
        arg18.view.readCov ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) off S32x128.size inb).toLoadRect (ix2 b d) = ∑ l : Fin 8192, partV p x1 x2 x5 x6 KR VR r d l := fun off inb b h0 h1 => by
      refine (readAt_unit arg18.view (arg18.view.writes (Elt Ideal) arg18.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 (k0_pay459 (k0_pay449 x1) x2) (k0_pay460 (k0_pay449 x1) (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).1 x2) mv_v3550 hcanon_v3550 (arg14.view.writes (Elt Ideal) fs2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 arg14 harg14 arg15 harg15 arg16 harg16 arg17 harg17 arg18 harg18 arg19 harg19 arg0 (iota .tc S8x128 32 [1] iota_S8x128_d1_w32) (k0_pay449 x1) (k0_pay451 x1) (k0_pay452 x1) (k0_pay453 (iota .tc S8x128 32 [0] iota_S8x128_d0_w32)) 32#32 mv_v3568 hcanon_v3568 X_arg15 X_arg16 X_v3568 k0_pay455 (Scf.trips k0_t1_loop.lb k0_t1_loop.ub k0_t1_loop.st)).2) X_arg17 X_v3550 (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩])) inb (ix2 b d) (ix2 r (⟨128 * (r.val / 32 % 2) + d.val, by omega⟩ : Fin 256)) rfl fun a => ?_).trans ?_
      · match a with
        | ⟨0, _⟩ => exact h0.symm
        | ⟨1, _⟩ => exact congrArg (· + d.val) h1.symm
      · rw [View.writes_append]
        exact (l2 r).1 d
    rw [quads_at]
    split
    · exact hq _ _ _ (by show 0 + r.val = r.val; omega) (by show 0 = 128 * (r.val / 32 % 2); omega)
    · split
      · exact hq _ _ _ (by show 32 + (r.val - 32) = r.val; omega) (by show 128 = 128 * (r.val / 32 % 2); omega)
      · split
        · exact hq _ _ _ (by show 64 + (r.val - 32 - 32) = r.val; omega) (by show 0 = 128 * (r.val / 32 % 2); omega)
        · exact hq _ _ _ (by show 96 + (r.val - 32 - 32 - 32) = r.val; omega) (by show 128 = 128 * (r.val / 32 % 2); omega)
  rw [out_at, he, hl, ho]
  rfl

end Cert.KernelIdeal.Gen

end
-- ==== Proof.Ideal.Runs.lean ====
module

public import proofs.«01_k».proof.Proof.Gen.KernelIdeal.Launch
public import proofs.«01_k».proof.Proof.Gen.KernelIdeal.Skeleton
public import proofs.«01_k».proof.Proof.Ideal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points before point 63 — decided over the grid. -/
theorem hcond0_1 : ∀ t : Fin cfg0.N, cond0_1 (grid0.coords t) ↔ t.val < 63 :=
  (by decide +kernel : ∀ t : Fin grid0.N, cond0_1 (grid0.coords t) ↔ t.val < 63)

/-! ## The kernel body on any staging memrefs: a subtype the run finds -/

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x16x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x32768x128 .i8 := Memref.whole cc0_scratch0
abbrev scM0_1 : Memref sig .tc .vmem S2x32768x128 .i8 := Memref.whole cc0_scratch1
abbrev scM0_2 : Memref sig .tc .vmem S128x8192 .f32 := Memref.whole cc0_scratch3
abbrev scM0_3 : Memref sig .tc .vmem S4x8192 .f32 := Memref.whole cc0_scratch4
abbrev scM0_4 : Memref sig .tc .vmem S2x4x256x128 .f32 := Memref.whole cc0_scratch5
abbrev scM0_5 : Memref sig .tc .vmem S16x8192 .f32 := Memref.whole cc0_scratch6
abbrev scM0_6 : Memref sig .tc .vmem S128x256 .f32 := Memref.whole cc0_scratch7
abbrev scM0_7 : Memref sig .tc .vmem S128x128 .f32 := Memref.whole cc0_scratch8
/-- The operands left in HBM that the body copies into scratch itself, whole. -/
abbrev hbM0_0 : Memref sig .tc .hbm S64x32768x128 .i8 := Memref.whole main_v9
abbrev hbM0_1 : Memref sig .tc .hbm S64x32768x128 .i8 := Memref.whole main_v10
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 15, SemLoc.dma 17, SemLoc.dma 16, SemLoc.dma 18] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 17) 0 ∗ semVal ((c : Thread nD τ), SemLoc.dma 16) 0 ∗ semVal ((c : Thread nD τ), SemLoc.dma 18) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v9, main_v10}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v9) ∗ hbPt0 c hbM0_1 (V m c main_v10)) := by
  rw [BI.bigSep_eq_bigSepL_of_eq [main_v9, main_v10] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 15) 0 ∗ semVal ((c : Thread nD τ), SemLoc.dma 17) 0 ∗ semVal ((c : Thread nD τ), SemLoc.dma 16) 0 ∗ semVal ((c : Thread nD τ), SemLoc.dma 18) 0) ∗ iprop(hbPt0 c hbM0_0 (V m c main_v9) ∗ hbPt0 c hbM0_1 (V m c main_v10))) := by
  rw [Pipeline.ΦD_eq, scopedRest0_eq, ownSems00_eq, hbmPts0_eq]; simp only [scM0_0, scM0_1, scM0_2, scM0_3, scM0_4, scM0_5, scM0_6, scM0_7, owns_whole]; try rfl

/-! ## Ring 0 of kernel 0: `main_v9` streamed through the 2 slots of `cc0_scratch0` on the cells of `cc0_scratch2`, 1 block ahead, in 64 steps -/

instance : NeZero grid0.N := ⟨by rw [N_0]; decide⟩
theorem inb_slot0_0 (s : Fin 2) : ∀ a, (![s.val, 0, 0] : Fin 3 → Nat) a + S1x32768x128.size a ≤ S2x32768x128.size a := by
  have := s.isLt; intro a; fin_cases a <;> simp <;> omega
theorem inb_src0_0 (b : Fin 64) : ∀ a, (![1 * b.val, 0, 0] : Fin 3 → Nat) a + S1x32768x128.size a ≤ S64x32768x128.size a := by
  have := b.isLt; intro a; fin_cases a <;> simp <;> omega
theorem inb_cell0_0 (s : Fin 2) : ∀ a, (![s.val, 0] : Fin 2 → Nat) a + S1x1.size a ≤ S2x2.size a := by
  have := s.isLt; intro a; fin_cases a <;> simp <;> omega
/-- Slot `s` of the ring, spelt as the body's transfers spell their destination, at offsets in `s`. -/
def rslot0_0 (s : Fin 2) : Memref sig .tc .vmem S32768x128 .i8 :=
  (scM0_0.slice (Rect.unit (s := S2x32768x128) ![s.val, 0, 0] S1x32768x128.size (inb_slot0_0 s)) (fun _ => rfl)).squeeze S32768x128 squeezes_S1x32768x128_S32768x128
/-- Block `b` of the operand (the block step `b` waits), spelt as the transfers spell their source, at offsets in `b`. -/
def srcB0_0 (b : Fin 64) : Memref sig .tc .hbm S32768x128 .i8 :=
  (hbM0_0.slice (Rect.unit (s := S64x32768x128) ![1 * b.val, 0, 0] S1x32768x128.size (inb_src0_0 b)) (fun _ => rfl)).squeeze S32768x128 squeezes_S1x32768x128_S32768x128
/-- Cell `s` of `cc0_scratch2`, spelt as the body spells a cell; its number in the pool. -/
def cellA0_0 (s : Fin 2) : DmaSems sig S_ := (cc0_scratch2.slice (Rect.unit (s := S2x2) ![s.val, 0] S1x1.size (inb_cell0_0 s))).squeeze S_ squeezes_S1x1_S_
abbrev cellR0_0 (s : Fin 2) : SemLoc sig := SemLoc.dma (cellA0_0 s).sem
theorem cellR0_0_0 : cellR0_0 0 = SemLoc.dma 15 := by decide
theorem cellR0_0_1 : cellR0_0 1 = SemLoc.dma 17 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 64) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 64) : sProp 𝕄 := ((c : Thread nD τ).loc main_v9) ↦[Finset.univ \ (srcB0_0 b).view.set]{qs0_0 s} W
abbrev wholeP0_0 (s : Fin 2) : sProp 𝕄 := ((c : Thread nD τ).loc main_v9) ↦[Finset.univ]{qs0_0 s} W
abbrev landed0_0 (s : Fin 2) (b : Fin 64) (f : HbBuf0 (F := F) c (rslot0_0 s)) : HbBuf0 (F := F) c (rslot0_0 s) :=
  (rslot0_0 s).view.writes (Elt F) f [⟨Rect.whole S32768x128, ReadAs.same.apply ((srcB0_0 b).view.read (Elt F) W)⟩]
abbrev flightP0_0 (s : Fin 2) (b : Fin 64) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 64) (f : HbBuf0 (F := F) c (rslot0_0 s)) : sProp 𝕄 := iprop(flightP0_0 c W s b f ∗ restP0_0 c W s b)
abbrev noHome0_0 (b : Fin 64) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] [Named F] in
theorem cellP0_0_0 : cellP0_0 (F := F) c 0 = semVal ((c : Thread nD τ), SemLoc.dma 15) 0 := congrArg (fun x => (semVal ((c : Thread nD τ), x) 0 : sProp 𝕄)) cellR0_0_0
omit [FloatOps F] [Named F] in
theorem cellP0_0_1 : cellP0_0 (F := F) c 1 = semVal ((c : Thread nD τ), SemLoc.dma 17) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x32768x128.Idx := (Rect.unit (s := S2x32768x128) ![s.val, 0, 0] S1x32768x128.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x32768x128) (0 : Fin 3) 1 (fun s : Fin 2 => (![s.val, 0, 0] : Fin 3 → Nat)) S1x32768x128.size inb_slot0_0 (fun s => by simp) rfl s s' h
theorem slots0_0_cover : Finset.univ.biUnion slotSet0_0 = Finset.univ :=
  Ring.lead_cover (s := S2x32768x128) (0 : Fin 3) 1 (fun s : Fin 2 => (![s.val, 0, 0] : Fin 3 → Nat)) S1x32768x128.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 64) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 15) 0 ∗ semVal ((c : Thread nD τ), SemLoc.dma 17) 0) ∗ hbPt0 c hbM0_0 (V m c main_v9))
      ⊢ ringAt0_0 c (V m c main_v9) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_v9)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_v9) 64
      ⊢ iprop((∃ d, owns (c : Thread nD τ) scM0_0 fullShare d) ∗ (semVal ((c : Thread nD τ), SemLoc.dma 15) 0 ∗ semVal ((c : Thread nD τ), SemLoc.dma 17) 0) ∗ hbPt0 c hbM0_0 (V m c main_v9)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_v9)).2; isplitl [HW0]; · iexact HW0
    iexact HW1

/-! ### Ring 0's steps at each case's points, and its canonical names: the body's operands at point `t` are the ring's slots, blocks and cells -/

section Canon0_0
omit [FloatOps F] [Named F]
/-- At the points of case A the ring takes its FIRST step. -/
theorem rstep0_0_A : ∀ t : Fin grid0.N, cond0_0 (grid0.coords t) → cond0_1 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → 1 ≤ t.val ∧ t.val + 1 < 64 ∧ (t.val + 1) = t.val + 1 := by decide +kernel
/-- At the points of case C the ring takes its LAST step. -/
theorem rstep0_0_C : ∀ t : Fin grid0.N, ¬cond0_0 (grid0.coords t) → ¬cond0_1 (grid0.coords t) → 1 ≤ t.val ∧ t.val + 1 = 64 ∧ (t.val + 1) = t.val + 1 := by decide +kernel
set_option synthInstance.maxSize 4096 in
theorem coff0_0_1 : ∀ t : Fin grid0.N, k0_off3 (grid0.coords t) = ![(Ring.sl 2 t.val).val, 0, 0] := by decide +kernel
@[sl_canon] theorem canon0_0_1 (t : Fin grid0.N) (h0 : cond0_0 (grid0.coords t)) :
    (scM0_0.slice (Rect.unit (s := S2x32768x128) (k0_off3 (grid0.coords t)) S1x32768x128.size (k0_off3_inb (grid0.coords t) h0)) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_1 t ) _ _ (fun _ => rfl) (fun _ => rfl))
set_option synthInstance.maxSize 4096 in
theorem coff0_0_2 : ∀ t : Fin grid0.N, k0_off2 (grid0.coords t) = ![(Ring.sl 2 t.val).val, 0] := by decide +kernel
@[sl_canon] theorem canon0_0_2 (t : Fin grid0.N) (h0 : cond0_0 (grid0.coords t)) :
    (cc0_scratch2.slice (Rect.unit (s := S2x2) (k0_off2 (grid0.coords t)) S1x1.size (k0_off2_inb (grid0.coords t) h0))).squeeze S_ squeezes_S1x1_S_ = cellA0_0 (Ring.sl 2 t.val) :=
  congrArg (fun A : DmaSems sig S1x1 => A.squeeze S_ squeezes_S1x1_S_) (SemArray.slice_unit_congr _ (coff0_0_2 t ) _ _)
set_option synthInstance.maxSize 4096 in
theorem coff0_0_3 : ∀ t : Fin grid0.N, k0_off4 (grid0.coords t) = ![1 * (Ring.bk 64 t.val).val, 0, 0] := by decide +kernel
@[sl_canon] theorem canon0_0_3 (t : Fin grid0.N) (h0 : cond0_0 (grid0.coords t)) :
    (hbM0_0.slice (Rect.unit (s := S64x32768x128) (k0_off4 (grid0.coords t)) S1x32768x128.size (k0_off4_inb (grid0.coords t) h0)) (fun _ => rfl)).squeeze S32768x128 squeezes_S1x32768x128_S32768x128 = srcB0_0 (Ring.bk 64 t.val) :=
  congrArg (fun M : Memref sig .tc .hbm S1x32768x128 .i8 => M.squeeze S32768x128 squeezes_S1x32768x128_S32768x128) (Memref.slice_unit_congr _ (coff0_0_3 t ) _ _ (fun _ => rfl) (fun _ => rfl))
set_option synthInstance.maxSize 4096 in
theorem coff0_0_4 : ∀ t : Fin grid0.N, k0_off7 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x32768x128) (k0_off7 (grid0.coords t)) S1x32768x128.size (k0_off7_inb (grid0.coords t) h1)) (fun _ => rfl)).squeeze S32768x128 squeezes_S1x32768x128_S32768x128 = rslot0_0 (Ring.sl 2 (t.val + 1)) :=
  congrArg (fun M : Memref sig .tc .vmem S1x32768x128 .i8 => M.squeeze S32768x128 squeezes_S1x32768x128_S32768x128) (Memref.slice_unit_congr _ (coff0_0_4 t ) _ _ (fun _ => rfl) (fun _ => rfl))
set_option synthInstance.maxSize 4096 in
theorem coff0_0_5 : ∀ t : Fin grid0.N, k0_off6 (grid0.coords t) = ![(Ring.sl 2 (t.val + 1)).val, 0] := by decide +kernel
@[sl_canon] theorem canon0_0_5 (t : Fin grid0.N) (h1 : cond0_1 (grid0.coords t)) :
    (cc0_scratch2.slice (Rect.unit (s := S2x2) (k0_off6 (grid0.coords t)) S1x1.size (k0_off6_inb (grid0.coords t) h1))).squeeze S_ squeezes_S1x1_S_ = cellA0_0 (Ring.sl 2 (t.val + 1)) :=
  congrArg (fun A : DmaSems sig S1x1 => A.squeeze S_ squeezes_S1x1_S_) (SemArray.slice_unit_congr _ (coff0_0_5 t ) _ _)
set_option synthInstance.maxSize 4096 in
theorem coff0_0_6 : ∀ t : Fin grid0.N, cond0_0 (grid0.coords t) → cond0_1 (grid0.coords t) → k0_off8 (grid0.coords t) = ![1 * (Ring.bk 64 (t.val + 1)).val, 0, 0] := by decide +kernel
@[sl_canon] theorem canon0_0_6 (t : Fin grid0.N) (h0 : cond0_0 (grid0.coords t)) (h1 : cond0_1 (grid0.coords t)) :
    (hbM0_0.slice (Rect.unit (s := S64x32768x128) (k0_off8 (grid0.coords t)) S1x32768x128.size (k0_off8_inb (grid0.coords t) h1)) (fun _ => rfl)).squeeze S32768x128 squeezes_S1x32768x128_S32768x128 = srcB0_0 (Ring.bk 64 (t.val + 1)) :=
  congrArg (fun M : Memref sig .tc .hbm S1x32768x128 .i8 => M.squeeze S32768x128 squeezes_S1x32768x128_S32768x128) (Memref.slice_unit_congr _ (coff0_0_6 t h0 h1) _ _ (fun _ => rfl) (fun _ => rfl))
set_option synthInstance.maxSize 4096 in
theorem coff0_0_7 : ∀ t : Fin grid0.N, k0_off11 (grid0.coords t) = ![(Ring.sl 2 t.val).val, 0, 0] := by decide +kernel
@[sl_canon] theorem canon0_0_7 (t : Fin grid0.N) :
    (scM0_0.slice (Rect.unit (s := S2x32768x128) (k0_off11 (grid0.coords t)) S1x32768x128.size (k0_off11_inb (grid0.coords t))) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_7 t ) _ _ (fun _ => rfl) (fun _ => rfl))
set_option synthInstance.maxSize 4096 in
theorem coff0_0_8 : ∀ t : Fin grid0.N, k0_off10 (grid0.coords t) = ![(Ring.sl 2 t.val).val, 0] := by decide +kernel
@[sl_canon] theorem canon0_0_8 (t : Fin grid0.N) :
    (cc0_scratch2.slice (Rect.unit (s := S2x2) (k0_off10 (grid0.coords t)) S1x1.size (k0_off10_inb (grid0.coords t)))).squeeze S_ squeezes_S1x1_S_ = cellA0_0 (Ring.sl 2 t.val) :=
  congrArg (fun A : DmaSems sig S1x1 => A.squeeze S_ squeezes_S1x1_S_) (SemArray.slice_unit_congr _ (coff0_0_8 t ) _ _)
set_option synthInstance.maxSize 4096 in
theorem coff0_0_9 : ∀ t : Fin grid0.N, k0_off15 (grid0.coords t) = ![(Ring.sl 2 t.val).val, 0, 0] := by decide +kernel
@[sl_canon] theorem canon0_0_9 (t : Fin grid0.N) :
    (scM0_0.slice (Rect.unit (s := S2x32768x128) (k0_off15 (grid0.coords t)) S1x32768x128.size (k0_off15_inb (grid0.coords t))) (fun _ => rfl)).squeeze S32768x128 squeezes_S1x32768x128_S32768x128 = rslot0_0 (Ring.sl 2 t.val) :=
  congrArg (fun M : Memref sig .tc .vmem S1x32768x128 .i8 => M.squeeze S32768x128 squeezes_S1x32768x128_S32768x128) (Memref.slice_unit_congr _ (coff0_0_9 t ) _ _ (fun _ => rfl) (fun _ => rfl))
set_option synthInstance.maxSize 4096 in
theorem coff0_0_10 : ∀ t : Fin grid0.N, ¬cond0_0 (grid0.coords t) → cond0_1 (grid0.coords t) → k0_off8 (grid0.coords t) = ![1 * (Ring.bk 64 (t.val + 1)).val, 0, 0] := by decide +kernel
@[sl_canon] theorem canon0_0_10 (t : Fin grid0.N) (h0 : ¬cond0_0 (grid0.coords t)) (h1 : cond0_1 (grid0.coords t)) :
    (hbM0_0.slice (Rect.unit (s := S64x32768x128) (k0_off8 (grid0.coords t)) S1x32768x128.size (k0_off8_inb (grid0.coords t) h1)) (fun _ => rfl)).squeeze S32768x128 squeezes_S1x32768x128_S32768x128 = srcB0_0 (Ring.bk 64 (t.val + 1)) :=
  congrArg (fun M : Memref sig .tc .hbm S1x32768x128 .i8 => M.squeeze S32768x128 squeezes_S1x32768x128_S32768x128) (Memref.slice_unit_congr _ (coff0_0_10 t h0 h1) _ _ (fun _ => rfl) (fun _ => rfl))
set_option synthInstance.maxSize 4096 in
theorem coff0_0_11 : ∀ t : Fin grid0.N, k0_off15 (grid0.coords t) = ![(Ring.sl 2 t.val).val, 0, 0] := by decide +kernel
/-- The ring-memref load's box in the slot's spelling (the block this step waited): the executor's symbolic geometry then sees it inside that slot. -/
instance (priority := high) closedOff0_0_11 (t : Fin grid0.N) : ClosedOff (k0_off15 (grid0.coords t)) := ⟨![(Ring.sl 2 t.val).val, 0, 0], coff0_0_11 t⟩
end Canon0_0

/-! ## Ring 1 of kernel 0: `main_v10` streamed through the 2 slots of `cc0_scratch1` on the cells of `cc0_scratch2`, 1 block ahead, in 64 steps -/

theorem inb_slot0_1 (s : Fin 2) : ∀ a, (![s.val, 0, 0] : Fin 3 → Nat) a + S1x32768x128.size a ≤ S2x32768x128.size a := by
  have := s.isLt; intro a; fin_cases a <;> simp <;> omega
theorem inb_src0_1 (b : Fin 64) : ∀ a, (![1 * b.val, 0, 0] : Fin 3 → Nat) a + S1x32768x128.size a ≤ S64x32768x128.size a := by
  have := b.isLt; intro a; fin_cases a <;> simp <;> omega
theorem inb_cell0_1 (s : Fin 2) : ∀ a, (![s.val, 1] : Fin 2 → Nat) a + S1x1.size a ≤ S2x2.size a := by
  have := s.isLt; intro a; fin_cases a <;> simp <;> omega
/-- Slot `s` of the ring, spelt as the body's transfers spell their destination, at offsets in `s`. -/
def rslot0_1 (s : Fin 2) : Memref sig .tc .vmem S32768x128 .i8 :=
  (scM0_1.slice (Rect.unit (s := S2x32768x128) ![s.val, 0, 0] S1x32768x128.size (inb_slot0_1 s)) (fun _ => rfl)).squeeze S32768x128 squeezes_S1x32768x128_S32768x128
/-- Block `b` of the operand (the block step `b` waits), spelt as the transfers spell their source, at offsets in `b`. -/
def srcB0_1 (b : Fin 64) : Memref sig .tc .hbm S32768x128 .i8 :=
  (hbM0_1.slice (Rect.unit (s := S64x32768x128) ![1 * b.val, 0, 0] S1x32768x128.size (inb_src0_1 b)) (fun _ => rfl)).squeeze S32768x128 squeezes_S1x32768x128_S32768x128
/-- Cell `s` of `cc0_scratch2`, spelt as the body spells a cell; its number in the pool. -/
def cellA0_1 (s : Fin 2) : DmaSems sig S_ := (cc0_scratch2.slice (Rect.unit (s := S2x2) ![s.val, 1] S1x1.size (inb_cell0_1 s))).squeeze S_ squeezes_S1x1_S_
abbrev cellR0_1 (s : Fin 2) : SemLoc sig := SemLoc.dma (cellA0_1 s).sem
theorem cellR0_1_0 : cellR0_1 0 = SemLoc.dma 16 := by decide
theorem cellR0_1_1 : cellR0_1 1 = SemLoc.dma 18 := by decide

section Ring0_1
variable (c : Dev nD) (W : HbBuf0 (F := F) c hbM0_1)
/-- The operand is lent BY SHARE, one read-share copy of it per slot (the left and right halves of the full share): whatever
    blocks two transfers in flight stream — the same one twice, two that overlap —, each borrows from its own slot's copy. -/
abbrev qs0_1 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 64) : sProp 𝕄 := (srcB0_1 b).view.loc (c : Thread nD τ) ↦[(srcB0_1 b).view.set]{qs0_1 s} W
/-- (a `def`: no run reads this rest, and folded it stays out of the executor's table of held buffers) -/
def restP0_1 (s : Fin 2) (b : Fin 64) : sProp 𝕄 := ((c : Thread nD τ).loc main_v10) ↦[Finset.univ \ (srcB0_1 b).view.set]{qs0_1 s} W
abbrev wholeP0_1 (s : Fin 2) : sProp 𝕄 := ((c : Thread nD τ).loc main_v10) ↦[Finset.univ]{qs0_1 s} W
abbrev landed0_1 (s : Fin 2) (b : Fin 64) (f : HbBuf0 (F := F) c (rslot0_1 s)) : HbBuf0 (F := F) c (rslot0_1 s) :=
  (rslot0_1 s).view.writes (Elt F) f [⟨Rect.whole S32768x128, ReadAs.same.apply ((srcB0_1 b).view.read (Elt F) W)⟩]
abbrev flightP0_1 (s : Fin 2) (b : Fin 64) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 2) (f : HbBuf0 (F := F) c (rslot0_1 s)) : sProp 𝕄 := iprop(slotP0_1 c s f ∗ wholeP0_1 c W s)
abbrev flightW0_1 (s : Fin 2) (b : Fin 64) (f : HbBuf0 (F := F) c (rslot0_1 s)) : sProp 𝕄 := iprop(flightP0_1 c W s b f ∗ restP0_1 c W s b)
abbrev noHome0_1 (b : Fin 64) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_1 (k : ℕ) : sProp 𝕄 :=
  if k = 0 then Ring.At₀ (cellP0_1 c) (slotW0_1 c W) noHome0_1
  else Ring.AtK 1 (cellP0_1 c) (slotW0_1 c W) noHome0_1 (flightW0_1 c W) (landed0_1 c W) k
omit [FloatOps F] [Named F] in
theorem cellP0_1_0 : cellP0_1 (F := F) c 0 = semVal ((c : Thread nD τ), SemLoc.dma 16) 0 := congrArg (fun x => (semVal ((c : Thread nD τ), x) 0 : sProp 𝕄)) cellR0_1_0
omit [FloatOps F] [Named F] in
theorem cellP0_1_1 : cellP0_1 (F := F) c 1 = semVal ((c : Thread nD τ), SemLoc.dma 18) 0 := congrArg (fun x => (semVal ((c : Thread nD τ), x) 0 : sProp 𝕄)) cellR0_1_1
end Ring0_1

/-! ### The slots, disjoint and covering the scratch (Lib/Ring.lean `lead_disjoint` / `lead_cover`) -/

abbrev slotSet0_1 (s : Fin 2) : Finset S2x32768x128.Idx := (Rect.unit (s := S2x32768x128) ![s.val, 0, 0] S1x32768x128.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x32768x128) (0 : Fin 3) 1 (fun s : Fin 2 => (![s.val, 0, 0] : Fin 3 → Nat)) S1x32768x128.size inb_slot0_1 (fun s => by simp) rfl s s' h
theorem slots0_1_cover : Finset.univ.biUnion slotSet0_1 = Finset.univ :=
  Ring.lead_cover (s := S2x32768x128) (0 : Fin 3) 1 (fun s : Fin 2 => (![s.val, 0, 0] : Fin 3 → Nat)) S1x32768x128.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 2) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 2) (b : Fin 64) : wholeP0_1 (F := F) c W s ⊣⊢ iprop(srcP0_1 c W s b ∗ restP0_1 c W s b) := by
  unfold restP0_1; exact pointsTo_split_subset (Finset.subset_univ _)
/-- the operand whole at the full share is the two copies. -/
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ ∃ f, slotP0_1 (F := F) c 1 f) : sProp 𝕄) := by
  simp only [scM0_1, owns_whole]
  exact Ring.slots2_split (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 16) 0 ∗ semVal ((c : Thread nD τ), SemLoc.dma 18) 0) ∗ hbPt0 c hbM0_1 (V m c main_v10))
      ⊢ ringAt0_1 c (V m c main_v10) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_v10)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_1_out (c : Dev nD) :
    ringAt0_1 c (V m c main_v10) 64
      ⊢ iprop((∃ d, owns (c : Thread nD τ) scM0_1 fullShare d) ∗ (semVal ((c : Thread nD τ), SemLoc.dma 16) 0 ∗ semVal ((c : Thread nD τ), SemLoc.dma 18) 0) ∗ hbPt0 c hbM0_1 (V m c main_v10)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_v10)).2; isplitl [HW0]; · iexact HW0
    iexact HW1

/-! ### Ring 1's steps at each case's points, and its canonical names: the body's operands at point `t` are the ring's slots, blocks and cells -/

section Canon0_1
omit [FloatOps F] [Named F]
/-- At the points of case A the ring takes its FIRST step. -/
theorem rstep0_1_A : ∀ t : Fin grid0.N, cond0_0 (grid0.coords t) → cond0_1 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → 1 ≤ t.val ∧ t.val + 1 < 64 ∧ (t.val + 1) = t.val + 1 := by decide +kernel
/-- At the points of case C the ring takes its LAST step. -/
theorem rstep0_1_C : ∀ t : Fin grid0.N, ¬cond0_0 (grid0.coords t) → ¬cond0_1 (grid0.coords t) → 1 ≤ t.val ∧ t.val + 1 = 64 ∧ (t.val + 1) = t.val + 1 := by decide +kernel
set_option synthInstance.maxSize 4096 in
theorem coff0_1_1 : ∀ t : Fin grid0.N, k0_off3 (grid0.coords t) = ![(Ring.sl 2 t.val).val, 0, 0] := by decide +kernel
@[sl_canon] theorem canon0_1_1 (t : Fin grid0.N) (h0 : cond0_0 (grid0.coords t)) :
    (scM0_1.slice (Rect.unit (s := S2x32768x128) (k0_off3 (grid0.coords t)) S1x32768x128.size (k0_off3_inb (grid0.coords t) h0)) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_1 t ) _ _ (fun _ => rfl) (fun _ => rfl))
set_option synthInstance.maxSize 4096 in
theorem coff0_1_2 : ∀ t : Fin grid0.N, k0_off5 (grid0.coords t) = ![(Ring.sl 2 t.val).val, 1] := by decide +kernel
@[sl_canon] theorem canon0_1_2 (t : Fin grid0.N) (h0 : cond0_0 (grid0.coords t)) :
    (cc0_scratch2.slice (Rect.unit (s := S2x2) (k0_off5 (grid0.coords t)) S1x1.size (k0_off5_inb (grid0.coords t) h0))).squeeze S_ squeezes_S1x1_S_ = cellA0_1 (Ring.sl 2 t.val) :=
  congrArg (fun A : DmaSems sig S1x1 => A.squeeze S_ squeezes_S1x1_S_) (SemArray.slice_unit_congr _ (coff0_1_2 t ) _ _)
set_option synthInstance.maxSize 4096 in
theorem coff0_1_3 : ∀ t : Fin grid0.N, k0_off4 (grid0.coords t) = ![1 * (Ring.bk 64 t.val).val, 0, 0] := by decide +kernel
@[sl_canon] theorem canon0_1_3 (t : Fin grid0.N) (h0 : cond0_0 (grid0.coords t)) :
    (hbM0_1.slice (Rect.unit (s := S64x32768x128) (k0_off4 (grid0.coords t)) S1x32768x128.size (k0_off4_inb (grid0.coords t) h0)) (fun _ => rfl)).squeeze S32768x128 squeezes_S1x32768x128_S32768x128 = srcB0_1 (Ring.bk 64 t.val) :=
  congrArg (fun M : Memref sig .tc .hbm S1x32768x128 .i8 => M.squeeze S32768x128 squeezes_S1x32768x128_S32768x128) (Memref.slice_unit_congr _ (coff0_1_3 t ) _ _ (fun _ => rfl) (fun _ => rfl))
set_option synthInstance.maxSize 4096 in
theorem coff0_1_4 : ∀ t : Fin grid0.N, k0_off7 (grid0.coords t) = ![(Ring.sl 2 (t.val + 1)).val, 0, 0] := by decide +kernel
@[sl_canon] theorem canon0_1_4 (t : Fin grid0.N) (h1 : cond0_1 (grid0.coords t)) :
    (scM0_1.slice (Rect.unit (s := S2x32768x128) (k0_off7 (grid0.coords t)) S1x32768x128.size (k0_off7_inb (grid0.coords t) h1)) (fun _ => rfl)).squeeze S32768x128 squeezes_S1x32768x128_S32768x128 = rslot0_1 (Ring.sl 2 (t.val + 1)) :=
  congrArg (fun M : Memref sig .tc .vmem S1x32768x128 .i8 => M.squeeze S32768x128 squeezes_S1x32768x128_S32768x128) (Memref.slice_unit_congr _ (coff0_1_4 t ) _ _ (fun _ => rfl) (fun _ => rfl))
set_option synthInstance.maxSize 4096 in
theorem coff0_1_5 : ∀ t : Fin grid0.N, k0_off9 (grid0.coords t) = ![(Ring.sl 2 (t.val + 1)).val, 1] := by decide +kernel
@[sl_canon] theorem canon0_1_5 (t : Fin grid0.N) (h1 : cond0_1 (grid0.coords t)) :
    (cc0_scratch2.slice (Rect.unit (s := S2x2) (k0_off9 (grid0.coords t)) S1x1.size (k0_off9_inb (grid0.coords t) h1))).squeeze S_ squeezes_S1x1_S_ = cellA0_1 (Ring.sl 2 (t.val + 1)) :=
  congrArg (fun A : DmaSems sig S1x1 => A.squeeze S_ squeezes_S1x1_S_) (SemArray.slice_unit_congr _ (coff0_1_5 t ) _ _)
set_option synthInstance.maxSize 4096 in
theorem coff0_1_6 : ∀ t : Fin grid0.N, cond0_0 (grid0.coords t) → cond0_1 (grid0.coords t) → k0_off8 (grid0.coords t) = ![1 * (Ring.bk 64 (t.val + 1)).val, 0, 0] := by decide +kernel
@[sl_canon] theorem canon0_1_6 (t : Fin grid0.N) (h0 : cond0_0 (grid0.coords t)) (h1 : cond0_1 (grid0.coords t)) :
    (hbM0_1.slice (Rect.unit (s := S64x32768x128) (k0_off8 (grid0.coords t)) S1x32768x128.size (k0_off8_inb (grid0.coords t) h1)) (fun _ => rfl)).squeeze S32768x128 squeezes_S1x32768x128_S32768x128 = srcB0_1 (Ring.bk 64 (t.val + 1)) :=
  congrArg (fun M : Memref sig .tc .hbm S1x32768x128 .i8 => M.squeeze S32768x128 squeezes_S1x32768x128_S32768x128) (Memref.slice_unit_congr _ (coff0_1_6 t h0 h1) _ _ (fun _ => rfl) (fun _ => rfl))
set_option synthInstance.maxSize 4096 in
theorem coff0_1_7 : ∀ t : Fin grid0.N, k0_off11 (grid0.coords t) = ![(Ring.sl 2 t.val).val, 0, 0] := by decide +kernel
@[sl_canon] theorem canon0_1_7 (t : Fin grid0.N) :
    (scM0_1.slice (Rect.unit (s := S2x32768x128) (k0_off11 (grid0.coords t)) S1x32768x128.size (k0_off11_inb (grid0.coords t))) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_7 t ) _ _ (fun _ => rfl) (fun _ => rfl))
set_option synthInstance.maxSize 4096 in
theorem coff0_1_8 : ∀ t : Fin grid0.N, k0_off19 (grid0.coords t) = ![(Ring.sl 2 t.val).val, 1] := by decide +kernel
@[sl_canon] theorem canon0_1_8 (t : Fin grid0.N) :
    (cc0_scratch2.slice (Rect.unit (s := S2x2) (k0_off19 (grid0.coords t)) S1x1.size (k0_off19_inb (grid0.coords t)))).squeeze S_ squeezes_S1x1_S_ = cellA0_1 (Ring.sl 2 t.val) :=
  congrArg (fun A : DmaSems sig S1x1 => A.squeeze S_ squeezes_S1x1_S_) (SemArray.slice_unit_congr _ (coff0_1_8 t ) _ _)
set_option synthInstance.maxSize 4096 in
theorem coff0_1_9 : ∀ t : Fin grid0.N, k0_off22 (grid0.coords t) = ![(Ring.sl 2 t.val).val, 0, 0] := by decide +kernel
@[sl_canon] theorem canon0_1_9 (t : Fin grid0.N) :
    (scM0_1.slice (Rect.unit (s := S2x32768x128) (k0_off22 (grid0.coords t)) S1x32768x128.size (k0_off22_inb (grid0.coords t))) (fun _ => rfl)).squeeze S32768x128 squeezes_S1x32768x128_S32768x128 = rslot0_1 (Ring.sl 2 t.val) :=
  congrArg (fun M : Memref sig .tc .vmem S1x32768x128 .i8 => M.squeeze S32768x128 squeezes_S1x32768x128_S32768x128) (Memref.slice_unit_congr _ (coff0_1_9 t ) _ _ (fun _ => rfl) (fun _ => rfl))
set_option synthInstance.maxSize 4096 in
theorem coff0_1_10 : ∀ t : Fin grid0.N, ¬cond0_0 (grid0.coords t) → cond0_1 (grid0.coords t) → k0_off8 (grid0.coords t) = ![1 * (Ring.bk 64 (t.val + 1)).val, 0, 0] := by decide +kernel
@[sl_canon] theorem canon0_1_10 (t : Fin grid0.N) (h0 : ¬cond0_0 (grid0.coords t)) (h1 : cond0_1 (grid0.coords t)) :
    (hbM0_1.slice (Rect.unit (s := S64x32768x128) (k0_off8 (grid0.coords t)) S1x32768x128.size (k0_off8_inb (grid0.coords t) h1)) (fun _ => rfl)).squeeze S32768x128 squeezes_S1x32768x128_S32768x128 = srcB0_1 (Ring.bk 64 (t.val + 1)) :=
  congrArg (fun M : Memref sig .tc .hbm S1x32768x128 .i8 => M.squeeze S32768x128 squeezes_S1x32768x128_S32768x128) (Memref.slice_unit_congr _ (coff0_1_10 t h0 h1) _ _ (fun _ => rfl) (fun _ => rfl))
set_option synthInstance.maxSize 4096 in
theorem coff0_1_11 : ∀ t : Fin grid0.N, k0_off22 (grid0.coords t) = ![(Ring.sl 2 t.val).val, 0, 0] := by decide +kernel
/-- The ring-memref load's box in the slot's spelling (the block this step waited): the executor's symbolic geometry then sees it inside that slot. -/
instance (priority := high) closedOff0_1_11 (t : Fin grid0.N) : ClosedOff (k0_off22 (grid0.coords t)) := ⟨![(Ring.sl 2 t.val).val, 0, 0], coff0_1_11 t⟩
end Canon0_1

end Cert.KernelIdeal.Gen

end
-- ==== Proof.Ideal.Block.lean ====
/- The block the attention body stores for one sequence, from the blocks it is given and the rows that landed in its slots. -/
module

public import proofs.«01_k».proof.Proof.Ideal.Out
public import proofs.«01_k».proof.Proof.Ideal.Runs

@[expose] public section
set_option maxRecDepth 16384
set_option pp.maxSteps 40
noncomputable section
namespace Cert.KernelIdeal.Gen
open Idealize.ShloMosaic Idealize.ShloMosaic.TcCoe Idealize.ShloMosaic.Tactic

/-- A store of a whole array is read back. -/
theorem read_whole {sg : RefSig} {κ₀ : Kind} {sp : Space} {s : Shape} {e : EltTy} (v : View sg κ₀ sp s e) (f : v.ty.Contents (Elt Ideal)) (w : s.Idx → Elt Ideal e) :
    v.read (Elt Ideal) (v.writes (Elt Ideal) f [⟨Rect.whole s, w⟩]) = w := by
  funext y
  refine View.read_writes_apply_of_pieces v f w _ ?_ y ⟨_, List.mem_singleton.mpr rfl, (LoadRect.mem_set _).mpr fun a => ⟨(y a).val, (y a).isLt, ?_⟩⟩
  · intro p hp x
    obtain rfl := List.mem_singleton.mp hp
    refine congrArg w (funext fun a => Fin.ext ?_)
    show (x a).val = 0 + 1 * (x a).val
    omega
  · show (y a).val = 0 + 1 * (y a).val
    omega

theorem firstPos : 0 < S1.numel := by decide

/-- The word of positions of grid point `t`. -/
def posW (x0 : Vec Ideal S64 .i32) (t : ℕ) : BitVec 32 := if h : t < 64 then x0 (ix1 (⟨t, h⟩ : Fin 64)) else 0

theorem off1_val : ∀ t : Fin 64, ∀ i : grid0.Coords, (i 0).val = t.val → k0_off1 i 0 = t.val := by
  have h : ∀ t : Fin 64, (Scalar.indexCast (BitVec.ofNat 32 t.val) : BitVec 32).toNat = t.val := by decide
  intro t i hi
  show (Scalar.indexCast (BitVec.ofNat 32 (i 0).val) : BitVec 32).toNat = t.val
  rw [hi]
  exact h t

/-- The block of the result at grid point `t`. -/
def outBlk (c : Dev nD) (t : ℕ) (x0 : Vec Ideal S64 .i32) (x1 : Vec Ideal S1x128x128 .bf16) (x2 : Vec Ideal S1x16x128 .bf16) (x3 : Vec Ideal S1x16x128 .i8) (x4 : Vec Ideal S1x16x1 .f32)
    (x5 : Vec Ideal S1x1024x128 .f32) (x6 : Vec Ideal S1x16x2048 .f32) (fh0 : HbBuf0 (F := Ideal) c hbM0_0) (fh1 : HbBuf0 (F := Ideal) c hbM0_1) : Vec Ideal S1x128x128 .bf16 :=
  fun y => outV (posW x0 t) x1 x2 x3 x4 x5 x6 (View.read (Elt Ideal) (srcB0_0 (Ring.bk 64 t)).view fh0) (View.read (Elt Ideal) (srcB0_1 (Ring.bk 64 t)).view fh1)
    ⟨(y 1).val, (y 1).isLt⟩ ⟨(y 2).val, (y 2).isLt⟩

theorem out_block  (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole)
    (x0 : Vec Ideal S64 .i32) (x1 : Vec Ideal S1x128x128 .bf16) (x2 : Vec Ideal S1x16x128 .bf16) (x3 : Vec Ideal S1x16x128 .i8) (x4 : Vec Ideal S1x16x1 .f32) (x5 : Vec Ideal S1x1024x128 .f32) (x6 : Vec Ideal S1x16x2048 .f32) (fh0 : HbBuf0 (F := Ideal) c hbM0_0) (fh1 : HbBuf0 (F := Ideal) c hbM0_1)  (f7 : arg10.view.ty.Contents (Elt Ideal)) (fs2 : BufTy.Contents (Elt Ideal) arg14.view.ty) (fs4 : BufTy.Contents (Elt Ideal) arg16.view.ty) :
    View.read (Elt Ideal) arg10.view (arg10.view.writes (Elt Ideal) f7 [⟨Rect.unit (s := S1x128x128) ![0, 0, 0] S1x128x128.size inb_S1x128x128_S1x128x128_0_0_0,
      k0_pay1 (k0_pay465 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2)))) (k0_pay466 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (arg19.view.readCov ((pb_k0_t2 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (rslot0_1 (Ring.sl 2 t.val)) (canon0_1_9 t) (arg14.view.writes (Elt Ideal) fs2 (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).2) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).2 ++ [⟨Rect.unit (s := S128x128) ![0, 0] S128x128.size inb_S128x128_S128x128_0_0, k0_pay462 (F := Ideal)⟩]) (Rect.unit (s := S128x128) ![0, 0] S128x128.size inb_S128x128_S128x128_0_0).toLoadRect))
      (k0_pay467 (arg18.view.readCov ((pb_k0_t2 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (rslot0_1 (Ring.sl 2 t.val)) (canon0_1_9 t) (arg14.view.writes (Elt Ideal) fs2 (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).2) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![0, 0] S32x128.size inb_S128x256_S32x128_0_0).toLoadRect) (arg18.view.readCov ((pb_k0_t2 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (rslot0_1 (Ring.sl 2 t.val)) (canon0_1_9 t) (arg14.view.writes (Elt Ideal) fs2 (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).2) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![32, 128] S32x128.size inb_S128x256_S32x128_32_128).toLoadRect) (arg18.view.readCov ((pb_k0_t2 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (rslot0_1 (Ring.sl 2 t.val)) (canon0_1_9 t) (arg14.view.writes (Elt Ideal) fs2 (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).2) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![64, 0] S32x128.size inb_S128x256_S32x128_64_0).toLoadRect) (arg18.view.readCov ((pb_k0_t2 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (k0_pay459 (k0_pay449 (View.readAt (Elt Ideal) arg2.view (Rect.unit (s := S1x128x128) ![0, 0, 0] S1x128x128.size inb_S1x128x128_S1x128x128_0_0_0).toLoadRect (harg2.unread x1))) (View.readAt (Elt Ideal) arg3.view (Rect.unit (s := S1x16x128) ![0, 0, 0] S1x16x128.size inb_S1x16x128_S1x16x128_0_0_0).toLoadRect (harg3.unread x2))) (k0_pay460 (k0_pay449 (View.readAt (Elt Ideal) arg2.view (Rect.unit (s := S1x128x128) ![0, 0, 0] S1x128x128.size inb_S1x128x128_S1x128x128_0_0_0).toLoadRect (harg2.unread x1))) (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).1 (View.readAt (Elt Ideal) arg3.view (Rect.unit (s := S1x16x128) ![0, 0, 0] S1x16x128.size inb_S1x16x128_S1x16x128_0_0_0).toLoadRect (harg3.unread x2))) (rslot0_1 (Ring.sl 2 t.val)) (canon0_1_9 t) (arg14.view.writes (Elt Ideal) fs2 (st_k0_t1 (F := Ideal) Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (iota .tc S8x128 32 [1] iota_S8x128_d1_w32) (k0_pay449 (View.readAt (Elt Ideal) arg2.view (Rect.unit (s := S1x128x128) ![0, 0, 0] S1x128x128.size inb_S1x128x128_S1x128x128_0_0_0).toLoadRect (harg2.unread x1))) (k0_pay451 (View.readAt (Elt Ideal) arg2.view (Rect.unit (s := S1x128x128) ![0, 0, 0] S1x128x128.size inb_S1x128x128_S1x128x128_0_0_0).toLoadRect (harg2.unread x1))) (k0_pay452 (View.readAt (Elt Ideal) arg2.view (Rect.unit (s := S1x128x128) ![0, 0, 0] S1x128x128.size inb_S1x128x128_S1x128x128_0_0_0).toLoadRect (harg2.unread x1))) (k0_pay453 (iota .tc S8x128 32 [0] iota_S8x128_d0_w32)) 32#32 (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) k0_pay455 (Scf.trips k0_t1_loop.lb k0_t1_loop.ub k0_t1_loop.st)).2) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) (arg18.view.writes (Elt Ideal) arg18.view.junk [⟨Rect.unit (s := S128x256) ![0, 0] S128x256.size inb_S128x256_S128x256_0_0, k0_pay461 (F := Ideal)⟩]) (arg19.view.writes (Elt Ideal) arg19.view.junk [⟨Rect.unit (s := S128x128) ![0, 0] S128x128.size inb_S128x128_S128x128_0_0, k0_pay462 (F := Ideal)⟩]) (Scf.trips k0_t2_loop.lb k0_t2_loop.ub k0_t2_loop.st)).1 ++ [⟨Rect.unit (s := S128x256) ![0, 0] S128x256.size inb_S128x256_S128x256_0_0, k0_pay461 (F := Ideal)⟩]) (Rect.unit (s := S128x256) ![96, 128] S32x128.size inb_S128x256_S32x128_96_128).toLoadRect)) (View.readAt (Elt Ideal) arg5.view (Rect.unit (s := S1x16x1) ![0, 0, 0] S1x16x1.size inb_S1x16x1_S1x16x1_0_0_0).toLoadRect (harg5.unread x4)) (View.readAt (Elt Ideal) arg4.view (Rect.unit (s := S1x16x128) ![0, 0, 0] S1x16x128.size inb_S1x16x128_S1x16x128_0_0_0).toLoadRect (harg4.unread x3))⟩]) = outBlk c t.val x0 x1 x2 x3 x4 x5 x6 fh0 fh1 := by
  refine (View.read_writes_full _ _ _ _ _).trans (funext fun y => ?_)
  obtain ⟨r, d, rfl⟩ : ∃ r d : Fin 128, y = ix3 0 r d := ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩
  have e1 : (View.readAt (Elt Ideal) arg2.view (Rect.unit (s := S1x128x128) ![0, 0, 0] S1x128x128.size inb_S1x128x128_S1x128x128_0_0_0).toLoadRect (harg2.unread x1)) = x1 := (View.readAt_full _ _ _).trans (harg2.read_unread _)
  have e2 : (View.readAt (Elt Ideal) arg3.view (Rect.unit (s := S1x16x128) ![0, 0, 0] S1x16x128.size inb_S1x16x128_S1x16x128_0_0_0).toLoadRect (harg3.unread x2)) = x2 := (View.readAt_full _ _ _).trans (harg3.read_unread _)
  have e3 : (View.readAt (Elt Ideal) arg4.view (Rect.unit (s := S1x16x128) ![0, 0, 0] S1x16x128.size inb_S1x16x128_S1x16x128_0_0_0).toLoadRect (harg4.unread x3)) = x3 := (View.readAt_full _ _ _).trans (harg4.read_unread _)
  have e4 : (View.readAt (Elt Ideal) arg5.view (Rect.unit (s := S1x16x1) ![0, 0, 0] S1x16x1.size inb_S1x16x1_S1x16x1_0_0_0).toLoadRect (harg5.unread x4)) = x4 := (View.readAt_full _ _ _).trans (harg5.read_unread _)
  have e5 : View.read (Elt Ideal) arg6.view (harg6.unread x5) = x5 := harg6.read_unread _
  have e6 : View.read (Elt Ideal) arg7.view (harg7.unread x6) = x6 := harg7.read_unread _
  have ht : t.val < 64 := t.isLt
  have ep : (View.readAt (Elt Ideal) arg1.view (Rect.unit (s := S64) (k0_off1 (grid0.coords t)) S1.size (k0_off1_inb (grid0.coords t))).toLoadRect (harg1.unread x0) (Shape.Idx.first firstPos)) = posW x0 t.val := by
    unfold posW
    rw [dif_pos ht]
    refine (readAt_unit _ _ _ _ (ix1 (⟨t.val, ht⟩ : Fin 64)) rfl fun a => ?_).trans (congrFun (harg1.read_unread _) _)
    match a with
    | ⟨0, _⟩ =>
      show t.val = k0_off1 (grid0.coords t) 0 + 0
      have e0 : (grid0.coords t 0).val = t.val / 1 % 64 := Pipeline.Grid.coords_val t 0 (by decide) rfl
      rw [off1_val ⟨t.val, ht⟩ (grid0.coords t) (e0.trans (by show t.val / 1 % 64 = t.val; omega))]
      rfl
  refine (out_core Variants.none c none (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19 (BitVec.ofNat 32 (grid0.coords t 0).val) (rslot0_0 (Ring.sl 2 t.val)) (canon0_0_9 t) (arg15.view.writes (Elt Ideal) arg15.view.junk [⟨Rect.unit (s := S4x8192) ![0, 0] S4x8192.size inb_S4x8192_S4x8192_0_0, biasLit (View.readAt (Elt Ideal) arg1.view (Rect.unit (s := S64) (k0_off1 (grid0.coords t)) S1.size (k0_off1_inb (grid0.coords t))).toLoadRect (harg1.unread x0) (Shape.Idx.first firstPos))⟩]) (arg16.view.writes (Elt Ideal) fs4 (kuList arg6.view (harg6.unread x5))) ((rslot0_0 (Ring.sl 2 t.val)).view.writes (Elt Ideal) (rslot0_0 (Ring.sl 2 t.val)).view.junk [⟨Rect.whole S32768x128, ReadAs.same.apply (View.read (Elt Ideal) (srcB0_0 (Ring.bk 64 t.val)).view fh0)⟩]) (rslot0_1 (Ring.sl 2 t.val)) (canon0_1_9 t) (arg17.view.writes (Elt Ideal) arg17.view.junk (vxList arg7.view (harg7.unread x6))) ((rslot0_1 (Ring.sl 2 t.val)).view.writes (Elt Ideal) (rslot0_1 (Ring.sl 2 t.val)).view.junk [⟨Rect.whole S32768x128, ReadAs.same.apply (View.read (Elt Ideal) (srcB0_1 (Ring.bk 64 t.val)).view fh1)⟩]) fs2
    (View.readAt (Elt Ideal) arg1.view (Rect.unit (s := S64) (k0_off1 (grid0.coords t)) S1.size (k0_off1_inb (grid0.coords t))).toLoadRect (harg1.unread x0) (Shape.Idx.first firstPos)) (View.readAt (Elt Ideal) arg2.view (Rect.unit (s := S1x128x128) ![0, 0, 0] S1x128x128.size inb_S1x128x128_S1x128x128_0_0_0).toLoadRect (harg2.unread x1)) (View.readAt (Elt Ideal) arg3.view (Rect.unit (s := S1x16x128) ![0, 0, 0] S1x16x128.size inb_S1x16x128_S1x16x128_0_0_0).toLoadRect (harg3.unread x2)) (View.readAt (Elt Ideal) arg4.view (Rect.unit (s := S1x16x128) ![0, 0, 0] S1x16x128.size inb_S1x16x128_S1x16x128_0_0_0).toLoadRect (harg4.unread x3)) (View.readAt (Elt Ideal) arg5.view (Rect.unit (s := S1x16x1) ![0, 0, 0] S1x16x1.size inb_S1x16x1_S1x16x1_0_0_0).toLoadRect (harg5.unread x4)) x5 x6 _ _
    (fun c l => (congrFun (View.read_writes_full _ _ _ _ _) (ix2 c l)).trans (bias_at _ c l))
    (fun y => (ku_at _ _ _ _ y).trans (congrArg (fun z => kuV z y) e5)) (read_whole _ _ _)
    (fun y => (vx_at _ _ _ _ y).trans (congrArg (fun z => vxV z y) e6)) (read_whole _ _ _) r d).trans ?_
  rw [e1, e2, e3, e4, ep]
  rfl

end Cert.KernelIdeal.Gen

end
-- ==== Proof.Ideal.RunVA.lean ====
module

public import proofs.«01_k».proof.Proof.Ideal.Block

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

-- (the run's proof term is large: checking it walks past the default budget)
set_option maxHeartbeats 2624000 in
/-- The body's triple IN CASE A (`scf.if` 0 taken, `scf.if` 1 taken: points 0): on whole staging memrefs — the inputs' at their contents,
    the output's (7) at anything, handed back at the block of this grid point —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : cond0_0 (grid0.coords t)) (hc1 : cond0_1 (grid0.coords t))
    (x0 : Vec Ideal S64 .i32) (x1 : Vec Ideal S1x128x128 .bf16) (x2 : Vec Ideal S1x16x128 .bf16) (x3 : Vec Ideal S1x16x128 .i8) (x4 : Vec Ideal S1x16x1 .f32) (x5 : Vec Ideal S1x1024x128 .f32) (x6 : Vec Ideal S1x16x2048 .f32) (fh0 : HbBuf0 (F := Ideal) c hbM0_0) (fh1 : HbBuf0 (F := Ideal) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.free (cellP0_0 c) (slotW0_0 c fh0) (Ring.sl 2 t.val) ∗ Ring.free (cellP0_0 c) (slotW0_0 c fh0) (Ring.sl 2 (t.val + 1)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (outBlk c t.val x0 x1 x2 x3 x4 x5 x6 fh0 fh1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ Ring.inflight (flightW0_1 c fh1) (Ring.sl 2 (t.val + 1)) (Ring.bk 64 (t.val + 1)) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := Ideal)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (cond0_0 (grid0.coords t)) := ⟨hc0⟩
    haveI : Fact (cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨Hc0_0_0, ⟨%fs0_0_0, Hs0_0_0, Hw0_0_0⟩⟩, ⟨Hc0_0_1, ⟨%fs0_0_1, Hs0_0_1, Hw0_0_1⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 2 t.val) (Ring.bk 64 t.val)).1 $$ Hw0_0_0
    icases Hsp0_0_0 with ⟨Hh0_0_0, Hr0_0_0⟩
    ihave Hsp0_0_1 := (src0_0_split c fh0 (Ring.sl 2 (t.val + 1)) (Ring.bk 64 (t.val + 1))).1 $$ Hw0_0_1
    icases Hsp0_0_1 with ⟨Hh0_0_1, Hr0_0_1⟩
    ihave Hsp0_1_0 := (src0_1_split c fh1 (Ring.sl 2 t.val) (Ring.bk 64 t.val)).1 $$ Hw0_1_0
    icases Hsp0_1_0 with ⟨Hh0_1_0, Hr0_1_0⟩
    ihave Hsp0_1_1 := (src0_1_split c fh1 (Ring.sl 2 (t.val + 1)) (Ring.bk 64 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; exact out_block c t arg1 harg1 arg2 harg2 arg3 harg3 arg4 harg4 arg5 harg5 arg6 harg6 arg7 harg7 arg10 harg10 arg14 harg14 arg15 harg15 arg16 harg16 arg17 harg17 arg18 harg18 arg19 harg19 x0 x1 x2 x3 x4 x5 x6 fh0 fh1 f7 fs2 fs4
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 64 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 2 t.val) (Ring.bk 64 t.val)).2; isplitl [Hh0_1_0]; · iexact Hh0_1_0
      iexact Hr0_1_0
    iexists _; iexact HW

end Cert.KernelIdeal.Gen

end
-- ==== Proof.Ideal.RunVB.lean ====
module

public import proofs.«01_k».proof.Proof.Ideal.Block

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

-- (the run's proof term is large: checking it walks past the default budget)
set_option maxHeartbeats 2564000 in
/-- The body's triple IN CASE B (`scf.if` 0 not taken, `scf.if` 1 taken: points 1, 2, … 62: 62 of 64): on whole staging memrefs — the inputs' at their contents,
    the output's (7) at anything, handed back at the block of this grid point —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : ¬cond0_0 (grid0.coords t)) (hc1 : cond0_1 (grid0.coords t))
    (x0 : Vec Ideal S64 .i32) (x1 : Vec Ideal S1x128x128 .bf16) (x2 : Vec Ideal S1x16x128 .bf16) (x3 : Vec Ideal S1x16x128 .i8) (x4 : Vec Ideal S1x16x1 .f32) (x5 : Vec Ideal S1x1024x128 .f32) (x6 : Vec Ideal S1x16x2048 .f32) (fh0 : HbBuf0 (F := Ideal) c hbM0_0) (fh1 : HbBuf0 (F := Ideal) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 64 t.val) ∗ Ring.kept (cellP0_0 c) (slotW0_0 c fh0) (landed0_0 c fh0) (Ring.sl 2 (t.val + 1)) (Ring.bk 64 (t.val - 1)) ∗ Ring.inflight (flightW0_1 c fh1) (Ring.sl 2 t.val) (Ring.bk 64 t.val) ∗ Ring.kept (cellP0_1 c) (slotW0_1 c fh1) (landed0_1 c fh1) (Ring.sl 2 (t.val + 1)) (Ring.bk 64 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (outBlk c t.val x0 x1 x2 x3 x4 x5 x6 fh0 fh1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ Ring.inflight (flightW0_1 c fh1) (Ring.sl 2 (t.val + 1)) (Ring.bk 64 (t.val + 1)) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := Ideal)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (¬cond0_0 (grid0.coords t)) := ⟨hc0⟩
    haveI : Fact (cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ff0_0, Hf0_0, Hrf0_0⟩, ⟨Hc0_0_1, ⟨%fs0_0_1, Hs0_0_1, Hw0_0_1⟩⟩, ⟨%ff0_1, Hf0_1, Hrf0_1⟩, ⟨Hc0_1_1, ⟨%fs0_1_1, Hs0_1_1, Hw0_1_1⟩⟩, HW, Hk⟩
    ihave Hsp0_0_1 := (src0_0_split c fh0 (Ring.sl 2 (t.val + 1)) (Ring.bk 64 (t.val + 1))).1 $$ Hw0_0_1
    icases Hsp0_0_1 with ⟨Hh0_0_1, Hr0_0_1⟩
    ihave Hsp0_1_1 := (src0_1_split c fh1 (Ring.sl 2 (t.val + 1)) (Ring.bk 64 (t.val + 1))).1 $$ Hw0_1_1
    icases Hsp0_1_1 with ⟨Hh0_1_1, Hr0_1_1⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; exact out_block c t arg1 harg1 arg2 harg2 arg3 harg3 arg4 harg4 arg5 harg5 arg6 harg6 arg7 harg7 arg10 harg10 arg14 harg14 arg15 harg15 arg16 harg16 arg17 harg17 arg18 harg18 arg19 harg19 x0 x1 x2 x3 x4 x5 x6 fh0 fh1 f7 fs2 fs4
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 64 t.val)).2; isplitl [Hf0_1_src]; · iexact Hf0_1_src
      iexact Hrf0_1
    iexists _; iexact HW

end Cert.KernelIdeal.Gen

end
-- ==== Proof.Ideal.RunVC.lean ====
module

public import proofs.«01_k».proof.Proof.Ideal.Block

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

-- (the run's proof term is large: checking it walks past the default budget)
set_option maxHeartbeats 2500000 in
/-- The body's triple IN CASE C (`scf.if` 0 not taken, `scf.if` 1 not taken: points 63): on whole staging memrefs — the inputs' at their contents,
    the output's (7) at anything, handed back at the block of this grid point —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (t : Fin cfg0.N) (arg1 : Memref sig .tc .smem S64 .i32) (harg1 : arg1.IsWhole) (arg2 : Memref sig .tc .vmem S1x128x128 .bf16) (harg2 : arg2.IsWhole) (arg3 : Memref sig .tc .vmem S1x16x128 .bf16) (harg3 : arg3.IsWhole) (arg4 : Memref sig .tc .vmem S1x16x128 .i8) (harg4 : arg4.IsWhole) (arg5 : Memref sig .tc .vmem S1x16x1 .f32) (harg5 : arg5.IsWhole) (arg6 : Memref sig .tc .vmem S1x1024x128 .f32) (harg6 : arg6.IsWhole) (arg7 : Memref sig .tc .vmem S1x16x2048 .f32) (harg7 : arg7.IsWhole) (arg10 : Memref sig .tc .vmem S1x128x128 .bf16) (harg10 : arg10.IsWhole) (arg14 : Memref sig .tc .vmem S128x8192 .f32) (harg14 : arg14.IsWhole) (arg15 : Memref sig .tc .vmem S4x8192 .f32) (harg15 : arg15.IsWhole) (arg16 : Memref sig .tc .vmem S2x4x256x128 .f32) (harg16 : arg16.IsWhole) (arg17 : Memref sig .tc .vmem S16x8192 .f32) (harg17 : arg17.IsWhole) (arg18 : Memref sig .tc .vmem S128x256 .f32) (harg18 : arg18.IsWhole) (arg19 : Memref sig .tc .vmem S128x128 .f32) (harg19 : arg19.IsWhole) (hc0 : ¬cond0_0 (grid0.coords t)) (hc1 : ¬cond0_1 (grid0.coords t))
    (x0 : Vec Ideal S64 .i32) (x1 : Vec Ideal S1x128x128 .bf16) (x2 : Vec Ideal S1x16x128 .bf16) (x3 : Vec Ideal S1x16x128 .i8) (x4 : Vec Ideal S1x16x1 .f32) (x5 : Vec Ideal S1x1024x128 .f32) (x6 : Vec Ideal S1x16x2048 .f32) (fh0 : HbBuf0 (F := Ideal) c hbM0_0) (fh1 : HbBuf0 (F := Ideal) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg10 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.inflight (flightW0_0 c fh0) (Ring.sl 2 t.val) (Ring.bk 64 t.val) ∗ Ring.inflight (flightW0_1 c fh1) (Ring.sl 2 t.val) (Ring.bk 64 t.val) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (outBlk c t.val x0 x1 x2 x3 x4 x5 x6 fh0 fh1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ Ring.kept (cellP0_0 c) (slotW0_0 c fh0) (landed0_0 c fh0) (Ring.sl 2 t.val) (Ring.bk 64 t.val) ∗ Ring.kept (cellP0_1 c) (slotW0_1 c fh1) (landed0_1 c fh1) (Ring.sl 2 t.val) (Ring.bk 64 t.val) ∗ (∃ W', owes (c : Thread nD τ) 0 W')) -∗ K ⟨⟩))
          ⊢ wp frame (wpE (defs₀ (F := Ideal)) Variants.none c none) Set.univ (cc0_ring_attention (grid0.coords t) arg1 harg1 arg2 harg2 arg3 harg3 arg4 harg4 arg5 harg5 arg6 harg6 arg7 harg7 (Memref.whole main_v9) (Memref.isWhole_whole _) (Memref.whole main_v10) (Memref.isWhole_whole _) arg10 harg10 scM0_0 (Memref.isWhole_whole _) scM0_1 (Memref.isWhole_whole _) cc0_scratch2 arg14 harg14 arg15 harg15 arg16 harg16 arg17 harg17 arg18 harg18 arg19 harg19) K := by
    intro W K
    haveI : Fact (¬cond0_0 (grid0.coords t)) := ⟨hc0⟩
    haveI : Fact (¬cond0_1 (grid0.coords t)) := ⟨hc1⟩
    simp only [cc0_ring_attention_eq_skeleton]; unfold cc0_ring_attention_skel
    simp only [k0_part111_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton]
    have hcanon0 := canon0_0_9 t
    have hcanon1 := canon0_1_9 t
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ff0_0, Hf0_0, Hrf0_0⟩, ⟨%ff0_1, Hf0_1, Hrf0_1⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; exact out_block c t arg1 harg1 arg2 harg2 arg3 harg3 arg4 harg4 arg5 harg5 arg6 harg6 arg7 harg7 arg10 harg10 arg14 harg14 arg15 harg15 arg16 harg16 arg17 harg17 arg18 harg18 arg19 harg19 x0 x1 x2 x3 x4 x5 x6 fh0 fh1 f7 fs2 fs4
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 64 t.val)).2; isplitl [Hf0_1_src]; · iexact Hf0_1_src
      iexact Hrf0_1
    iexists _; iexact HW

end Cert.KernelIdeal.Gen

end
-- ==== Proof.Ideal.Frame.lean ====
module

public import proofs.«01_k».proof.Proof.Ideal.RunVA
public import proofs.«01_k».proof.Proof.Ideal.RunVB
public import proofs.«01_k».proof.Proof.Ideal.RunVC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ r, prngReg c r) ∗ ringAt0_0 c (V m c main_v9) k ∗ ringAt0_1 c (V m c main_v10) k)

/-- The proof data of the one pipeline on core `c`: the arrays as the region finds them (`V`); after the body at
    point `t` each input's buffer at its block and the output's at the block of results (`outBlk`); the invariant
    (`PhiR`: each ring's Lib/Ring.lean `Ring.At` before the point, beside the register and what the body takes whole);
    nothing owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk c t.val (iblk m c 0 t) (iblk m c 1 t) (iblk m c 2 t) (iblk m c 3 t) (iblk m c 4 t) (iblk m c 5 t) (iblk m c 6 t) (V m c main_v9) (V m c main_v10)
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_7 (c : Dev nD) (t : Fin cfg0.N) : (dats m 0 c).after 7 t = outBlk c t.val (iblk m c 0 t) (iblk m c 1 t) (iblk m c 2 t) (iblk m c 3 t) (iblk m c 4 t) (iblk m c 5 t) (iblk m c 6 t) (V m c main_v9) (V m c main_v10) := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4800000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  have hgN : grid0.N = 64 := N_0
  have hN : t.val < 64 := lt_of_lt_of_eq t.isLt (show cfg0.N = 64 from N_0)
  by_cases h0 : t.val % 64 = 0
  · by_cases h1 : t.val < 63
    · have hr0 := rstep0_0_A t ((hcond0_0 t).mpr h0) ((hcond0_1 t).mpr h1)
      obtain ⟨hK00, hK10⟩ := hr0
      rw [if_pos hK00, if_neg (show ¬t.val + 1 = 0 by omega)]
      rw [Ring.At₀_eq2' _ _ _ t.val hK00 (by decide : 2 ≤ 64), Ring.AtK2_one' _ _ _ _ _ t.val hK00 (by decide : 1 < 64)]
      have hr1 := rstep0_1_A t ((hcond0_0 t).mpr h0) ((hcond0_1 t).mpr h1)
      obtain ⟨hK01, hK11⟩ := hr1
      rw [if_pos hK01, if_neg (show ¬t.val + 1 = 0 by omega)]
      rw [Ring.At₀_eq2' _ _ _ t.val hK01 (by decide : 2 ≤ 64), Ring.AtK2_one' _ _ _ _ _ t.val hK01 (by decide : 1 < 64)]
      iintro ⟨⟨HS2, HS3, HS4, HS5, HS6, HS7, Hg, ⟨-, Hfr0_0_0, Hfr0_0_1⟩, ⟨-, Hfr0_1_0, Hfr0_1_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c t _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfr0_0_0]; · iexact Hfr0_0_0
      isplitl [Hfr0_0_1]; · iexact Hfr0_0_1
      isplitl [Hfr0_1_0]; · iexact Hfr0_1_0
      isplitl [Hfr0_1_1]; · iexact Hfr0_1_1
      isplitl [HW]; · iexact HW
      iintro ⟨H0, H1, H2, H3, H4, H5, H6, H7, HS2, HS3, HS4, HS5, HS6, HS7, Hfl0_0', Hkp0_0', Hfl0_1', Hkp0_1', ⟨%W', HW'⟩⟩
      isplitl [HS2 HS3 HS4 HS5 HS6 HS7 Hg Hfl0_0' Hkp0_0' Hfl0_1' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hfl0_0' Hkp0_0']
        · iapply Ring.with_homes₀
          isplitl [Hfl0_0']; · iexact Hfl0_0'
          iexact Hkp0_0'
        iapply Ring.with_homes₀
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega
  · by_cases h1 : t.val < 63
    · have hr0 := rstep0_0_B t (fun h => h0 ((hcond0_0 t).mp h)) ((hcond0_1 t).mpr h1)
      obtain ⟨hK10, hKB0, hKs0⟩ := hr0
      rw [if_neg (show ¬t.val = 0 by omega), if_neg (show ¬t.val + 1 = 0 by omega)]
      rw [Ring.AtK2_here _ _ _ _ _ t.val hK10 hKB0, Ring.AtK2_next _ _ _ _ _ t.val hK10 hKB0]
      have hr1 := rstep0_1_B t (fun h => h0 ((hcond0_0 t).mp h)) ((hcond0_1 t).mpr h1)
      obtain ⟨hK11, hKB1, hKs1⟩ := hr1
      rw [if_neg (show ¬t.val = 0 by omega), if_neg (show ¬t.val + 1 = 0 by omega)]
      rw [Ring.AtK2_here _ _ _ _ _ t.val hK11 hKB1, Ring.AtK2_next _ _ _ _ _ t.val hK11 hKB1]
      iintro ⟨⟨HS2, HS3, HS4, HS5, HS6, HS7, Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c t _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfl0_0]; · iexact Hfl0_0
      isplitl [Hkp0_0]; · iexact Hkp0_0
      isplitl [Hfl0_1]; · iexact Hfl0_1
      isplitl [Hkp0_1]; · iexact Hkp0_1
      isplitl [HW]; · iexact HW
      iintro ⟨H0, H1, H2, H3, H4, H5, H6, H7, HS2, HS3, HS4, HS5, HS6, HS7, Hfl0_0', Hkp0_0', Hfl0_1', Hkp0_1', ⟨%W', HW'⟩⟩
      isplitl [HS2 HS3 HS4 HS5 HS6 HS7 Hg Hfl0_0' Hkp0_0' Hfl0_1' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hfl0_0' Hkp0_0']
        · iapply (Ring.with_homes (Idealize.SL.BI.Entails.refl _))
          isplitl [Hfl0_0']; · iexact Hfl0_0'
          iexact Hkp0_0'
        iapply (Ring.with_homes (Idealize.SL.BI.Entails.refl _))
        isplitl [Hfl0_1']; · iexact Hfl0_1'
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hr0 := rstep0_0_C t (fun h => h0 ((hcond0_0 t).mp h)) (fun h => h1 ((hcond0_1 t).mp h))
      obtain ⟨hK10, hKB0, hKs0⟩ := hr0
      rw [if_neg (show ¬t.val = 0 by omega), if_neg (show ¬t.val + 1 = 0 by omega)]
      rw [Ring.AtK2_here_last _ _ _ _ _ t.val hK10 hKB0, Ring.AtK2_next_last _ _ _ _ _ t.val hK10 hKB0]
      have hr1 := rstep0_1_C t (fun h => h0 ((hcond0_0 t).mp h)) (fun h => h1 ((hcond0_1 t).mp h))
      obtain ⟨hK11, hKB1, hKs1⟩ := hr1
      rw [if_neg (show ¬t.val = 0 by omega), if_neg (show ¬t.val + 1 = 0 by omega)]
      rw [Ring.AtK2_here_last _ _ _ _ _ t.val hK11 hKB1, Ring.AtK2_next_last _ _ _ _ _ t.val hK11 hKB1]
      iintro ⟨⟨HS2, HS3, HS4, HS5, HS6, HS7, Hg, ⟨-, Hfl0_0, Hkp0_0⟩, ⟨-, Hfl0_1, Hkp0_1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c t _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (V m c main_v9) (V m c main_v10)) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS2]; · iexact HS2
      isplitl [HS3]; · iexact HS3
      isplitl [HS4]; · iexact HS4
      isplitl [HS5]; · iexact HS5
      isplitl [HS6]; · iexact HS6
      isplitl [HS7]; · iexact HS7
      isplitl [Hfl0_0]; · iexact Hfl0_0
      isplitl [Hfl0_1]; · iexact Hfl0_1
      isplitl [HW]; · iexact HW
      iintro ⟨H0, H1, H2, H3, H4, H5, H6, H7, HS2, HS3, HS4, HS5, HS6, HS7, Hkp0_0', Hkp0_1', ⟨%W', HW'⟩⟩
      isplitl [HS2 HS3 HS4 HS5 HS6 HS7 Hg Hkp0_0 Hkp0_1 Hkp0_0' Hkp0_1']
      · isplitl [HS2]; · iexact HS2
        isplitl [HS3]; · iexact HS3
        isplitl [HS4]; · iexact HS4
        isplitl [HS5]; · iexact HS5
        isplitl [HS6]; · iexact HS6
        isplitl [HS7]; · iexact HS7
        isplitl [Hg]; · iexact Hg
        isplitl [Hkp0_0 Hkp0_0']
        · iapply (Ring.with_homes (Idealize.SL.BI.Entails.refl _))
          isplitl [Hkp0_0]; · iexact Hkp0_0
          iexact Hkp0_0'
        iapply (Ring.with_homes (Idealize.SL.BI.Entails.refl _))
        isplitl [Hkp0_1]; · iexact Hkp0_1
        iexact Hkp0_1'
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HS2, HS3, HS4, HS5, HS6, HS7⟩, Hg, ⟨Hq0, Hq1, Hq2, Hq3⟩, ⟨Hh0, Hh1⟩⟩
  isplitl [HS2]; · iexact HS2
  isplitl [HS3]; · iexact HS3
  isplitl [HS4]; · iexact HS4
  isplitl [HS5]; · iexact HS5
  isplitl [HS6]; · iexact HS6
  isplitl [HS7]; · iexact HS7
  isplitl [Hg]; · iexact Hg
  isplitl [HR0_0 Hq0 Hq1 Hh0]
  · iapply (ring0_0_in (F := Ideal) m c)
    isplitl [HR0_0]; · iexact HR0_0
    isplitl [Hq0 Hq1]
    · isplitl [Hq0]; · iexact Hq0
      iexact Hq1
    iexact Hh0
  iapply (ring0_1_in (F := Ideal) m c)
  isplitl [HR0_1]; · iexact HR0_1
  isplitl [Hq2 Hq3]
  · isplitl [Hq2]; · iexact Hq2
    iexact Hq3
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 64 by rw [N_0]]
  iintro ⟨HS2, HS3, HS4, HS5, HS6, HS7, Hg, HR0_0, HR0_1⟩
  ihave HX0_0 := (ring0_0_out (F := Ideal) m c) $$ HR0_0
  icases HX0_0 with ⟨HR0_0, ⟨Hq0, Hq1⟩, Hh0⟩
  ihave HX0_1 := (ring0_1_out (F := Ideal) m c) $$ HR0_1
  icases HX0_1 with ⟨HR0_1, ⟨Hq2, Hq3⟩, Hh1⟩
  isplitl [HR0_0 HR0_1 HS2 HS3 HS4 HS5 HS6 HS7]
  · isplitl [HR0_0]; · iexact HR0_0
    isplitl [HR0_1]; · iexact HR0_1
    isplitl [HS2]; · iexact HS2
    isplitl [HS3]; · iexact HS3
    isplitl [HS4]; · iexact HS4
    isplitl [HS5]; · iexact HS5
    isplitl [HS6]; · iexact HS6
    iexact HS7
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at the contents the proof data names, the
    output's among them, and every other unscoped buffer at its region-entry contents. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toR) (A_eq m)
    ((θ_run defs _ _).mono (fun _ h c => ⟨fun w => ((dats m 0 c).toR_arrAt_iff w _ _).mpr ((h c).1 w), (h c).2⟩) (run_main m ρ))

/-- The frame at the extended reals: the argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.Ideal.Entry.lean ====
/- What the arrays of the pipeline hold when it starts, element by element, in terms of the arguments. -/
module

public import proofs.«01_k».proof.Proof.Ideal.Runs
public import Idealize.ShloMosaic.Lib.Claim
public import Idealize.ShloMosaic.Lib.Pointwise
public import Idealize.ShloMosaic.Lib.StableHlo.ReadAt

@[expose] public section
set_option maxRecDepth 16384
noncomputable section
namespace Cert.KernelIdeal.Gen
open Idealize.ShloMosaic Idealize.ShloMosaic.TcCoe Idealize.ShloMosaic.Tactic

variable (m : (ℓ : Loc nD τ sig) → Buf (Elt Ideal) ℓ)

theorem entry_v5 (c : Dev nD) (b : Fin 64) (r d : Fin 128) :
    V m c main_v5 (ix3 b r d) = m ((c : Thread nD τ).loc main_arg1) (ix4 b (0 : Fin 1) r d) := by
  unfold V
  after_reads_at

theorem entry_v6 (c : Dev nD) (b : Fin 64) (h : Fin 16) (d : Fin 128) :
    V m c main_v6 (ix3 b h d) = m ((c : Thread nD τ).loc main_arg2) (ix4 b (0 : Fin 1) h d) := by
  unfold V
  after_reads_at

theorem entry_v7 (c : Dev nD) (b : Fin 64) (h : Fin 16) (d : Fin 128) :
    V m c main_v7 (ix3 b h d) = m ((c : Thread nD τ).loc main_arg3) (ix4 b (0 : Fin 1) h d) := by
  unfold V
  after_reads_at

theorem entry_v8 (c : Dev nD) (b : Fin 64) (h : Fin 16) :
    V m c main_v8 (ix3 b h (0 : Fin 1)) = m ((c : Thread nD τ).loc main_arg4) (ix3 b (0 : Fin 1) h) := by
  unfold V
  after_reads_at

theorem entry_v3 (c : Dev nD) (b : Fin 64) (j : Fin 1024) (t : Fin 128) :
    V m c main_v3 (ix3 b j t) = m ((c : Thread nD τ).loc main_arg6) (ix4 b (⟨j.val / 4 % 16 * 128 + t.val, by omega⟩ : Fin 2048) (⟨j.val / 64, by omega⟩ : Fin 16) (⟨j.val % 4, by omega⟩ : Fin 4)) := by
  unfold V
  after_reads_at

theorem entry_v4 (c : Dev nD) (b : Fin 64) (h : Fin 16) (s : Fin 2048) :
    V m c main_v4 (ix3 b h s) = m ((c : Thread nD τ).loc main_arg8) (ix3 b s h) := by
  unfold V
  after_reads_at

theorem entry_v9 (c : Dev nD) (b : Fin 64) (j : Fin 32768) (d : Fin 128) :
    V m c main_v9 (ix3 b j d) = m ((c : Thread nD τ).loc main_arg5) (ix4 b (⟨j.val / 16, by omega⟩ : Fin 2048) (⟨j.val % 16, by omega⟩ : Fin 16) d) := by
  unfold V
  after_reads_at

theorem entry_v10 (c : Dev nD) (b : Fin 64) (j : Fin 32768) (d : Fin 128) :
    V m c main_v10 (ix3 b j d) = m ((c : Thread nD τ).loc main_arg7) (ix4 b (⟨j.val / 16, by omega⟩ : Fin 2048) (⟨j.val % 16, by omega⟩ : Fin 16) d) := by
  unfold V
  after_reads_at

end Cert.KernelIdeal.Gen

end
-- ==== Proof.Ideal.Value.lean ====
/- The output array after the run, block by block: the staged blocks in terms of the arguments. -/
module

public import proofs.«01_k».proof.Proof.Ideal.Frame
public import proofs.«01_k».proof.Proof.Ideal.Entry
public import Idealize.ShloMosaic.Lib.Claim
public import Idealize.ShloMosaic.Lib.Pipeline.ValueKit

@[expose] public section
set_option maxRecDepth 16384
noncomputable section
namespace Cert.KernelIdeal.Gen
open Idealize.ShloMosaic Idealize.ShloMosaic.TcCoe Idealize.ShloMosaic.Tactic

variable (m : (ℓ : Loc nD τ sig) → Buf (Elt Ideal) ℓ)

theorem widx1 (t : Fin cfg0.N) : win0_1.index t 0 = t.val ∧ win0_1.index t 1 = 0 ∧ win0_1.index t 2 = 0 := by
  revert t; decide +kernel
theorem widx2 (t : Fin cfg0.N) : win0_2.index t 0 = t.val ∧ win0_2.index t 1 = 0 ∧ win0_2.index t 2 = 0 := by
  revert t; decide +kernel
theorem widx3 (t : Fin cfg0.N) : win0_3.index t 0 = t.val ∧ win0_3.index t 1 = 0 ∧ win0_3.index t 2 = 0 := by
  revert t; decide +kernel
theorem widx4 (t : Fin cfg0.N) : win0_4.index t 0 = t.val ∧ win0_4.index t 1 = 0 ∧ win0_4.index t 2 = 0 := by
  revert t; decide +kernel
theorem widx5 (t : Fin cfg0.N) : win0_5.index t 0 = t.val ∧ win0_5.index t 1 = 0 ∧ win0_5.index t 2 = 0 := by
  revert t; decide +kernel
theorem widx6 (t : Fin cfg0.N) : win0_6.index t 0 = t.val ∧ win0_6.index t 1 = 0 ∧ win0_6.index t 2 = 0 := by
  revert t; decide +kernel
theorem widx7 (t : Fin cfg0.N) : win0_7.index t 0 = t.val ∧ win0_7.index t 1 = 0 ∧ win0_7.index t 2 = 0 := by
  revert t; decide +kernel

theorem blk1_at (c : Dev nD) (t : Fin cfg0.N) (b : Fin 64) (hb : t.val = b.val) (r : Fin 128) (d : Fin 128) :
    iblk m c 1 t (ix3 (0 : Fin 1) r d) = V m c main_v5 (ix3 b r d) := by
  unfold iblk
  show V m c main_v5 ((win0_1.blk t).view.emb (ix3 (0 : Fin 1) r d)) = _
  congr 1
  obtain ⟨e0, e1, e2⟩ := widx1 t
  funext k
  apply Fin.ext
  fin_cases k <;> blk_simp
  · show win0_1.index t 0 = b.val
    omega
  · show win0_1.index t 1 * 128 + r.val = r.val
    omega
  · show win0_1.index t 2 * 128 + d.val = d.val; omega

theorem blk2_at (c : Dev nD) (t : Fin cfg0.N) (b : Fin 64) (hb : t.val = b.val) (r : Fin 16) (d : Fin 128) :
    iblk m c 2 t (ix3 (0 : Fin 1) r d) = V m c main_v6 (ix3 b r d) := by
  unfold iblk
  show V m c main_v6 ((win0_2.blk t).view.emb (ix3 (0 : Fin 1) r d)) = _
  congr 1
  obtain ⟨e0, e1, e2⟩ := widx2 t
  funext k
  apply Fin.ext
  fin_cases k <;> blk_simp
  · show win0_2.index t 0 = b.val
    omega
  · show win0_2.index t 1 * 16 + r.val = r.val
    omega
  · show win0_2.index t 2 * 128 + d.val = d.val; omega

theorem blk3_at (c : Dev nD) (t : Fin cfg0.N) (b : Fin 64) (hb : t.val = b.val) (r : Fin 16) (d : Fin 128) :
    iblk m c 3 t (ix3 (0 : Fin 1) r d) = V m c main_v7 (ix3 b r d) := by
  unfold iblk
  show V m c main_v7 ((win0_3.blk t).view.emb (ix3 (0 : Fin 1) r d)) = _
  congr 1
  obtain ⟨e0, e1, e2⟩ := widx3 t
  funext k
  apply Fin.ext
  fin_cases k <;> blk_simp
  · show win0_3.index t 0 = b.val
    omega
  · show win0_3.index t 1 * 16 + r.val = r.val
    omega
  · show win0_3.index t 2 * 128 + d.val = d.val; omega

theorem blk4_at (c : Dev nD) (t : Fin cfg0.N) (b : Fin 64) (hb : t.val = b.val) (r : Fin 16) (d : Fin 1) :
    iblk m c 4 t (ix3 (0 : Fin 1) r d) = V m c main_v8 (ix3 b r d) := by
  unfold iblk
  show V m c main_v8 ((win0_4.blk t).view.emb (ix3 (0 : Fin 1) r d)) = _
  congr 1
  obtain ⟨e0, e1, e2⟩ := widx4 t
  funext k
  apply Fin.ext
  fin_cases k <;> blk_simp
  · show win0_4.index t 0 = b.val
    omega
  · show win0_4.index t 1 * 16 + r.val = r.val
    omega
  · exact e2

theorem blk5_at (c : Dev nD) (t : Fin cfg0.N) (b : Fin 64) (hb : t.val = b.val) (r : Fin 1024) (d : Fin 128) :
    iblk m c 5 t (ix3 (0 : Fin 1) r d) = V m c main_v3 (ix3 b r d) := by
  unfold iblk
  show V m c main_v3 ((win0_5.blk t).view.emb (ix3 (0 : Fin 1) r d)) = _
  congr 1
  obtain ⟨e0, e1, e2⟩ := widx5 t
  funext k
  apply Fin.ext
  fin_cases k <;> blk_simp
  · show win0_5.index t 0 = b.val
    omega
  · show win0_5.index t 1 * 1024 + r.val = r.val
    omega
  · show win0_5.index t 2 * 128 + d.val = d.val; omega

theorem blk6_at (c : Dev nD) (t : Fin cfg0.N) (b : Fin 64) (hb : t.val = b.val) (r : Fin 16) (d : Fin 2048) :
    iblk m c 6 t (ix3 (0 : Fin 1) r d) = V m c main_v4 (ix3 b r d) := by
  unfold iblk
  show V m c main_v4 ((win0_6.blk t).view.emb (ix3 (0 : Fin 1) r d)) = _
  congr 1
  obtain ⟨e0, e1, e2⟩ := widx6 t
  funext k
  apply Fin.ext
  fin_cases k <;> blk_simp
  · show win0_6.index t 0 = b.val
    omega
  · show win0_6.index t 1 * 16 + r.val = r.val
    omega
  · show win0_6.index t 2 * 2048 + d.val = d.val; omega

theorem widx0 (t : Fin cfg0.N) : win0_0.index t 0 = 0 := by
  revert t; decide +kernel

theorem blk0_at (c : Dev nD) (t : Fin cfg0.N) (b : Fin 64) :
    iblk m c 0 t (ix1 b) = m ((c : Thread nD τ).loc main_arg0) (ix1 b) := by
  rw [← V_main_arg0 m]
  unfold iblk
  show V m c main_arg0 ((win0_0.blk t).view.emb (ix1 b)) = _
  congr 1
  have e0 := widx0 t
  funext k
  apply Fin.ext
  fin_cases k <;> blk_simp
  show win0_0.index t 0 * 64 + b.val = b.val
  omega

/-- Dropping a leading axis of extent one, at an index. -/
theorem drop_lead (W : S1x32768x128.Idx → BitVec 8) (h : S1x32768x128.numel = S32768x128.numel) (j : Fin 32768) (d : Fin 128) :
    shapeCast S32768x128 W h (ix2 j d) = W (ix3 (0 : Fin 1) j d) := by
  pointwise

theorem hb0_at (c : Dev nD) (b : Fin 64) (j : Fin 32768) (d : Fin 128) :
    View.read (Elt Ideal) (srcB0_0 (Ring.bk 64 b.val)).view (V m c main_v9) (ix2 j d) = V m c main_v9 (ix3 b j d) := by
  show shapeCast S32768x128 (fun y => V m c main_v9 ((hbM0_0.slice (Rect.unit (s := S64x32768x128) ![1 * (Ring.bk 64 b.val).val, 0, 0] S1x32768x128.size (inb_src0_0 (Ring.bk 64 b.val))) (fun _ => rfl)).view.emb y)) squeezes_S1x32768x128_S32768x128.numel_eq (ix2 j d) = _
  refine (drop_lead _ _ j d).trans ?_
  have hb := Ring.bk_val b.isLt
  congr 1
  funext k
  apply Fin.ext
  fin_cases k
  · show 1 * (Ring.bk 64 b.val).val + 0 * 1 = b.val
    omega
  · show 0 + 1 * j.val = j.val
    omega
  · show 0 + 1 * d.val = d.val
    omega

theorem hb1_at (c : Dev nD) (b : Fin 64) (j : Fin 32768) (d : Fin 128) :
    View.read (Elt Ideal) (srcB0_1 (Ring.bk 64 b.val)).view (V m c main_v10) (ix2 j d) = V m c main_v10 (ix3 b j d) := by
  show shapeCast S32768x128 (fun y => V m c main_v10 ((hbM0_1.slice (Rect.unit (s := S64x32768x128) ![1 * (Ring.bk 64 b.val).val, 0, 0] S1x32768x128.size (inb_src0_1 (Ring.bk 64 b.val))) (fun _ => rfl)).view.emb y)) squeezes_S1x32768x128_S32768x128.numel_eq (ix2 j d) = _
  refine (drop_lead _ _ j d).trans ?_
  have hb := Ring.bk_val b.isLt
  congr 1
  funext k
  apply Fin.ext
  fin_cases k
  · show 1 * (Ring.bk 64 b.val).val + 0 * 1 = b.val
    omega
  · show 0 + 1 * j.val = j.val
    omega
  · show 0 + 1 * d.val = d.val
    omega

end Cert.KernelIdeal.Gen

end
-- ==== Proof.Ideal.Meaning.lean ====
/- The output array after the run: at batch `b` the body's result of batch `b`'s blocks. -/
module

public import proofs.«01_k».proof.Proof.Ideal.Value

@[expose] public section
set_option maxRecDepth 16384
noncomputable section
namespace Cert.KernelIdeal.Gen
open Idealize.ShloMosaic Idealize.ShloMosaic.TcCoe Idealize.ShloMosaic.Tactic

variable (m : (ℓ : Loc nD τ sig) → Buf (Elt Ideal) ℓ)

/-- Batch `b` as a grid point. -/
def pt (b : Fin 64) : Fin cfg0.N := ⟨b.val, by decide +revert⟩

/-- The result of one batch, from its blocks. -/
def batch (c : Dev nD) (b : Fin 64) (r d : Fin 128) : EReal :=
  outV (posW (iblk m c 0 (pt b)) b.val) (iblk m c 1 (pt b)) (iblk m c 2 (pt b)) (iblk m c 3 (pt b)) (iblk m c 4 (pt b)) (iblk m c 5 (pt b)) (iblk m c 6 (pt b))
    (View.read (Elt Ideal) (srcB0_0 (Ring.bk 64 b.val)).view (V m c main_v9)) (View.read (Elt Ideal) (srcB0_1 (Ring.bk 64 b.val)).view (V m c main_v10)) r d

/-- The whole output. -/
def outArr (c : Dev nD) : FVec Ideal S64x128x128 .bf16 := fun i => batch m c (i 0) (i 1) (i 2)

theorem arr_out (c : Dev nD) : (dats m 0 c).arrAt 7 cfg0.N = outArr m c := by
  refine (dats m 0 c).arrAt_eq_of_covers 7 _ (by decide +kernel) fun t hf y => ?_
  blk_simp
  rw [after0_7]
  obtain ⟨e0, e1, e2⟩ := widx7 t
  have ht : t.val < 64 := t.isLt
  have h : (win0_7.blk t).view.emb y = ix3 (⟨t.val, ht⟩ : Fin 64) (⟨(y 1).val, (y 1).isLt⟩ : Fin 128) (⟨(y 2).val, (y 2).isLt⟩ : Fin 128) := by
    have y0 : (y 0).val < 1 := (y 0).isLt
    funext k
    apply Fin.ext
    fin_cases k <;> blk_simp
    · show win0_7.index t 0 = t.val
      omega
    · show win0_7.index t 1 * 128 + (y 1).val = (y 1).val
      omega
    · show win0_7.index t 2 * 128 + (y 2).val = (y 2).val
      omega
  exact Eq.trans (by rfl) (congrArg (outArr m c) h).symm

end Cert.KernelIdeal.Gen

end
-- ==== Proof.Softmax.lean ====
/- The mathematics of the softmax with one further term, over the extended reals: the base-two exponential of a scaled
   difference against the exponential of scaled scores, and dividing after the weighted sum against dividing before it. -/
module

public import Idealize.ShloMosaic.PureOps.Ideal
public import Idealize.ShloMosaic.PureOps.Ideal.Laws
public import Mathlib.Analysis.SpecialFunctions.Pow.Real

@[expose] public section
noncomputable section
namespace Cert.Softmax
open Idealize.ShloMosaic

/-- A score that counts, or one that does not. -/
def masked (o : Prop) [Decidable o] (T : ℝ) : EReal := if o then (T : EReal) else ⊥

/-- A real factor that is not negative goes through a sum. -/
theorem add_mul_real (a b : EReal) (k : ℝ) (hk : 0 ≤ k) : (a + b) * (k : EReal) = a * k + b * k :=
  EReal.right_distrib_of_nonneg_of_ne_top (EReal.coe_nonneg.mpr hk) (EReal.coe_ne_top k) a b

theorem two_rpow (x : ℝ) : Real.rpow 2 (x * (Real.log 2)⁻¹) = Real.exp x := by
  have h : Real.log 2 ≠ 0 := (Real.log_pos (by norm_num)).ne'
  show (2 : ℝ) ^ (x * (Real.log 2)⁻¹) = _
  rw [Real.rpow_def_of_pos (by norm_num)]
  congr 1
  field_simp

variable {n : ℕ} (ok : Fin n → Prop) [DecidablePred ok] (T : Fin n → ℝ) (N : ℝ)

/-- The largest of the scores and the new one is a real. -/
theorem top_real : ∃ M : ℝ, max (Finset.univ.sup fun s => masked (ok s) (T s)) (N : EReal) = (M : EReal) ∧ (∀ s, ok s → T s ≤ M) ∧ N ≤ M := by
  have hb : max (Finset.univ.sup fun s => masked (ok s) (T s)) (N : EReal) ≠ ⊥ :=
    fun h => EReal.coe_ne_bot N (le_bot_iff.mp (h ▸ le_max_right _ _))
  have ht : max (Finset.univ.sup fun s => masked (ok s) (T s)) (N : EReal) ≠ ⊤ := by
    refine (max_lt ?_ (EReal.coe_lt_top N)).ne
    rw [Finset.sup_lt_iff (by exact bot_lt_top)]
    intro s _
    unfold masked
    split
    · exact EReal.coe_lt_top _
    · exact bot_lt_top
  refine ⟨_, (EReal.coe_toReal ht hb).symm, fun s hs => ?_, ?_⟩
  · have h1 : masked (ok s) (T s) ≤ max (Finset.univ.sup fun s => masked (ok s) (T s)) (N : EReal) :=
      le_trans (Finset.le_sup (f := fun s => masked (ok s) (T s)) (Finset.mem_univ s)) (le_max_left _ _)
    rw [← EReal.coe_toReal ht hb, masked, if_pos hs] at h1
    exact EReal.coe_le_coe_iff.mp h1
  · have h1 : (N : EReal) ≤ max (Finset.univ.sup fun s => masked (ok s) (T s)) (N : EReal) := le_max_right _ _
    rw [← EReal.coe_toReal ht hb] at h1
    exact EReal.coe_le_coe_iff.mp h1

/-- The exponential of a score's distance from the largest. -/
def ev (o : Prop) [Decidable o] (σ M t : ℝ) : ℝ := if o then Real.exp (t * σ - M * σ) else 0

theorem exp2_masked (o : Prop) [Decidable o] (σ M t : ℝ) :
    Ideal.exp2 ((masked o t - (M : EReal)) * ((σ * (Real.log 2)⁻¹ : ℝ) : EReal)) = ((ev o σ M t : ℝ) : EReal) ∨ σ ≤ 0 := by
  by_cases hσ : 0 < σ
  · left
    have hk : 0 < σ * (Real.log 2)⁻¹ := mul_pos hσ (inv_pos.mpr (Real.log_pos (by norm_num)))
    unfold masked ev
    split
    · rw [← EReal.coe_sub, ← EReal.coe_mul, Ideal.exp2_coe, ← mul_assoc, two_rpow, sub_mul]
    · rw [EReal.bot_sub, EReal.bot_mul_coe_of_pos hk, Ideal.exp2_bot]; rfl
  · right; exact not_lt.mp hσ

theorem exp_masked (o : Prop) [Decidable o] (σ M t : ℝ) :
    Ideal.exp ((if o then ((t * σ : ℝ) : EReal) else ⊥) - ((M * σ : ℝ) : EReal)) = ((ev o σ M t : ℝ) : EReal) := by
  unfold ev
  split
  · rw [← EReal.coe_sub, Ideal.exp_coe]
  · rw [EReal.bot_sub, Ideal.exp_bot]; rfl

/-- The largest scaled score is the largest score, scaled. -/
theorem top_scaled (σ : ℝ) (hσ : 0 < σ) (M : ℝ) (hM : max (Finset.univ.sup fun s => masked (ok s) (T s)) (N : EReal) = (M : EReal)) :
    max (Finset.univ.sup fun s => (if ok s then ((T s * σ : ℝ) : EReal) else ⊥)) ((N * σ : ℝ) : EReal) = ((M * σ : ℝ) : EReal) := by
  have hc : ∀ x : EReal, x * (σ : EReal) ≤ M * (σ : EReal) ↔ x ≤ M := by
    intro x
    induction x
    · simp [EReal.bot_mul_coe_of_pos hσ]
    · rw [← EReal.coe_mul, ← EReal.coe_mul, EReal.coe_le_coe_iff, EReal.coe_le_coe_iff, mul_le_mul_iff_left₀ hσ]
    · simp [EReal.top_mul_coe_of_pos hσ, ← EReal.coe_mul]
  have hm : ∀ s, (if ok s then ((T s * σ : ℝ) : EReal) else ⊥) = masked (ok s) (T s) * (σ : EReal) := by
    intro s
    unfold masked
    split
    · rw [EReal.coe_mul]
    · rw [EReal.bot_mul_coe_of_pos hσ]
  have hle : ∀ s, masked (ok s) (T s) ≤ (M : EReal) := fun s => hM ▸ le_trans (Finset.le_sup (f := fun s => masked (ok s) (T s)) (Finset.mem_univ s)) (le_max_left _ _)
  have hN : (N : EReal) ≤ M := hM ▸ le_max_right _ _
  apply le_antisymm
  · refine max_le (Finset.sup_le fun s _ => ?_) ?_
    · rw [hm, EReal.coe_mul]; exact (hc _).mpr (hle s)
    · rw [EReal.coe_mul, EReal.coe_mul]; exact (hc _).mpr hN
  · rcases le_total (Finset.univ.sup fun s => masked (ok s) (T s)) (N : EReal) with h | h
    · rw [max_eq_right h] at hM
      rw [EReal.coe_eq_coe_iff.mp hM]
      exact le_max_right _ _
    · rw [max_eq_left h] at hM
      rcases Finset.eq_empty_or_nonempty (Finset.univ : Finset (Fin n)) with he | hne
      · rw [he, Finset.sup_empty] at hM
        exact absurd hM.symm (EReal.coe_ne_bot M)
      · obtain ⟨s, _, hs⟩ := Finset.exists_mem_eq_sup _ hne fun s => masked (ok s) (T s)
        rw [EReal.coe_mul, ← hM, hs, ← hm]
        exact le_trans (Finset.le_sup (f := fun s => (if ok s then ((T s * σ : ℝ) : EReal) else ⊥)) (Finset.mem_univ s)) (le_max_left _ _)

theorem sum_coe {ι : Type} (S : Finset ι) (f : ι → ℝ) : (∑ s ∈ S, (f s : EReal)) = ((∑ s ∈ S, f s : ℝ) : EReal) := by
  classical
  induction S using Finset.induction_on with
  | empty => simp
  | insert a S ha ih => rw [Finset.sum_insert ha, Finset.sum_insert ha, ih, EReal.coe_add]

theorem sum_mul_real {ι : Type} (S : Finset ι) (f : ι → EReal) (k : ℝ) (hk : 0 ≤ k) : (∑ s ∈ S, f s) * (k : EReal) = ∑ s ∈ S, f s * k := by
  classical
  induction S using Finset.induction_on with
  | empty => simp
  | insert a S ha ih => rw [Finset.sum_insert ha, Finset.sum_insert ha, add_mul_real _ _ _ hk, ih]

/-- THE EQUATION: the weighted sum divided by the sum of the exponentials is the sum weighted with the quotients. -/
theorem div_after (e : Fin n → ℝ) (en : ℝ) (he : ∀ s, 0 ≤ e s) (hn : 0 < en) (w v : Fin n → EReal) (wn vn : EReal) :
    Ideal.div (∑ s, (e s : EReal) * w s * v s + (en : EReal) * wn * vn) (∑ s, (e s : EReal) + (en : EReal))
      = ∑ s, v s * (Ideal.div (e s) (∑ s, (e s : EReal) + (en : EReal)) * w s) + vn * (Ideal.div en (∑ s, (e s : EReal) + (en : EReal)) * wn) := by
  have ht : (∑ s, (e s : EReal) + (en : EReal)) = ((∑ s, e s + en : ℝ) : EReal) := by rw [sum_coe, EReal.coe_add]
  have hp : 0 < ∑ s, e s + en := add_pos_of_nonneg_of_pos (Finset.sum_nonneg fun s _ => he s) hn
  rw [ht, Ideal.div_coe hp.ne', add_mul_real _ _ _ (one_div_pos.mpr hp).le, sum_mul_real _ _ _ (one_div_pos.mpr hp).le]
  congr 1
  · refine Finset.sum_congr rfl fun s _ => ?_
    rw [Ideal.div_coe hp.ne']
    simp only [mul_comm, mul_left_comm, mul_assoc]
  · rw [Ideal.div_coe hp.ne']
    simp only [mul_comm, mul_left_comm, mul_assoc]

theorem ev_nonneg (o : Prop) [Decidable o] (σ M t : ℝ) : 0 ≤ ev o σ M t := by
  unfold ev; split
  · exact (Real.exp_pos _).le
  · exact le_refl 0
theorem ev_pos (σ M t : ℝ) : 0 < ev True σ M t := by
  unfold ev; rw [if_pos trivial]; exact Real.exp_pos _

end Cert.Softmax

end
-- ==== Proof.Attend.lean ====
/- One head of attention, two ways: scores scaled after the largest is taken off, in powers of two, divided at the end;
   and scores scaled first, in powers of e, each divided by the sum. Masked slots count nothing either way. -/
module

public import proofs.«01_k».proof.Proof.Softmax

@[expose] public section
noncomputable section
namespace Cert.Softmax
open Idealize.ShloMosaic

/-- The largest of `n + 1` numbers. -/
theorem fold_max_last {n : ℕ} (S : Fin (n + 1) → EReal) :
    max ⊥ (Finset.fold max ⊥ S Finset.univ) = max (Finset.univ.sup fun s : Fin n => S s.castSucc) (S (Fin.last n)) := by
  have e : Finset.fold max ⊥ S Finset.univ = Finset.univ.sup S := rfl
  rw [e, max_eq_right bot_le]
  refine le_antisymm (Finset.sup_le fun x _ => ?_) (max_le (Finset.sup_le fun s _ => ?_) ?_)
  · induction x using Fin.lastCases with
    | last => exact le_max_right _ _
    | cast s => exact (Finset.le_sup (f := fun s : Fin n => S s.castSucc) (Finset.mem_univ s)).trans (le_max_left _ _)
  · exact Finset.le_sup (f := S) (Finset.mem_univ _)
  · exact Finset.le_sup (f := S) (Finset.mem_univ _)

/-- The two ways give one result. -/
theorem attend {n : ℕ} (ok : Fin n → Prop) [DecidablePred ok] (T : Fin n → ℝ) (N σ : ℝ) (hσ : 0 < σ) (w v : Fin n → EReal) (wn vn : EReal)
    (S : Fin (n + 1) → EReal) (hS : ∀ s : Fin n, S s.castSucc = if ok s then ((T s * σ : ℝ) : EReal) else ⊥) (hL : S (Fin.last n) = ((N * σ : ℝ) : EReal))
    (top Tp kap : EReal) (htop : top = max (Finset.univ.sup fun s => masked (ok s) (T s)) (N : EReal))
    (hTp : Tp = max ⊥ (Finset.fold max ⊥ S Finset.univ)) (hk : kap = ((σ * (Real.log 2)⁻¹ : ℝ) : EReal)) :
    Ideal.div (∑ s, Ideal.exp2 ((masked (ok s) (T s) - top) * kap) * w s * v s + Ideal.exp2 (((N : EReal) - top) * kap) * wn * vn)
        (∑ s, Ideal.exp2 ((masked (ok s) (T s) - top) * kap) + Ideal.exp2 (((N : EReal) - top) * kap))
      = ∑ s : Fin n, v s * (Ideal.div (Ideal.exp (S s.castSucc - Tp)) (∑ x, Ideal.exp (S x - Tp)) * w s)
        + vn * (Ideal.div (Ideal.exp (S (Fin.last n) - Tp)) (∑ x, Ideal.exp (S x - Tp)) * wn) := by
  obtain ⟨M, hM, -, -⟩ := top_real ok T N
  have hT : Tp = ((M * σ : ℝ) : EReal) := by
    rw [hTp, fold_max_last, hL, ← top_scaled ok T N σ hσ M hM]
    simp only [hS]
  have h1 : ∀ s, Ideal.exp2 ((masked (ok s) (T s) - top) * kap) = ((ev (ok s) σ M (T s) : ℝ) : EReal) := fun s => by
    rw [htop, hM, hk]
    exact (exp2_masked (ok s) σ M (T s)).resolve_right (not_le.mpr hσ)
  have h2 : Ideal.exp2 (((N : EReal) - top) * kap) = ((ev True σ M N : ℝ) : EReal) := by
    have := (exp2_masked True σ M N).resolve_right (not_le.mpr hσ)
    rw [htop, hM, hk, ← this]
    unfold masked
    rw [if_pos trivial]
  have h3 : ∀ s : Fin n, Ideal.exp (S s.castSucc - Tp) = ((ev (ok s) σ M (T s) : ℝ) : EReal) := fun s => by
    rw [hS, hT]
    exact exp_masked (ok s) σ M (T s)
  have h4 : Ideal.exp (S (Fin.last n) - Tp) = ((ev True σ M N : ℝ) : EReal) := by
    rw [hL, hT, ← exp_masked True σ M N, if_pos trivial]
  rw [Fin.sum_univ_castSucc]
  simp only [h1, h2, h3, h4]
  exact div_after _ _ (fun s => ev_nonneg _ _ _ _) (ev_pos _ _ _) w v wn vn

/-- A sum of products of real numbers is real. -/
theorem real_sum {ι : Type} [Fintype ι] (a b : ι → EReal) (ha : ∀ x, ∃ r : ℝ, a x = (r : EReal)) (hb : ∀ x, ∃ r : ℝ, b x = (r : EReal)) :
    ∃ t : ℝ, ∑ x, a x * b x = (t : EReal) := by
  choose A hA using ha
  choose B hB using hb
  refine ⟨∑ x, A x * B x, ?_⟩
  rw [← sum_coe]
  refine Finset.sum_congr rfl fun x _ => ?_
  rw [hA, hB, EReal.coe_mul]

/-- A sum over lanes that is zero off one class is the sum over that class. -/
theorem sum_lanes (c : ℕ) (hc : c < 4) (f : Fin 8192 → EReal) (h : ∀ l : Fin 8192, l.val % 4 ≠ c → f l = 0) :
    ∑ l, f l = ∑ s : Fin 2048, f ⟨4 * s.val + c, by omega⟩ := by
  symm
  refine Fintype.sum_of_injective (fun s : Fin 2048 => (⟨4 * s.val + c, by omega⟩ : Fin 8192)) (fun a b e => ?_) _ _ (fun l hl => h l fun e => hl ?_) (fun s => rfl)
  · have := Fin.mk.inj e
    exact Fin.ext (by omega)
  · exact ⟨⟨l.val / 4, by omega⟩, Fin.ext (by show 4 * (l.val / 4) + c = l.val; omega)⟩

/-- The same for the largest. -/
theorem sup_lanes (c : ℕ) (hc : c < 4) (f : Fin 8192 → EReal) (h : ∀ l : Fin 8192, l.val % 4 ≠ c → f l = ⊥) :
    Finset.univ.sup f = Finset.univ.sup fun s : Fin 2048 => f ⟨4 * s.val + c, by omega⟩ := by
  refine le_antisymm (Finset.sup_le fun l _ => ?_) (Finset.sup_le fun s _ => Finset.le_sup (f := f) (Finset.mem_univ _))
  by_cases e : l.val % 4 = c
  · have hl : l = ⟨4 * (⟨l.val / 4, by omega⟩ : Fin 2048).val + c, by show 4 * (l.val / 4) + c < 8192; omega⟩ := Fin.ext (by show l.val = 4 * (l.val / 4) + c; omega)
    rw [hl]
    exact Finset.le_sup (f := fun s : Fin 2048 => f ⟨4 * s.val + c, by omega⟩) (Finset.mem_univ (⟨l.val / 4, by omega⟩ : Fin 2048))
  · rw [h l e]; exact bot_le

end Cert.Softmax

end
-- ==== Proof.Ideal.Lanes.lean ====
/- The body's result of a row with the lanes of other heads, which count nothing, left out of the sums. -/
module

public import proofs.«01_k».proof.Proof.Ideal.Core
public import proofs.«01_k».proof.Proof.Attend

@[expose] public section
noncomputable section
namespace Cert.KernelIdeal.Gen
open Idealize.ShloMosaic Cert.Softmax

/-- The factor between a score and a power of `e`. -/
def sig0 : ℝ := (Real.sqrt 128)⁻¹

theorem sig0_pos : 0 < sig0 := inv_pos.mpr (Real.sqrt_pos.mpr (by norm_num))

theorem kap_coe : kap = ((sig0 * (Real.log 2)⁻¹ : ℝ) : EReal) := rfl

variable (p : BitVec 32) (x1 : Vec Ideal S1x128x128 .bf16) (x2 : Vec Ideal S1x16x128 .bf16) (x3 : Vec Ideal S1x16x128 .i8) (x4 : Vec Ideal S1x16x1 .f32)
  (x5 : Vec Ideal S1x1024x128 .f32) (x6 : Vec Ideal S1x16x2048 .f32) (KR VR : IVec S32768x128 8) (r d : Fin 128) (T : Fin 2048 → ℝ) (N : ℝ)

/-- The lane of slot `s` for a row. -/
abbrev laneOf (s : Fin 2048) : Fin 8192 := ⟨4 * s.val + r.val / 8 % 4, by omega⟩

theorem score_lane (hT : ∀ s : Fin 2048, ∑ x : Fin 128, x1 (ix3 0 r x) * keyV x5 KR r (laneOf r s) x = ((T s : ℝ) : EReal)) (s : Fin 2048) :
    scoreV p x1 x5 KR r (laneOf r s) = masked (okSlot p s.val = 1#1) (T s) := by
  unfold scoreV masked biasV
  rw [hT]
  show _ + (if okSlot p ((4 * s.val + r.val / 8 % 4) / 4) = 1#1 ∧ (4 * s.val + r.val / 8 % 4) % 4 = r.val / 8 % 4 then (0 : EReal) else ⊥) = _
  rw [show (4 * s.val + r.val / 8 % 4) / 4 = s.val by omega]
  by_cases h : okSlot p s.val = 1#1
  · rw [if_pos ⟨h, by omega⟩, if_pos h, add_zero]
  · rw [if_neg (fun e => h e.1), if_neg h, EReal.add_bot]

theorem score_off (l : Fin 8192) (h : l.val % 4 ≠ r.val / 8 % 4) : scoreV p x1 x5 KR r l = ⊥ := by
  unfold scoreV biasV
  rw [if_neg (fun e => h e.2), EReal.add_bot]

theorem top_lanes (hT : ∀ s : Fin 2048, ∑ x : Fin 128, x1 (ix3 0 r x) * keyV x5 KR r (laneOf r s) x = ((T s : ℝ) : EReal)) (hN : newV x1 x2 r = (N : EReal)) :
    topV p x1 x2 x5 KR r = max (Finset.univ.sup fun s : Fin 2048 => masked (okSlot p s.val = 1#1) (T s)) (N : EReal) := by
  unfold topV
  rw [hN, Softmax.sup_lanes (r.val / 8 % 4) (by omega) _ (score_off p x1 x5 KR r)]
  congr 2
  exact funext fun s => score_lane p x1 x5 KR r T hT s

theorem expo_off (hT : ∀ s : Fin 2048, ∑ x : Fin 128, x1 (ix3 0 r x) * keyV x5 KR r (laneOf r s) x = ((T s : ℝ) : EReal)) (hN : newV x1 x2 r = (N : EReal))
    (l : Fin 8192) (h : l.val % 4 ≠ r.val / 8 % 4) : expoV p x1 x2 x5 KR r l = 0 := by
  unfold expoV
  obtain ⟨M, hM, -, -⟩ := top_real (fun s : Fin 2048 => okSlot p s.val = 1#1) T N
  rw [score_off p x1 x5 KR r l h, top_lanes p x1 x2 x5 KR r T N hT hN, hM, kap_coe]
  have e := (exp2_masked False sig0 M 0).resolve_right (not_le.mpr sig0_pos)
  unfold masked ev at e
  rw [if_neg not_false, if_neg not_false] at e
  exact e

/-- The result of a row as one head's attention over the slots. -/
theorem outV_eq (hT : ∀ s : Fin 2048, ∑ x : Fin 128, x1 (ix3 0 r x) * keyV x5 KR r (laneOf r s) x = ((T s : ℝ) : EReal)) (hN : newV x1 x2 r = (N : EReal)) :
    outV p x1 x2 x3 x4 x5 x6 KR VR r d
      = Ideal.div (∑ s : Fin 2048, Ideal.exp2 ((masked (okSlot p s.val = 1#1) (T s) - topV p x1 x2 x5 KR r) * kap) * x6 (ix3 0 (⟨r.val / 8, by omega⟩ : Fin 16) s)
              * codeV (VR (ix2 (⟨16 * s.val + r.val / 8, by omega⟩ : Fin 32768) d))
            + Ideal.exp2 (((N : EReal) - topV p x1 x2 x5 KR r) * kap) * x4 (ix3 0 (⟨r.val / 8, by omega⟩ : Fin 16) 0) * codeV (x3 (ix3 0 (⟨r.val / 8, by omega⟩ : Fin 16) d)))
          (∑ s : Fin 2048, Ideal.exp2 ((masked (okSlot p s.val = 1#1) (T s) - topV p x1 x2 x5 KR r) * kap) + Ideal.exp2 (((N : EReal) - topV p x1 x2 x5 KR r) * kap)) := by
  have ho := expo_off p x1 x2 x5 KR r T N hT hN
  have hl : ∀ s, expoV p x1 x2 x5 KR r (laneOf r s) = Ideal.exp2 ((masked (okSlot p s.val = 1#1) (T s) - topV p x1 x2 x5 KR r) * kap) := fun s => by
    unfold expoV
    rw [score_lane p x1 x5 KR r T hT s]
  have hn : expoNewV p x1 x2 x5 KR r = Ideal.exp2 (((N : EReal) - topV p x1 x2 x5 KR r) * kap) := by
    unfold expoNewV
    rw [hN]
  have h1 : (∑ l, expoV p x1 x2 x5 KR r l) = ∑ s : Fin 2048, Ideal.exp2 ((masked (okSlot p s.val = 1#1) (T s) - topV p x1 x2 x5 KR r) * kap) := by
    rw [Softmax.sum_lanes (r.val / 8 % 4) (by omega) _ ho]
    exact Finset.sum_congr rfl fun s _ => hl s
  have h2 : (∑ l, partV p x1 x2 x5 x6 KR VR r d l) = ∑ s : Fin 2048, Ideal.exp2 ((masked (okSlot p s.val = 1#1) (T s) - topV p x1 x2 x5 KR r) * kap) * x6 (ix3 0 (⟨r.val / 8, by omega⟩ : Fin 16) s)
              * codeV (VR (ix2 (⟨16 * s.val + r.val / 8, by omega⟩ : Fin 32768) d)) := by
    rw [Softmax.sum_lanes (r.val / 8 % 4) (by omega) (partV p x1 x2 x5 x6 KR VR r d) fun l h => by unfold partV; rw [ho l h, zero_mul, zero_mul]]
    refine Finset.sum_congr rfl fun s _ => ?_
    unfold partV
    rw [hl s]
    refine congrArg₂ (· * ·) (congrArg₂ (· * ·) rfl (congrArg (fun k => x6 (ix3 0 (⟨r.val / 8, by omega⟩ : Fin 16) k)) (Fin.ext ?_))) (congrArg (fun k => codeV (VR (ix2 k d))) (Fin.ext ?_))
    · show (4 * s.val + r.val / 8 % 4) / 4 = s.val
      omega
    · show 16 * ((4 * s.val + r.val / 8 % 4) / 4) + 4 * (r.val / 32) + (4 * s.val + r.val / 8 % 4) % 4 = 16 * s.val + r.val / 8
      omega
  unfold outV
  rw [h1, h2, hn]

end Cert.KernelIdeal.Gen

end
-- ==== Proof.RefStages.lean ====
/- The reference's result as a composition of named stages, each with its value at an index. -/
module

public import proofs.«01_k».proof.Proof.Gen.ReferenceIdeal.Run
public import Idealize.ShloMosaic.Lib.Pointwise
public import Idealize.ShloMosaic.Lib.IdealHost
public import Idealize.ShloMosaic.PureOps.Ideal.Laws

@[expose] public section
noncomputable section
namespace Cert.ReferenceIdeal.Stage
open Cert.ReferenceIdeal Cert.ReferenceIdeal.Gen Idealize.ShloMosaic Idealize.ShloMosaic.TcCoe Idealize.ShloMosaic.StableHlo

set_option maxRecDepth 8192

/-- The ring size as the remainder takes it. -/
def window : IVec S_ 32 :=
  select (cmpi .eq (id (constantI S_ 32 2048#32)) (constantI S_ 32 0#32)) (constantI S_ 32 1#32) (id (constantI S_ 32 2048#32))

/-- Whether the new key is attended to (always). -/
def okNew : IVec S64x16x8x1x1 1 :=
  broadcastInDim S64x16x8x1x1 ![3, 4] bcast_S1x1_S64x16x8x1x1_3_4 (cmpi .sge (broadcastInDim S1x1 ![0] bcast_S1_S1x1_0 (iotaInDim S1 32 0)) (broadcastInDim S1x1 ![1] bcast_S1_S1x1_1 (iotaInDim S1 32 0)))

/-- The scale of the scores, one over the square root of the head dimension. -/
def smScale : FVec Ideal S_ .f32 :=
  Host.divf (constant S_ .f32 0x3F800000#32) (Host.sqrt (constant S_ .f32 0x43000000#32))

/-- The position before the new one. -/
def posPrev (arg0 : IVec S64 32) : IVec S64x2048 32 :=
  broadcastInDim S64x2048 ![0, 1] bcast_S64x1_S64x2048_0_1 (subi (broadcastInDim S64x1 ![0] bcast_S64_S64x1_0 arg0) (broadcastInDim S64x1 ![] bcast_S_S64x1 (constantI S_ 32 1#32)))

/-- The signed remainder of the position before minus the slot. -/
def remw (arg0 : IVec S64 32) : IVec S64x2048 32 :=
  Host.remsi (subi (posPrev arg0) (broadcastInDim S64x2048 ![0, 1] bcast_S1x2048_S64x2048_0_1 (broadcastInDim S1x2048 ![1] bcast_S2048_S1x2048_1 (iotaInDim S2048 32 0)))) (broadcastInDim S64x2048 ![] bcast_S_S64x2048 (window))

/-- The keys: codes times scales. -/
def keys (arg5 : IVec S64x2048x16x128 8) (arg6 : FVec Ideal S64x2048x16x4 .f32) : FVec Ideal S64x2048x16x128 .bf16 :=
  shapeCast _ (mulf (shapeCast _ (truncf .bf16 (sitofp .f32 (extsi 32 arg5 natLt_8_32)) bitsLt_bf16_f32) shapeCasts_S64x2048x16x128_S64x2048x16x4x32) (broadcastInDim S64x2048x16x4x32 ![0, 1, 2, 3, 4] bcast_S64x2048x16x4x1_S64x2048x16x4x32_0_1_2_3_4 (broadcastInDim S64x2048x16x4x1 ![0, 1, 2, 3] bcast_S64x2048x16x4_S64x2048x16x4x1_0_1_2_3 (truncf .bf16 arg6 bitsLt_bf16_f32)))) shapeCasts_S64x2048x16x4x32_S64x2048x16x128

/-- The remainder brought to the sign of the ring size. -/
def modw (arg0 : IVec S64 32) : IVec S64x2048 32 :=
  select (andi (cmpi .ne (cmpi .slt (remw arg0) (broadcastInDim S64x2048 ![] bcast_S_S64x2048 (constantI S_ 32 0#32))) (broadcastInDim S64x2048 ![] bcast_S_S64x2048 (cmpi .slt (window) (constantI S_ 32 0#32)))) (cmpi .ne (remw arg0) (broadcastInDim S64x2048 ![] bcast_S_S64x2048 (constantI S_ 32 0#32)))) (addi (remw arg0) (broadcastInDim S64x2048 ![] bcast_S_S64x2048 (window))) (remw arg0)

/-- The position that a slot holds. -/
def slotPos (arg0 : IVec S64 32) : IVec S64x1x2048 32 :=
  broadcastInDim S64x1x2048 ![0, 2] bcast_S64x2048_S64x1x2048_0_2 (subi (posPrev arg0) (modw arg0))

/-- Whether a slot is attended to. -/
def okCache (arg0 : IVec S64 32) : IVec S64x16x8x1x2048 1 :=
  broadcastInDim S64x16x8x1x2048 ![0, 1, 2, 3, 4] bcast_S64x1x1x1x2048_S64x16x8x1x2048_0_1_2_3_4 (broadcastInDim S64x1x1x1x2048 ![0, 3, 4] bcast_S64x1x2048_S64x1x1x1x2048_0_3_4 (andi (cmpi .sge (slotPos arg0) (broadcastInDim S64x1x2048 ![] bcast_S_S64x1x2048 (constantI S_ 32 0#32))) (cmpi .sgt (slotPos arg0) (broadcastInDim S64x1x2048 ![0, 1, 2] bcast_S64x1x1_S64x1x2048_0_1_2 (subi (broadcastInDim S64x1x1 ![0, 1] bcast_S64x1_S64x1x1_0_1 (addi (broadcastInDim S64x1 ![0] bcast_S64_S64x1_0 arg0) (broadcastInDim S64x1 ![0, 1] bcast_S1x1_S64x1_0_1 (broadcastInDim S1x1 ![1] bcast_S1_S1x1_1 (iotaInDim S1 32 0))))) (broadcastInDim S64x1x1 ![] bcast_S_S64x1x1 (constantI S_ 32 2048#32)))))))

/-- The scaled score of the new key. -/
def scoreNew (arg1 : FVec Ideal S64x1x128x128 .bf16) (arg2 : FVec Ideal S64x1x16x128 .bf16) : FVec Ideal S64x16x8x1x1 .f32 :=
  mulf (transpose S64x16x8x1x1 [0, 1, 4, 3, 2] (Host.dotGeneral dot_S64x1x16x128_S64x1x16x8x128_S64x16x1x1x8_3_4_1_13_02_02 none arg2 (shapeCast _ arg1 shapeCasts_S64x1x128x128_S64x1x16x8x128)) transposes_S64x16x1x1x8_S64x16x8x1x1_0_1_4_3_2) (broadcastInDim S64x16x8x1x1 ![] bcast_S_S64x16x8x1x1 (smScale))

/-- The scores of the slots, not scaled. -/
def scoreRaw (arg1 : FVec Ideal S64x1x128x128 .bf16) (arg5 : IVec S64x2048x16x128 8) (arg6 : FVec Ideal S64x2048x16x4 .f32) : FVec Ideal S64x16x8x1x2048 .f32 :=
  transpose S64x16x8x1x2048 [0, 1, 4, 3, 2] (Host.dotGeneral dot_S64x2048x16x128_S64x1x16x8x128_S64x16x2048x1x8_3_4_1_13_02_02 none (keys arg5 arg6) (shapeCast _ arg1 shapeCasts_S64x1x128x128_S64x1x16x8x128)) transposes_S64x16x2048x1x8_S64x16x8x1x2048_0_1_4_3_2

/-- The masked scores, the new one last. -/
def scores (arg0 : IVec S64 32) (arg1 : FVec Ideal S64x1x128x128 .bf16) (arg2 : FVec Ideal S64x1x16x128 .bf16) (arg5 : IVec S64x2048x16x128 8) (arg6 : FVec Ideal S64x2048x16x4 .f32) : FVec Ideal S64x16x8x1x2049 .f32 :=
  concatenate S64x16x8x1x2049 4 [⟨S64x16x8x1x2048, (select (okCache arg0) (mulf (scoreRaw arg1 arg5 arg6) (broadcastInDim S64x16x8x1x2048 ![] bcast_S_S64x16x8x1x2048 (smScale))) (broadcastInDim S64x16x8x1x2048 ![] bcast_S_S64x16x8x1x2048 (id (constant S_ .f32 0xFF800000#32))))⟩, ⟨S64x16x8x1x1, (select (okNew) (scoreNew arg1 arg2) (broadcastInDim S64x16x8x1x1 ![] bcast_S_S64x16x8x1x1 (id (constant S_ .f32 0xFF800000#32))))⟩] concatenates_S64x16x8x1x2048_S64x16x8x1x1_S64x16x8x1x2049_d4

/-- The largest score of a head. -/
def top (arg0 : IVec S64 32) (arg1 : FVec Ideal S64x1x128x128 .bf16) (arg2 : FVec Ideal S64x1x16x128 .bf16) (arg5 : IVec S64x2048x16x128 8) (arg6 : FVec Ideal S64x2048x16x4 .f32) : FVec Ideal S64x16x8x1x1 .f32 :=
  broadcastInDim S64x16x8x1x1 ![0, 1, 2, 3] bcast_S64x16x8x1_S64x16x8x1x1_0_1_2_3 (maximumf (broadcastInDim S64x16x8x1 ![] bcast_S_S64x16x8x1 (constant S_ .f32 0xFF800000#32)) (Host.reduce FloatOps.maximumf (scores arg0 arg1 arg2 arg5 arg6) (constant S_ .f32 0xFF800000#32) reducesTo_S64x16x8x1x2049_S64x16x8x1_d4 h_S_))

/-- The sum of the exponentials of a head. -/
def total (arg0 : IVec S64 32) (arg1 : FVec Ideal S64x1x128x128 .bf16) (arg2 : FVec Ideal S64x1x16x128 .bf16) (arg5 : IVec S64x2048x16x128 8) (arg6 : FVec Ideal S64x2048x16x4 .f32) : FVec Ideal S64x16x8x1 .f32 :=
  Host.reduceAdd (Host.exp (subf (scores arg0 arg1 arg2 arg5 arg6) (broadcastInDim S64x16x8x1x2049 ![0, 1, 2, 3, 4] bcast_S64x16x8x1x1_S64x16x8x1x2049_0_1_2_3_4 (top arg0 arg1 arg2 arg5 arg6)))) (constant S_ .f32 0x00000000#32) reducesTo_S64x16x8x1x2049_S64x16x8x1_d4 h_S_

/-- The exponentials. -/
def expo (arg0 : IVec S64 32) (arg1 : FVec Ideal S64x1x128x128 .bf16) (arg2 : FVec Ideal S64x1x16x128 .bf16) (arg5 : IVec S64x2048x16x128 8) (arg6 : FVec Ideal S64x2048x16x4 .f32) : FVec Ideal S64x16x8x1x2049 .f32 :=
  Host.exp (subf (scores arg0 arg1 arg2 arg5 arg6) (broadcastInDim S64x16x8x1x2049 ![0, 1, 2, 3, 4] bcast_S64x16x8x1x1_S64x16x8x1x2049_0_1_2_3_4 (top arg0 arg1 arg2 arg5 arg6)))

/-- The result. -/
def result (arg0 : IVec S64 32) (arg1 : FVec Ideal S64x1x128x128 .bf16) (arg2 : FVec Ideal S64x1x16x128 .bf16) (arg3 : IVec S64x1x16x128 8) (arg4 : FVec Ideal S64x1x16 .f32) (arg5 : IVec S64x2048x16x128 8) (arg6 : FVec Ideal S64x2048x16x4 .f32) (arg7 : IVec S64x2048x16x128 8) (arg8 : FVec Ideal S64x2048x16 .f32) : FVec Ideal S64x128x128 .bf16 :=
  truncf .bf16 (shapeCast _ (addf (transpose S64x1x16x8x128 [0, 4, 1, 3, 2] (Host.dotGeneral dot_S64x2048x16x128_S64x16x8x1x2048_S64x16x128x8x1_1_4_3_23_02_01 none (truncf .bf16 (sitofp .f32 (extsi 32 arg7 natLt_8_32)) bitsLt_bf16_f32) (truncf .bf16 (mulf (extractStridedSlice S64x16x8x1x2048 ![0, 0, 0, 0, 0] (Host.divf (expo arg0 arg1 arg2 arg5 arg6) (broadcastInDim S64x16x8x1x2049 ![0, 1, 2, 3, 4] bcast_S64x16x8x1x1_S64x16x8x1x2049_0_1_2_3_4 (broadcastInDim S64x16x8x1x1 ![0, 1, 2, 3] bcast_S64x16x8x1_S64x16x8x1x1_0_1_2_3 (total arg0 arg1 arg2 arg5 arg6)))) slices_S64x16x8x1x2049_S64x16x8x1x2048_0_0_0_0_0) (broadcastInDim S64x16x8x1x2048 ![0, 1, 2, 3, 4] bcast_S64x16x1x1x2048_S64x16x8x1x2048_0_1_2_3_4 (broadcastInDim S64x16x1x1x2048 ![0, 1, 4] bcast_S64x16x2048_S64x16x1x1x2048_0_1_4 (transpose S64x16x2048 [0, 2, 1] arg8 transposes_S64x2048x16_S64x16x2048_0_2_1)))) bitsLt_bf16_f32)) transposes_S64x16x128x8x1_S64x1x16x8x128_0_4_1_3_2) (transpose S64x1x16x8x128 [0, 4, 1, 3, 2] (Host.dotGeneral dot_S64x1x16x128_S64x16x8x1x1_S64x16x128x8x1_1_4_3_23_02_01 none (truncf .bf16 (sitofp .f32 (extsi 32 arg3 natLt_8_32)) bitsLt_bf16_f32) (truncf .bf16 (mulf (extractStridedSlice S64x16x8x1x1 ![0, 0, 0, 0, 2048] (Host.divf (expo arg0 arg1 arg2 arg5 arg6) (broadcastInDim S64x16x8x1x2049 ![0, 1, 2, 3, 4] bcast_S64x16x8x1x1_S64x16x8x1x2049_0_1_2_3_4 (broadcastInDim S64x16x8x1x1 ![0, 1, 2, 3] bcast_S64x16x8x1_S64x16x8x1x1_0_1_2_3 (total arg0 arg1 arg2 arg5 arg6)))) slices_S64x16x8x1x2049_S64x16x8x1x1_0_0_0_0_2048) (broadcastInDim S64x16x8x1x1 ![0, 1, 2, 3, 4] bcast_S64x16x1x1x1_S64x16x8x1x1_0_1_2_3_4 (broadcastInDim S64x16x1x1x1 ![0, 1, 4] bcast_S64x16x1_S64x16x1x1x1_0_1_4 (transpose S64x16x1 [0, 2, 1] arg4 transposes_S64x1x16_S64x16x1_0_2_1)))) bitsLt_bf16_f32)) transposes_S64x16x128x8x1_S64x1x16x8x128_0_4_1_3_2)) shapeCasts_S64x1x16x8x128_S64x128x128) bitsLt_bf16_f32

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Value.res_out0 Value.res_main_v93
  rfl

end Cert.ReferenceIdeal.Stage

end
-- ==== Proof.Words.lean ====
/- A word modulo the ring size, taken as a signed remainder brought to the sign of the ring size, is its low bits. -/
module

public import Idealize.ShloMosaic.PureOps.Ideal
public import Idealize.ShloMosaic.Lib.Affine

@[expose] public section
noncomputable section
namespace Cert.Words
open Idealize.ShloMosaic

theorem low_toInt (x : BitVec 32) : (x &&& 2047#32).toInt = x.toInt % 2048 := by
  have hn : (x &&& 2047#32).toNat = x.toNat % 2048 := by
    rw [BitVec.toNat_and]
    exact Nat.and_two_pow_sub_one_eq_mod x.toNat 11
  rw [BitVec.toInt_eq_toNat_cond, BitVec.toInt_eq_toNat_cond, hn]
  have := x.isLt
  split <;> split <;> omega

theorem neg_iff (r : BitVec 32) : IntOp.andi (IntOp.cmpi .ne (IntOp.cmpi .slt r 0#32) (IntOp.cmpi .slt 2048#32 0#32)) (IntOp.cmpi .ne r 0#32) = 1 ↔ r.toInt < 0 := by
  rw [show IntOp.cmpi .slt 2048#32 0#32 = 0#1 from by decide]
  unfold IntOp.andi IntOp.cmpi
  by_cases h : r.toInt < 0
  · have h1 : r.slt 0#32 = true := by rw [BitVec.slt_eq_decide]; simpa using h
    have h2 : (r != 0#32) = true := by
      rw [bne_iff_ne]; rintro rfl; exact absurd h (by decide)
    simp only [h1, h2, h, iff_true]
    decide
  · have h1 : r.slt 0#32 = false := by rw [BitVec.slt_eq_decide]; simpa using h
    simp only [h1, h, iff_false]
    cases (r != 0#32) <;> decide

theorem mod_word (x : BitVec 32) :
    Scalar.select (IntOp.andi (IntOp.cmpi .ne (IntOp.cmpi .slt (IntOp.remsi .host x 2048#32) 0#32) (IntOp.cmpi .slt 2048#32 0#32)) (IntOp.cmpi .ne (IntOp.remsi .host x 2048#32) 0#32))
      (IntOp.addi (IntOp.remsi .host x 2048#32) 2048#32) (IntOp.remsi .host x 2048#32) = x &&& 2047#32 := by
  rw [IntOp.remsi_of_pos .host (by decide)]
  have hr : (x.srem 2048#32).toInt = x.toInt.tmod 2048 := BitVec.toInt_srem x 2048#32
  have hl := low_toInt x
  have ht : x.toInt.tmod 2048 = x.toInt % 2048 ∨ x.toInt.tmod 2048 = x.toInt % 2048 - 2048 ∧ ¬ (x.toInt % 2048 = 0) := by
    rw [Int.tmod_eq_emod]
    split
    · left; omega
    · rename_i h
      right
      constructor
      · rfl
      · intro h0
        exact h (Or.inr (Int.dvd_of_emod_eq_zero h0))
  unfold Scalar.select IntOp.addi
  simp only [neg_iff]
  apply BitVec.eq_of_toInt_eq
  rw [hl]
  split
  · rename_i h
    rw [BitVec.toInt_add, hr]
    rw [hr] at h
    rw [show (2048#32 : BitVec 32).toInt = 2048 from by decide]
    rw [show x.toInt.tmod 2048 + 2048 = x.toInt % 2048 from by omega]
    rw [Int.bmod_eq_of_le] <;> omega
  · rename_i h
    rw [hr] at h ⊢
    omega

end Cert.Words

end
-- ==== Proof.Ref.lean ====
/- The stages of the reference at an index: scores, the largest, the exponentials, their sum, the result. -/
module

public import proofs.«01_k».proof.Proof.RefStages
public import proofs.«01_k».proof.Proof.Words

@[expose] public section
noncomputable section
namespace Cert.ReferenceIdeal.Stage
open Cert.ReferenceIdeal Cert.ReferenceIdeal.Gen Idealize.ShloMosaic Idealize.ShloMosaic.TcCoe

set_option maxRecDepth 8192

/-- A code as a number. -/
def code (b : BitVec 8) : EReal := FloatOps.sitofp (F := Ideal) FTy.f32 (BitVec.signExtend 32 b)

/-- Whether slot `s` is attended to from position `p`. -/
def okAt (p : BitVec 32) (s : ℕ) : BitVec 1 :=
  IntOp.andi (IntOp.cmpi .sge ((p - 1#32) - ((p - 1#32 - BitVec.ofNat 32 s) &&& 2047#32)) 0#32)
    (IntOp.cmpi .sgt ((p - 1#32) - ((p - 1#32 - BitVec.ofNat 32 s) &&& 2047#32)) (p - 2048#32))

theorem keys_at (arg5 : IVec S64x2048x16x128 8) (arg6 : FVec Ideal S64x2048x16x4 .f32) (b : Fin 64) (s : Fin 2048) (h : Fin 16) (d : Fin 128) :
    keys arg5 arg6 (ix4 b s h d) = code (arg5 (ix4 b s h d)) * arg6 (ix4 b s h (⟨d.val / 32, by omega⟩ : Fin 4)) := by
  unfold keys
  pointwise
  rfl

theorem raw_at (arg1 : FVec Ideal S64x1x128x128 .bf16) (arg5 : IVec S64x2048x16x128 8) (arg6 : FVec Ideal S64x2048x16x4 .f32) (b : Fin 64) (h : Fin 16) (g : Fin 8) (s : Fin 2048) :
    scoreRaw arg1 arg5 arg6 (ix5 b h g 0 s) = ∑ x : Fin 128, keys arg5 arg6 (ix4 b s h x) * arg1 (ix4 b 0 (⟨h.val * 8 + g.val, by omega⟩ : Fin 128) x) := by
  unfold scoreRaw
  pointwise

theorem scale_at : smScale ix0 = Ideal.div 1 (Ideal.sqrt (Ideal.ofBits FTy.f32 0x43000000#32)) := by
  unfold smScale
  pointwise

theorem new_at (arg1 : FVec Ideal S64x1x128x128 .bf16) (arg2 : FVec Ideal S64x1x16x128 .bf16) (b : Fin 64) (h : Fin 16) (g : Fin 8) :
    scoreNew arg1 arg2 (ix5 b h g 0 0) = (∑ x : Fin 128, arg2 (ix4 b 0 h x) * arg1 (ix4 b 0 (⟨h.val * 8 + g.val, by omega⟩ : Fin 128) x)) * smScale ix0 := by
  unfold scoreNew
  pointwise

theorem ok_at (arg0 : IVec S64 32) (b : Fin 64) (h : Fin 16) (g : Fin 8) (s : Fin 2048) :
    okCache arg0 (ix5 b h g 0 s) = okAt (arg0 (ix1 b)) s.val := by
  unfold okCache slotPos modw remw posPrev window
  pointwise
  rw [show (Scalar.select (IntOp.cmpi CmpIPredicate.eq (id (constantI S_ 32 2048#32) ix0) 0#32) (1#32) (id (constantI S_ 32 2048#32) ix0)) = 2048#32 from by decide]
  rw [Words.mod_word]
  unfold okAt IntOp.subi IntOp.addi
  rw [BitVec.add_zero]

theorem cached_at (arg0 : IVec S64 32) (arg1 : FVec Ideal S64x1x128x128 .bf16) (arg2 : FVec Ideal S64x1x16x128 .bf16) (arg5 : IVec S64x2048x16x128 8) (arg6 : FVec Ideal S64x2048x16x4 .f32) (b : Fin 64) (h : Fin 16) (g : Fin 8) (s : Fin 2048) :
    scores arg0 arg1 arg2 arg5 arg6 (ix5 b h g 0 (⟨s.val, by omega⟩ : Fin 2049))
      = Scalar.select (okAt (arg0 (ix1 b)) s.val) (scoreRaw arg1 arg5 arg6 (ix5 b h g 0 s) * smScale ix0) (Ideal.ofBits FTy.f32 0xFF800000#32) := by
  unfold scores okNew
  pointwise
  rw [ok_at]
  rfl

theorem last_at (arg0 : IVec S64 32) (arg1 : FVec Ideal S64x1x128x128 .bf16) (arg2 : FVec Ideal S64x1x16x128 .bf16) (arg5 : IVec S64x2048x16x128 8) (arg6 : FVec Ideal S64x2048x16x4 .f32) (b : Fin 64) (h : Fin 16) (g : Fin 8) :
    scores arg0 arg1 arg2 arg5 arg6 (ix5 b h g 0 (⟨2048, by omega⟩ : Fin 2049)) = scoreNew arg1 arg2 (ix5 b h g 0 0) := by
  unfold scores okNew
  pointwise
  rfl

/-- The largest along the last axis. -/
theorem max_at (Z : FVec Ideal S64x16x8x1x2049 .f32) (b : Fin 64) (h : Fin 16) (g : Fin 8) :
    (Host.reduce FloatOps.maximumf Z (constant S_ .f32 0xFF800000#32) reducesTo_S64x16x8x1x2049_S64x16x8x1_d4 h_S_) (ix4 b h g 0)
      = Finset.fold max (Ideal.ofBits FTy.f32 0xFF800000#32) (fun x => Z (ix5 b h g 0 x)) Finset.univ := by
  pointwise

/-- The sum along the last axis. -/
theorem add_at (Z : FVec Ideal S64x16x8x1x2049 .f32) (b : Fin 64) (h : Fin 16) (g : Fin 8) :
    (Host.reduceAdd Z (constant S_ .f32 0x00000000#32) reducesTo_S64x16x8x1x2049_S64x16x8x1_d4 h_S_) (ix4 b h g 0)
      = id (α := EReal) (∑ x : Fin 2049, Z (ix5 b h g 0 x)) := by
  pointwise
  rfl

theorem widen_at (Z : FVec Ideal S64x16x8x1 .f32) (b : Fin 64) (h : Fin 16) (g : Fin 8) :
    (broadcastInDim S64x16x8x1x1 ![0, 1, 2, 3] bcast_S64x16x8x1_S64x16x8x1x1_0_1_2_3 (maximumf (broadcastInDim S64x16x8x1 ![] bcast_S_S64x16x8x1 (constant S_ .f32 0xFF800000#32)) Z) : FVec Ideal S64x16x8x1x1 .f32) (ix5 b h g 0 0)
      = max (Ideal.ofBits FTy.f32 0xFF800000#32) (Z (ix4 b h g 0)) := by
  pointwise

theorem top_at (arg0 : IVec S64 32) (arg1 : FVec Ideal S64x1x128x128 .bf16) (arg2 : FVec Ideal S64x1x16x128 .bf16) (arg5 : IVec S64x2048x16x128 8) (arg6 : FVec Ideal S64x2048x16x4 .f32) (b : Fin 64) (h : Fin 16) (g : Fin 8) :
    top arg0 arg1 arg2 arg5 arg6 (ix5 b h g 0 0)
      = max (Ideal.ofBits FTy.f32 0xFF800000#32) (Finset.fold max (Ideal.ofBits FTy.f32 0xFF800000#32) (fun x => scores arg0 arg1 arg2 arg5 arg6 (ix5 b h g 0 x)) Finset.univ) := by
  unfold top
  generalize scores arg0 arg1 arg2 arg5 arg6 = Z
  rw [widen_at, max_at]

theorem expo_at (arg0 : IVec S64 32) (arg1 : FVec Ideal S64x1x128x128 .bf16) (arg2 : FVec Ideal S64x1x16x128 .bf16) (arg5 : IVec S64x2048x16x128 8) (arg6 : FVec Ideal S64x2048x16x4 .f32) (b : Fin 64) (h : Fin 16) (g : Fin 8) (s : Fin 2049) :
    expo arg0 arg1 arg2 arg5 arg6 (ix5 b h g 0 s)
      = Ideal.exp (scores arg0 arg1 arg2 arg5 arg6 (ix5 b h g 0 s) - top arg0 arg1 arg2 arg5 arg6 (ix5 b h g 0 0)) := by
  unfold expo
  generalize scores arg0 arg1 arg2 arg5 arg6 = Z
  generalize top arg0 arg1 arg2 arg5 arg6 = Y
  pointwise

theorem total_at (arg0 : IVec S64 32) (arg1 : FVec Ideal S64x1x128x128 .bf16) (arg2 : FVec Ideal S64x1x16x128 .bf16) (arg5 : IVec S64x2048x16x128 8) (arg6 : FVec Ideal S64x2048x16x4 .f32) (b : Fin 64) (h : Fin 16) (g : Fin 8) :
    total arg0 arg1 arg2 arg5 arg6 (ix4 b h g 0) = id (α := EReal) (∑ x : Fin 2049, expo arg0 arg1 arg2 arg5 arg6 (ix5 b h g 0 x)) := by
  unfold total
  rw [add_at]
  rfl

set_option maxHeartbeats 1000000 in
theorem result_at (arg0 : IVec S64 32) (arg1 : FVec Ideal S64x1x128x128 .bf16) (arg2 : FVec Ideal S64x1x16x128 .bf16) (arg3 : IVec S64x1x16x128 8) (arg4 : FVec Ideal S64x1x16 .f32) (arg5 : IVec S64x2048x16x128 8) (arg6 : FVec Ideal S64x2048x16x4 .f32) (arg7 : IVec S64x2048x16x128 8) (arg8 : FVec Ideal S64x2048x16 .f32) (b : Fin 64) (r : Fin 128) (d : Fin 128) :
    result arg0 arg1 arg2 arg3 arg4 arg5 arg6 arg7 arg8 (ix3 b r d)
      = id (α := EReal) (∑ x : Fin 2048, code (arg7 (ix4 b x (⟨r.val / 8, by omega⟩ : Fin 16) d))
            * (Ideal.div (expo arg0 arg1 arg2 arg5 arg6 (ix5 b (⟨r.val / 8, by omega⟩ : Fin 16) (⟨r.val % 8, by omega⟩ : Fin 8) 0 (⟨x.val, by omega⟩ : Fin 2049)))
                (total arg0 arg1 arg2 arg5 arg6 (ix4 b (⟨r.val / 8, by omega⟩ : Fin 16) (⟨r.val % 8, by omega⟩ : Fin 8) 0))
              * arg8 (ix3 b x (⟨r.val / 8, by omega⟩ : Fin 16)))
          + code (arg3 (ix4 b 0 (⟨r.val / 8, by omega⟩ : Fin 16) d))
            * (Ideal.div (expo arg0 arg1 arg2 arg5 arg6 (ix5 b (⟨r.val / 8, by omega⟩ : Fin 16) (⟨r.val % 8, by omega⟩ : Fin 8) 0 (⟨2048, by omega⟩ : Fin 2049)))
                (total arg0 arg1 arg2 arg5 arg6 (ix4 b (⟨r.val / 8, by omega⟩ : Fin 16) (⟨r.val % 8, by omega⟩ : Fin 8) 0))
              * arg4 (ix3 b 0 (⟨r.val / 8, by omega⟩ : Fin 16)))) := by
  unfold result
  generalize expo arg0 arg1 arg2 arg5 arg6 = E
  generalize total arg0 arg1 arg2 arg5 arg6 = T
  pointwise
  exact congrArg₂ (fun p q : EReal => p + q) rfl (Finset.sum_singleton _ (0 : Fin 1))

end Cert.ReferenceIdeal.Stage

end
-- ==== Proof.Equation.lean ====
/- The equation: batch `b`'s result in the kernel's output is the reference's result. -/
module

public import proofs.«01_k».proof.Proof.Ideal.Meaning
public import proofs.«01_k».proof.Proof.Ideal.Lanes
public import proofs.«01_k».proof.Proof.Ref

@[expose] public section
set_option maxRecDepth 16384
noncomputable section
namespace Cert.Equation
open Idealize.ShloMosaic Idealize.ShloMosaic.TcCoe Cert.KernelIdeal Cert.KernelIdeal.Gen Cert.Softmax
open Cert.ReferenceIdeal.Stage (code keys keys_at smScale scale_at scoreNew new_at scores cached_at last_at top top_at expo expo_at total result result_at)

theorem code_eq (b : BitVec 8) : code b = codeV b := by
  unfold code codeV
  show (((BitVec.signExtend 32 b).toInt : ℝ) : EReal) = _
  rw [BitVec.toInt_signExtend_of_le (by omega)]

theorem scale_eq : smScale ix0 = ((sig0 : ℝ) : EReal) := by
  have h128 : Ideal.ofBits FTy.f32 0x43000000#32 = ((128 : ℝ) : EReal) := by
    simp [Ideal.ofBits, Ideal.ieee]
    rw [← EReal.coe_mul]
    norm_num
  have h : Real.sqrt 128 ≠ 0 := (Real.sqrt_pos.mpr (by norm_num)).ne'
  rw [scale_at, h128, Ideal.sqrt_coe, if_neg (by norm_num), Ideal.div_coe h, one_mul, one_div]
  rfl

variable (m : (ℓ : Loc nD τ sig) → Buf (Elt Ideal) ℓ) (c : Dev nD)

abbrev a0 : IVec Cert.ReferenceIdeal.S64 32 := m ((c : Thread nD τ).loc main_arg0)
abbrev a1 : FVec Ideal Cert.ReferenceIdeal.S64x1x128x128 .bf16 := m ((c : Thread nD τ).loc main_arg1)
abbrev a2 : FVec Ideal Cert.ReferenceIdeal.S64x1x16x128 .bf16 := m ((c : Thread nD τ).loc main_arg2)
abbrev a3 : IVec Cert.ReferenceIdeal.S64x1x16x128 8 := m ((c : Thread nD τ).loc main_arg3)
abbrev a4 : FVec Ideal Cert.ReferenceIdeal.S64x1x16 .f32 := m ((c : Thread nD τ).loc main_arg4)
abbrev a5 : IVec Cert.ReferenceIdeal.S64x2048x16x128 8 := m ((c : Thread nD τ).loc main_arg5)
abbrev a6 : FVec Ideal Cert.ReferenceIdeal.S64x2048x16x4 .f32 := m ((c : Thread nD τ).loc main_arg6)
abbrev a7 : IVec Cert.ReferenceIdeal.S64x2048x16x128 8 := m ((c : Thread nD τ).loc main_arg7)
abbrev a8 : FVec Ideal Cert.ReferenceIdeal.S64x2048x16 .f32 := m ((c : Thread nD τ).loc main_arg8)

variable (b : Fin 64) (r d : Fin 128)

/-- The head of a row. -/
abbrev hd : Fin 16 := ⟨r.val / 8, by omega⟩
/-- A row's place in its head's group. -/
abbrev gr : Fin 8 := ⟨r.val % 8, by omega⟩

theorem row_eq : (⟨(hd r).val * 8 + (gr r).val, by omega⟩ : Fin 128) = r := Fin.ext (by show r.val / 8 * 8 + r.val % 8 = r.val; omega)

/-- A batch's blocks. -/
abbrev b1 : Vec Ideal S1x128x128 .bf16 := iblk m c 1 (pt b)
abbrev b2 : Vec Ideal S1x16x128 .bf16 := iblk m c 2 (pt b)
abbrev b3 : Vec Ideal S1x16x128 .i8 := iblk m c 3 (pt b)
abbrev b4 : Vec Ideal S1x16x1 .f32 := iblk m c 4 (pt b)
abbrev b5 : Vec Ideal S1x1024x128 .f32 := iblk m c 5 (pt b)
abbrev b6 : Vec Ideal S1x16x2048 .f32 := iblk m c 6 (pt b)
abbrev kr : IVec S32768x128 8 := View.read (Elt Ideal) (srcB0_0 (Ring.bk 64 b.val)).view (V m c main_v9)
abbrev vr : IVec S32768x128 8 := View.read (Elt Ideal) (srcB0_1 (Ring.bk 64 b.val)).view (V m c main_v10)

theorem b1_at (r d : Fin 128) : b1 m c b (ix3 (0 : Fin 1) r d) = a1 m c (ix4 b (0 : Fin 1) r d) := (blk1_at m c (pt b) b rfl r d).trans (entry_v5 m c b r d)
theorem b2_at (h : Fin 16) (d : Fin 128) : b2 m c b (ix3 (0 : Fin 1) h d) = a2 m c (ix4 b (0 : Fin 1) h d) := (blk2_at m c (pt b) b rfl h d).trans (entry_v6 m c b h d)
theorem b3_at (h : Fin 16) (d : Fin 128) : b3 m c b (ix3 (0 : Fin 1) h d) = a3 m c (ix4 b (0 : Fin 1) h d) := (blk3_at m c (pt b) b rfl h d).trans (entry_v7 m c b h d)
theorem b4_at (h : Fin 16) : b4 m c b (ix3 (0 : Fin 1) h (0 : Fin 1)) = a4 m c (ix3 b (0 : Fin 1) h) := (blk4_at m c (pt b) b rfl h 0).trans (entry_v8 m c b h)
theorem b6_at (h : Fin 16) (s : Fin 2048) : b6 m c b (ix3 (0 : Fin 1) h s) = a8 m c (ix3 b s h) := (blk6_at m c (pt b) b rfl h s).trans (entry_v4 m c b h s)

/-- A code of the rows of a cache, at a slot and a head. -/
theorem kr_at (j : Fin 32768) (s : Fin 2048) (h : Fin 16) (d : Fin 128) (hj : j.val = 16 * s.val + h.val) : kr m c b (ix2 j d) = a5 m c (ix4 b s h d) := by
  refine ((hb0_at m c b j d).trans (entry_v9 m c b j d)).trans (congrArg₂ (fun s h => a5 m c (ix4 b s h d)) (Fin.ext ?_) (Fin.ext ?_))
  · show j.val / 16 = s.val
    omega
  · show j.val % 16 = h.val
    omega

theorem vr_at (j : Fin 32768) (s : Fin 2048) (h : Fin 16) (d : Fin 128) (hj : j.val = 16 * s.val + h.val) : vr m c b (ix2 j d) = a7 m c (ix4 b s h d) := by
  refine ((hb1_at m c b j d).trans (entry_v10 m c b j d)).trans (congrArg₂ (fun s h => a7 m c (ix4 b s h d)) (Fin.ext ?_) (Fin.ext ?_))
  · show j.val / 16 = s.val
    omega
  · show j.val % 16 = h.val
    omega

/-- A key scale, at a slot, a head and a group of columns. -/
theorem b5_at (j : Fin 1024) (t : Fin 128) (s : Fin 2048) (h : Fin 16) (q : Fin 4) (hj : j.val = 64 * h.val + 4 * (s.val / 128) + q.val) (ht : t.val = s.val % 128) :
    b5 m c b (ix3 (0 : Fin 1) j t) = a6 m c (ix4 b s h q) := by
  refine ((blk5_at m c (pt b) b rfl j t).trans (entry_v3 m c b j t)).trans (congrArg (a6 m c) ?_)
  have e1 : (⟨j.val / 4 % 16 * 128 + t.val, by omega⟩ : Fin 2048) = s := Fin.ext (by show j.val / 4 % 16 * 128 + t.val = s.val; omega)
  have e2 : (⟨j.val / 64, by omega⟩ : Fin 16) = h := Fin.ext (by show j.val / 64 = h.val; omega)
  have e3 : (⟨j.val % 4, by omega⟩ : Fin 4) = q := Fin.ext (by show j.val % 4 = q.val; omega)
  rw [e1, e2, e3]

/-- A lane's key is the slot's dequantised key. -/
theorem key_lane (s : Fin 2048) (x : Fin 128) : keyV (b5 m c b) (kr m c b) r (laneOf r s) x = keys (a5 m c) (a6 m c) (ix4 b s (hd r) x) := by
  rw [keys_at, code_eq]
  unfold keyV
  have f1 : (laneOf r s).val / 4 = s.val := by show (4 * s.val + r.val / 8 % 4) / 4 = s.val; omega
  have f2 : (laneOf r s).val % 4 = r.val / 8 % 4 := by show (4 * s.val + r.val / 8 % 4) % 4 = _; omega
  have f3 : r.val / 32 = r.val / 8 / 4 := by omega
  rw [kr_at m c b _ s (hd r) x (by show 16 * ((laneOf r s).val / 4) + 4 * (r.val / 32) + (laneOf r s).val % 4 = 16 * s.val + r.val / 8; rw [f1, f2]; omega),
    b5_at m c b _ _ s (hd r) (⟨x.val / 32, by omega⟩ : Fin 4)
      (by show 64 * (4 * (r.val / 32) + (laneOf r s).val % 4) + 4 * ((laneOf r s).val / 4 / 128) + x.val / 32 = 64 * (r.val / 8) + 4 * (s.val / 128) + x.val / 32; rw [f1, f2, f3]; omega)
      (by show (laneOf r s).val / 4 % 128 = s.val % 128; rw [f1])]

/-- The position of a batch. -/
theorem pos_eq : posW (iblk m c 0 (pt b)) b.val = a0 m c (ix1 b) := by
  unfold posW
  rw [dif_pos b.isLt]
  exact blk0_at m c (pt b) b

/-- The raw scores, as the kernel's row sums. -/
theorem raw_sum (s : Fin 2048) :
    ∑ x : Fin 128, b1 m c b (ix3 (0 : Fin 1) r x) * keyV (b5 m c b) (kr m c b) r (laneOf r s) x
      = Cert.ReferenceIdeal.Stage.scoreRaw (a1 m c) (a5 m c) (a6 m c) (ix5 b (hd r) (gr r) 0 s) := by
  rw [Cert.ReferenceIdeal.Stage.raw_at, row_eq]
  refine Finset.sum_congr rfl fun x _ => ?_
  rw [key_lane, b1_at, mul_comm]

theorem new_sum : newV (b1 m c b) (b2 m c b) r * smScale ix0 = scoreNew (a1 m c) (a2 m c) (ix5 b (hd r) (gr r) 0 0) := by
  rw [new_at, row_eq]
  unfold newV
  refine congrArg (· * smScale ix0) (Finset.sum_congr rfl fun x _ => ?_)
  rw [b2_at, b1_at, mul_comm]

set_option maxHeartbeats 1000000 in
theorem batch_eq (h1 : ∀ i, ∃ x : ℝ, a1 m c i = (x : EReal)) (h2 : ∀ i, ∃ x : ℝ, a2 m c i = (x : EReal)) (h6 : ∀ i, ∃ x : ℝ, a6 m c i = (x : EReal)) :
    batch m c b r d = result (a0 m c) (a1 m c) (a2 m c) (a3 m c) (a4 m c) (a5 m c) (a6 m c) (a7 m c) (a8 m c) (ix3 b r d) := by
  have hT : ∀ s : Fin 2048, ∃ t : ℝ, Cert.ReferenceIdeal.Stage.scoreRaw (a1 m c) (a5 m c) (a6 m c) (ix5 b (hd r) (gr r) 0 s) = (t : EReal) := fun s => by
    rw [Cert.ReferenceIdeal.Stage.raw_at]
    refine real_sum _ _ (fun x => ?_) (fun x => h1 _)
    rw [keys_at, code_eq]
    obtain ⟨y, hy⟩ := h6 (ix4 b s (hd r) (⟨x.val / 32, by omega⟩ : Fin 4))
    exact ⟨_, (congrArg (codeV _ * ·) hy).trans (EReal.coe_mul _ _).symm⟩
  choose T hT using hT
  obtain ⟨N, hN⟩ : ∃ t : ℝ, newV (b1 m c b) (b2 m c b) r = (t : EReal) := by
    unfold newV
    refine real_sum _ _ (fun x => ?_) (fun x => ?_)
    · rw [b1_at]; exact h1 _
    · rw [b2_at]; exact h2 _
  have hraw : ∀ s : Fin 2048, _ = ((T s : ℝ) : EReal) := fun s => (raw_sum m c b r s).trans (hT s)
  have hS : ∀ s : Fin 2048, scores (a0 m c) (a1 m c) (a2 m c) (a5 m c) (a6 m c) (ix5 b (hd r) (gr r) 0 s.castSucc)
      = if okSlot (a0 m c (ix1 b)) s.val = 1#1 then ((T s * sig0 : ℝ) : EReal) else ⊥ := fun s => by
    refine (cached_at _ _ _ _ _ b (hd r) (gr r) s).trans ?_
    rw [hT, scale_eq, negInf, ← EReal.coe_mul]
    rfl
  have hL : scores (a0 m c) (a1 m c) (a2 m c) (a5 m c) (a6 m c) (ix5 b (hd r) (gr r) 0 (Fin.last 2048)) = ((N * sig0 : ℝ) : EReal) := by
    refine (last_at _ _ _ _ _ b (hd r) (gr r)).trans ?_
    rw [← new_sum, hN, scale_eq, ← EReal.coe_mul]
  have hTp := top_at (a0 m c) (a1 m c) (a2 m c) (a5 m c) (a6 m c) b (hd r) (gr r)
  rw [negInf] at hTp
  show outV (posW (iblk m c 0 (pt b)) b.val) (b1 m c b) (b2 m c b) (b3 m c b) (b4 m c b) (b5 m c b) (b6 m c b) (kr m c b) (vr m c b) r d = _
  rw [pos_eq, outV_eq _ _ _ _ _ _ _ _ _ r d T N hraw hN]
  have key := attend (n := 2048) (fun s => okSlot (a0 m c (ix1 b)) s.val = 1#1) T N sig0 sig0_pos
    (fun s => a8 m c (ix3 b s (hd r))) (fun s => codeV (a7 m c (ix4 b s (hd r) d))) (a4 m c (ix3 b 0 (hd r))) (codeV (a3 m c (ix4 b 0 (hd r) d)))
    (fun x => scores (a0 m c) (a1 m c) (a2 m c) (a5 m c) (a6 m c) (ix5 b (hd r) (gr r) 0 x)) hS hL _ _ kap
    (top_lanes (a0 m c (ix1 b)) _ _ _ _ r T N hraw hN) hTp kap_coe
  have hv : ∀ s : Fin 2048, vr m c b (ix2 (⟨16 * s.val + r.val / 8, by omega⟩ : Fin 32768) d) = a7 m c (ix4 b s (hd r) d) := fun s => vr_at m c b _ s (hd r) d rfl
  have hw : ∀ s : Fin 2048, b6 m c b (ix3 (0 : Fin 1) (⟨r.val / 8, by omega⟩ : Fin 16) s) = a8 m c (ix3 b s (hd r)) := fun s => b6_at m c b (hd r) s
  have hwn : b4 m c b (ix3 (0 : Fin 1) (⟨r.val / 8, by omega⟩ : Fin 16) (0 : Fin 1)) = a4 m c (ix3 b (0 : Fin 1) (hd r)) := b4_at m c b (hd r)
  have hvn : b3 m c b (ix3 (0 : Fin 1) (⟨r.val / 8, by omega⟩ : Fin 16) d) = a3 m c (ix4 b (0 : Fin 1) (hd r) d) := b3_at m c b (hd r) d
  rw [result_at, hwn, hvn]
  simp only [hv, hw, code_eq, expo_at, Cert.ReferenceIdeal.Stage.total_at, id]
  exact key

end Cert.Equation

end
-- ==== Proof.Finite.lean ====
/- The precondition read back: the queries, the new key and the keys' scales are real numbers. -/
module

public import proofs.«01_k».proof.Pre_finite
public import Idealize.ShloMosaic.PureOps.Ideal
public import Idealize.ShloMosaic.PureOps.Ideal.Laws
public import Idealize.ShloMosaic.Lib.ReduceAll
public import Idealize.ShloMosaic.Lib.Pointwise

@[expose] public section
noncomputable section
namespace Cert.Finite
open Idealize.ShloMosaic Cert.Pre_finite

/-- The predicate's shape facts. -/
theorem facts : Cert.Pre_finite.Facts where
  bcast_S_S64x1x128x128 := by decide
  reducesTo_S64x1x128x128_S_d0_1_2_3 := by decide
  h_S_ := by decide
  bcast_S_S64x1x16x128 := by decide
  reducesTo_S64x1x16x128_S_d0_1_2_3 := by decide
  bcast_S_S64x2048x16x4 := by decide
  reducesTo_S64x2048x16x4_S_d0_1_2_3 := by decide

instance : Subsingleton S_.Idx := ⟨fun a b => funext fun k => k.elim0⟩

theorem inf16 : Ideal.ofBits FTy.bf16 0x7F80#16 = ⊤ := by simp [Ideal.ofBits, Ideal.ieee]
theorem inf32 : Ideal.ofBits FTy.f32 0x7F800000#32 = ⊤ := by simp [Ideal.ofBits, Ideal.ieee]

/-- A number whose absolute value is below the infinity is real. -/
theorem real_of_abs (x : EReal) (h : Ideal.cmp .olt (max x (-x)) ⊤ = 1#1) : ∃ r : ℝ, x = (r : EReal) := by
  induction x with
  | bot => exact absurd h (by simp [Ideal.cmp])
  | coe r => exact ⟨r, rfl⟩
  | top => exact absurd h (by simp [Ideal.cmp])

variable [Cert.Pre_finite.Facts]

theorem reals (a0 : IVec S64 32) (a1 : FVec Ideal S64x1x128x128 .bf16) (a2 : FVec Ideal S64x1x16x128 .bf16) (a3 : IVec S64x1x16x128 8) (a4 : FVec Ideal S64x1x16 .f32) (a5 : IVec S64x2048x16x128 8) (a6 : FVec Ideal S64x2048x16x4 .f32) (a7 : IVec S64x2048x16x128 8) (a8 : FVec Ideal S64x2048x16 .f32)
    (h : fn (F := Ideal) a0 a1 a2 a3 a4 a5 a6 a7 a8 = fun _ => 1#1) :
    (∀ i, ∃ r : ℝ, a1 i = ((r : ℝ) : EReal)) ∧ (∀ i, ∃ r : ℝ, a2 i = ((r : ℝ) : EReal)) ∧ (∀ i, ∃ r : ℝ, a6 i = ((r : ℝ) : EReal)) := by
  have h0 := congrFun h ix0
  unfold fn at h0
  obtain ⟨h12, h6⟩ := IntOp.andi_eq_one.mp h0
  obtain ⟨h1, h2⟩ := IntOp.andi_eq_one.mp h12
  refine ⟨fun i => ?_, fun i => ?_, fun i => ?_⟩
  · have e := Host.reduce_andi_all _ _ _ _ _ h1 i
    refine real_of_abs (a1 i) ?_
    rw [← inf16]
    exact e
  · have e := Host.reduce_andi_all _ _ _ _ _ h2 i
    refine real_of_abs (a2 i) ?_
    rw [← inf16]
    exact e
  · have e := Host.reduce_andi_all _ _ _ _ _ h6 i
    refine real_of_abs (a6 i) ?_
    rw [← inf32]
    exact e

end Cert.Finite

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Frame
public import proofs.«01_k».proof.Proof.Ideal.Frame
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

local instance : Cert.Pre_finite.Facts := Cert.Finite.facts

/-- The reference runs, leaves its arguments alone and has no semaphores. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

section Kernel
open Cert.KernelIdeal Cert.KernelIdeal.Gen

/-- The kernel's run: the result, and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1 c, h.2 c⟩)
    (θ_run_and ((θ_run defs _ _).mono (Q' := fun r => ∀ c : Dev nD, r.2.mem ((c.tc : Thread nD τ).loc main_v11) = outArr m c)
      (fun r h c => ((h c).1 7).trans (arr_out m c)) (run_main m ρ)) (unchanged m ρ))

end Kernel

/-- Kernel and reference agree. -/
theorem agree : Cert.algebraic_KernelIdeal_ReferenceIdeal_pre_finite := by
  intro m g m' g' hp hm
  refine ⟨Cert.KernelIdeal.Gen.outArr m, kernel_run m g,
    (θ_run Cert.ReferenceIdeal.defs _ _).mono (fun r h c => ⟨(h c).1.trans ?_, (h c).2⟩) (Cert.ReferenceIdeal.Value.run (F := Ideal) m' g')⟩
  obtain ⟨h1, h2, h6⟩ := Cert.Finite.reals _ _ _ _ _ _ _ _ _ (hp c)
  refine (Cert.ReferenceIdeal.Stage.res_eq m' c).trans ?_
  obtain ⟨e0, e1, e2, e3, e4, e5, e6, e7, e8⟩ := hm c
  rw [e0, e1, e2, e3, e4, e5, e6, e7, e8]
  refine funext fun i => ?_
  have hi : i = ix3 (i 0) (i 1) (i 2) := by
    funext k
    fin_cases k <;> rfl
  exact (congrArg _ hi).trans (Cert.Equation.batch_eq m c (i 0) (i 1) (i 2) h1 h2 h6).symm

theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "score_scale" .f32 0x3E0293EE#32 (((Real.sqrt 128)⁻¹ * (Real.log 2)⁻¹ : ℝ) : EReal) rfl,
    agree⟩

end Cert.Proof

end
